-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S256x512 : Shape := ⟨2, ![256, 512]⟩
abbrev S4x512x128 : Shape := ⟨3, ![4, 512, 128]⟩
abbrev S4x512 : Shape := ⟨2, ![4, 512]⟩
abbrev S4x100000 : Shape := ⟨2, ![4, 100000]⟩
abbrev S_ : Shape := ⟨0, ![]⟩

class Facts : Prop where
  bcast_S_S4x100000 : S_.BroadcastsInDim S4x100000 (![] : Fin 0 → Fin S4x100000.rank)
  reducesTo_S4x100000_S_d0_1 : S4x100000.ReducesTo [0, 1] S_
  h_S_ : 0 < S_.numel

variable [Facts]

def fn {F : FTy → Type} [FloatOps F] (main_arg0 : FVec F S256x512 .f32) (main_arg1 : FVec F S4x512x128 .f32) (main_arg2 : FVec F S4x512 .f32) (main_arg3 : IVec S4x100000 32) : IVec S_ 1 :=
  let main_c : IVec S_ 32 := constantI S_ 32 0#32
  let main_v0 : IVec S4x100000 32 := broadcastInDim S4x100000 ![] bcast_S_S4x100000 main_c
  let main_v1 : IVec S4x100000 1 := cmpi .sge main_arg3 main_v0
  let main_c_0 : IVec S_ 32 := constantI S_ 32 512#32
  let main_v2 : IVec S4x100000 32 := broadcastInDim S4x100000 ![] bcast_S_S4x100000 main_c_0
  let main_v3 : IVec S4x100000 1 := cmpi .slt main_arg3 main_v2
  let main_v4 : IVec S4x100000 1 := andi main_v1 main_v3
  let main_c_1 : IVec S_ 1 := constantI S_ 1 1#1
  let main_v5 : IVec S_ 1 := (fun x v => Host.reduce IntOp.andi x v reducesTo_S4x100000_S_d0_1 h_S_) main_v4 main_c_1
  main_v5
-- ==== Kernel.lean ====
abbrev S256x512 : Shape := ⟨2, ![256, 512]⟩
abbrev S4x512x128 : Shape := ⟨3, ![4, 512, 128]⟩
abbrev S4x512 : Shape := ⟨2, ![4, 512]⟩
abbrev S4x100000 : Shape := ⟨2, ![4, 100000]⟩
abbrev S256x2048 : Shape := ⟨2, ![256, 2048]⟩
abbrev S256x128 : Shape := ⟨2, ![256, 128]⟩
abbrev S1x512x128 : Shape := ⟨3, ![1, 512, 128]⟩
abbrev S512x128 : Shape := ⟨2, ![512, 128]⟩
abbrev S1x512 : Shape := ⟨2, ![1, 512]⟩
abbrev S512 : Shape := ⟨1, ![512]⟩
abbrev S_ : Shape := ⟨0, ![]⟩
abbrev S4x96 : Shape := ⟨2, ![4, 96]⟩
abbrev S4x100096 : Shape := ⟨2, ![4, 100096]⟩
abbrev S256x100000 : Shape := ⟨2, ![256, 100000]⟩
abbrev S256x1792 : Shape := ⟨2, ![256, 1792]⟩
abbrev S16x2048 : Shape := ⟨2, ![16, 2048]⟩
abbrev S4x2048 : Shape := ⟨2, ![4, 2048]⟩
abbrev S16 : Shape := ⟨1, ![16]⟩
abbrev S1x16 : Shape := ⟨2, ![1, 16]⟩
abbrev S4x1792 : Shape := ⟨2, ![4, 1792]⟩
abbrev S16x1792 : Shape := ⟨2, ![16, 1792]⟩
abbrev S256x1696 : Shape := ⟨2, ![256, 1696]⟩

abbrev nBuf : Table → Nat
  | .hbm => 14
  | .local .tc .vmem => 4
  | .local .scVector .vmem => 3
  | _ => 0

abbrev bufTy : (tb : Table) → Fin (nBuf tb) → BufTy
  | .hbm, ⟨0, _⟩ => ⟨S256x512, .f32⟩
  | .hbm, ⟨1, _⟩ => ⟨S4x512x128, .f32⟩
  | .hbm, ⟨2, _⟩ => ⟨S4x512, .f32⟩
  | .hbm, ⟨3, _⟩ => ⟨S4x100000, .i32⟩
  | .hbm, ⟨4, _⟩ => ⟨S256x2048, .f32⟩
  | .hbm, ⟨5, _⟩ => ⟨S_, .i32⟩
  | .hbm, ⟨6, _⟩ => ⟨S4x96, .i32⟩
  | .hbm, ⟨7, _⟩ => ⟨S4x100096, .i32⟩
  | .hbm, ⟨8, _⟩ => ⟨S256x100000, .f32⟩
  | .hbm, ⟨9, _⟩ => ⟨S256x1792, .f32⟩
  | .hbm, ⟨10, _⟩ => ⟨S256x1696, .f32⟩
  | .hbm, ⟨11, _⟩ => ⟨S_, .i32⟩
  | .hbm, ⟨12, _⟩ => ⟨S_, .i32⟩
  | .hbm, ⟨13, _⟩ => ⟨S256x100000, .f32⟩
  | .local .tc .vmem, ⟨0, _⟩ => ⟨S256x512, .f32⟩
  | .local .tc .vmem, ⟨1, _⟩ => ⟨S4x512x128, .f32⟩
  | .local .tc .vmem, ⟨2, _⟩ => ⟨S4x512, .f32⟩
  | .local .tc .vmem, ⟨3, _⟩ => ⟨S256x2048, .f32⟩
  | .local .scVector .vmem, ⟨0, _⟩ => ⟨S16x2048, .f32⟩
  | .local .scVector .vmem, ⟨1, _⟩ => ⟨S4x2048, .i32⟩
  | .local .scVector .vmem, ⟨2, _⟩ => ⟨S16x2048, .f32⟩
  | _, _ => ⟨S256x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_c_0 : Ref sig .tc := ⟨.hbm, 11, rfl⟩
abbrev main_c_1 : Ref sig .tc := ⟨.hbm, 12, rfl⟩
abbrev main_v5 : Ref sig .tc := ⟨.hbm, 13, rfl⟩
abbrev main_v0_scv : Ref sig .scVector := ⟨.hbm, 4, rfl⟩
abbrev main_v2_scv : Ref sig .scVector := ⟨.hbm, 7, rfl⟩
abbrev main_v3_0_scv : Ref sig .scVector := ⟨.hbm, 8, rfl⟩
abbrev main_v3_1_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c16_i32 : BitVec 32 := 16#32
  let v0 : BitVec 32 := Scalar.muli arg1 c16_i32
  let c0_i32_7_r0 : BitVec 32 := 0#32
  ![v0.toNat, 0]
@[reducible] def k1_t1_loop (i : grid1.Coords) : Scf.Loop 32 :=
  let c0_i32 : BitVec 32 := 0#32
  let c48_i32 : BitVec 32 := 48#32
  let arg0 : BitVec 32 := BitVec.ofNat 32 (i 0).val
  let v1 : BitVec 32 := Scalar.subi c48_i32 arg0
  let c2_i32 : BitVec 32 := 2#32
  let c1_i32 : BitVec 32 := 1#32
  let v2 : BitVec 32 := Scalar.subi c2_i32 c1_i32
  let v3 : BitVec 32 := Scalar.addi v1 v2
  let c2_i32_0 : BitVec 32 := 2#32
  let v4 : BitVec 32 := Scalar.divsi v3 c2_i32_0
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_3 : BitVec 32 := 1#32
  ⟨c0_i32, v9, c1_i32_3⟩
def k1_mult1 (i : grid1.Coords) (k1_t1 : Fin (k1_t1_loop i).trips) : BitVec 32 :=
  let arg0 : BitVec 32 := BitVec.ofNat 32 (i 0).val
  let c0_i32 : BitVec 32 := 0#32
  let c1_i32_3 : BitVec 32 := 1#32
  let arg9 : BitVec 32 := Scf.iv c0_i32 c1_i32_3 k1_t1
  let c2_i32_1 : BitVec 32 := 2#32
  let v13 : BitVec 32 := Scalar.muli arg9 c2_i32_1
  let v14 : BitVec 32 := Scalar.addi arg0 v13
  let c2048_i32 : BitVec 32 := 2048#32
  let v15 : BitVec 32 := Scalar.muli v14 c2048_i32
  v15
def k1_off2 (i : grid1.Coords) (k1_t1 : Fin (k1_t1_loop i).trips) : Fin 2 → Nat :=
  let c0_i32_10_r1 : BitVec 32 := 0#32
  let arg0 : BitVec 32 := BitVec.ofNat 32 (i 0).val
  let c0_i32 : BitVec 32 := 0#32
  let c1_i32_3 : BitVec 32 := 1#32
  let arg9 : BitVec 32 := Scf.iv c0_i32 c1_i32_3 k1_t1
  let c2_i32_1 : BitVec 32 := 2#32
  let v13 : BitVec 32 := Scalar.muli arg9 c2_i32_1
  let v14 : BitVec 32 := Scalar.addi arg0 v13
  let c2048_i32 : BitVec 32 := 2048#32
  let v15 : BitVec 32 := Scalar.muli v14 c2048_i32
  let v16 : BitVec 32 := v15
  ![0, v16.toNat]
@[reducible] def k1_t2_loop : Scf.Loop 32 :=
  let c0_i32_7 : BitVec 32 := 0#32
  let c128_i32 : BitVec 32 := 128#32
  let v17 : BitVec 32 := Scalar.addi c0_i32_7 c128_i32
  let c1_i32_8 : BitVec 32 := 1#32
  ⟨c0_i32_7, v17, c1_i32_8⟩
def k1_off3 (k1_t2 : Fin k1_t2_loop.trips) : Fin 2 → Nat :=
  let c0_i32_13 : BitVec 32 := 0#32
  let v21 : Index := Scalar.indexCast c0_i32_13
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_12 : BitVec 32 := 16#32
  let v20 : BitVec 32 := Scalar.muli v19 c16_i32_12
  let v22 : Index := Scalar.indexCast v20
  ![0, v22.toNat]
def k1_off4 (k1_t2 : Fin k1_t2_loop.trips) : Fin 2 → Nat :=
  let c1_i32_16 : BitVec 32 := 1#32
  let v27 : Index := Scalar.indexCast c1_i32_16
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_15 : BitVec 32 := 16#32
  let v26 : BitVec 32 := Scalar.muli v19 c16_i32_15
  let v28 : Index := Scalar.indexCast v26
  ![1, v28.toNat]
def k1_off5 (k1_t2 : Fin k1_t2_loop.trips) : Fin 2 → Nat :=
  let c2_i32_18 : BitVec 32 := 2#32
  let v33 : Index := Scalar.indexCast c2_i32_18
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_17 : BitVec 32 := 16#32
  let v32 : BitVec 32 := Scalar.muli v19 c16_i32_17
  let v34 : Index := Scalar.indexCast v32
  ![2, v34.toNat]
def k1_off6 (k1_t2 : Fin k1_t2_loop.trips) : Fin 2 → Nat :=
  let c3_i32 : BitVec 32 := 3#32
  let v39 : Index := Scalar.indexCast c3_i32
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_19 : BitVec 32 := 16#32
  let v38 : BitVec 32 := Scalar.muli v19 c16_i32_19
  let v40 : Index := Scalar.indexCast v38
  ![3, v40.toNat]

def k1_chk1 (v25 : IVec S16 32) (v31 : IVec S16 32) (v37 : IVec S16 32) (v43 : IVec S16 32) (v44 : IVec S16 32) : Prop :=
  (∀ a x, ((![v44, v25] : Fin 2 → IVec S16 32) a x).toNat < S16x2048.size a) ∧
  (∀ a x, ((![v44, v31] : Fin 2 → IVec S16 32) a x).toNat < S16x2048.size a) ∧
  (∀ a x, ((![v44, v37] : Fin 2 → IVec S16 32) a x).toNat < S16x2048.size a) ∧
  (∀ a x, ((![v44, v43] : Fin 2 → IVec S16 32) a x).toNat < S16x2048.size a)
theorem k1_idx1_inb : ∀ (v25 : IVec S16 32) (v31 : IVec S16 32) (v37 : IVec S16 32) (v43 : IVec S16 32) (v44 : IVec S16 32) (k1_hw1 : k1_chk1 v25 v31 v37 v43 v44), ∀ a x, ((![v44, v25] : Fin 2 → IVec S16 32) a x).toNat < S16x2048.size a := fun v25 v31 v37 v43 v44 k1_hw1 => k1_hw1.1
theorem k1_idx2_inb : ∀ (v25 : IVec S16 32) (v31 : IVec S16 32) (v37 : IVec S16 32) (v43 : IVec S16 32) (v44 : IVec S16 32) (k1_hw1 : k1_chk1 v25 v31 v37 v43 v44), ∀ a x, ((![v44, v31] : Fin 2 → IVec S16 32) a x).toNat < S16x2048.size a := fun v25 v31 v37 v43 v44 k1_hw1 => k1_hw1.2.1
theorem k1_idx3_inb : ∀ (v25 : IVec S16 32) (v31 : IVec S16 32) (v37 : IVec S16 32) (v43 : IVec S16 32) (v44 : IVec S16 32) (k1_hw1 : k1_chk1 v25 v31 v37 v43 v44), ∀ a x, ((![v44, v37] : Fin 2 → IVec S16 32) a x).toNat < S16x2048.size a := fun v25 v31 v37 v43 v44 k1_hw1 => k1_hw1.2.2.1
theorem k1_idx4_inb : ∀ (v25 : IVec S16 32) (v31 : IVec S16 32) (v37 : IVec S16 32) (v43 : IVec S16 32) (v44 : IVec S16 32) (k1_hw1 : k1_chk1 v25 v31 v37 v43 v44), ∀ a x, ((![v44, v43] : Fin 2 → IVec S16 32) a x).toNat < S16x2048.size a := fun v25 v31 v37 v43 v44 k1_hw1 => k1_hw1.2.2.2
def k1_off7 (k1_t2 : Fin k1_t2_loop.trips) : Fin 2 → Nat :=
  let c0_i32_22 : BitVec 32 := 0#32
  let v53 : Index := Scalar.indexCast c0_i32_22
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_21 : BitVec 32 := 16#32
  let v52 : BitVec 32 := Scalar.muli v19 c16_i32_21
  let v54 : Index := Scalar.indexCast v52
  ![0, v54.toNat]

def k1_chk2 (v25 : IVec S16 32) (v31 : IVec S16 32) (v37 : IVec S16 32) (v43 : IVec S16 32) (v56 : IVec S16 32) : Prop :=
  (∀ a x, ((![v56, v25] : Fin 2 → IVec S16 32) a x).toNat < S16x2048.size a) ∧
  (∀ a x, ((![v56, v31] : Fin 2 → IVec S16 32) a x).toNat < S16x2048.size a) ∧
  (∀ a x, ((![v56, v37] : Fin 2 → IVec S16 32) a x).toNat < S16x2048.size a) ∧
  (∀ a x, ((![v56, v43] : Fin 2 → IVec S16 32) a x).toNat < S16x2048.size a)
theorem k1_idx5_inb : ∀ (v25 : IVec S16 32) (v31 : IVec S16 32) (v37 : IVec S16 32) (v43 : IVec S16 32) (v56 : IVec S16 32) (k1_hw2 : k1_chk2 v25 v31 v37 v43 v56), ∀ a x, ((![v56, v25] : Fin 2 → IVec S16 32) a x).toNat < S16x2048.size a := fun v25 v31 v37 v43 v56 k1_hw2 => k1_hw2.1
theorem k1_idx6_inb : ∀ (v25 : IVec S16 32) (v31 : IVec S16 32) (v37 : IVec S16 32) (v43 : IVec S16 32) (v56 : IVec S16 32) (k1_hw2 : k1_chk2 v25 v31 v37 v43 v56), ∀ a x, ((![v56, v31] : Fin 2 → IVec S16 32) a x).toNat < S16x2048.size a := fun v25 v31 v37 v43 v56 k1_hw2 => k1_hw2.2.1
theorem k1_idx7_inb : ∀ (v25 : IVec S16 32) (v31 : IVec S16 32) (v37 : IVec S16 32) (v43 : IVec S16 32) (v56 : IVec S16 32) (k1_hw2 : k1_chk2 v25 v31 v37 v43 v56), ∀ a x, ((![v56, v37] : Fin 2 → IVec S16 32) a x).toNat < S16x2048.size a := fun v25 v31 v37 v43 v56 k1_hw2 => k1_hw2.2.2.1
theorem k1_idx8_inb : ∀ (v25 : IVec S16 32) (v31 : IVec S16 32) (v37 : IVec S16 32) (v43 : IVec S16 32) (v56 : IVec S16 32) (k1_hw2 : k1_chk2 v25 v31 v37 v43 v56), ∀ a x, ((![v56, v43] : Fin 2 → IVec S16 32) a x).toNat < S16x2048.size a := fun v25 v31 v37 v43 v56 k1_hw2 => k1_hw2.2.2.2
def k1_off8 (k1_t2 : Fin k1_t2_loop.trips) : Fin 2 → Nat :=
  let c1_i32_25 : BitVec 32 := 1#32
  let v65 : Index := Scalar.indexCast c1_i32_25
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_24 : BitVec 32 := 16#32
  let v64 : BitVec 32 := Scalar.muli v19 c16_i32_24
  let v66 : Index := Scalar.indexCast v64
  ![1, v66.toNat]

def k1_chk3 (v25 : IVec S16 32) (v31 : IVec S16 32) (v37 : IVec S16 32) (v43 : IVec S16 32) (v68 : IVec S16 32) : Prop :=
  (∀ a x, ((![v68, v25] : Fin 2 → IVec S16 32) a x).toNat < S16x2048.size a) ∧
  (∀ a x, ((![v68, v31] : Fin 2 → IVec S16 32) a x).toNat < S16x2048.size a) ∧
  (∀ a x, ((![v68, v37] : Fin 2 → IVec S16 32) a x).toNat < S16x2048.size a) ∧
  (∀ a x, ((![v68, v43] : Fin 2 → IVec S16 32) a x).toNat < S16x2048.size a)
theorem k1_idx9_inb : ∀ (v25 : IVec S16 32) (v31 : IVec S16 32) (v37 : IVec S16 32) (v43 : IVec S16 32) (v68 : IVec S16 32) (k1_hw3 : k1_chk3 v25 v31 v37 v43 v68), ∀ a x, ((![v68, v25] : Fin 2 → IVec S16 32) a x).toNat < S16x2048.size a := fun v25 v31 v37 v43 v68 k1_hw3 => k1_hw3.1
theorem k1_idx10_inb : ∀ (v25 : IVec S16 32) (v31 : IVec S16 32) (v37 : IVec S16 32) (v43 : IVec S16 32) (v68 : IVec S16 32) (k1_hw3 : k1_chk3 v25 v31 v37 v43 v68), ∀ a x, ((![v68, v31] : Fin 2 → IVec S16 32) a x).toNat < S16x2048.size a := fun v25 v31 v37 v43 v68 k1_hw3 => k1_hw3.2.1
theorem k1_idx11_inb : ∀ (v25 : IVec S16 32) (v31 : IVec S16 32) (v37 : IVec S16 32) (v43 : IVec S16 32) (v68 : IVec S16 32) (k1_hw3 : k1_chk3 v25 v31 v37 v43 v68), ∀ a x, ((![v68, v37] : Fin 2 → IVec S16 32) a x).toNat < S16x2048.size a := fun v25 v31 v37 v43 v68 k1_hw3 => k1_hw3.2.2.1
theorem k1_idx12_inb : ∀ (v25 : IVec S16 32) (v31 : IVec S16 32) (v37 : IVec S16 32) (v43 : IVec S16 32) (v68 : IVec S16 32) (k1_hw3 : k1_chk3 v25 v31 v37 v43 v68), ∀ a x, ((![v68, v43] : Fin 2 → IVec S16 32) a x).toNat < S16x2048.size a := fun v25 v31 v37 v43 v68 k1_hw3 => k1_hw3.2.2.2
def k1_off9 (k1_t2 : Fin k1_t2_loop.trips) : Fin 2 → Nat :=
  let c2_i32_28 : BitVec 32 := 2#32
  let v77 : Index := Scalar.indexCast c2_i32_28
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_27 : BitVec 32 := 16#32
  let v76 : BitVec 32 := Scalar.muli v19 c16_i32_27
  let v78 : Index := Scalar.indexCast v76
  ![2, v78.toNat]

def k1_chk4 (v25 : IVec S16 32) (v31 : IVec S16 32) (v37 : IVec S16 32) (v43 : IVec S16 32) (v80 : IVec S16 32) : Prop :=
  (∀ a x, ((![v80, v25] : Fin 2 → IVec S16 32) a x).toNat < S16x2048.size a) ∧
  (∀ a x, ((![v80, v31] : Fin 2 → IVec S16 32) a x).toNat < S16x2048.size a) ∧
  (∀ a x, ((![v80, v37] : Fin 2 → IVec S16 32) a x).toNat < S16x2048.size a) ∧
  (∀ a x, ((![v80, v43] : Fin 2 → IVec S16 32) a x).toNat < S16x2048.size a)
theorem k1_idx13_inb : ∀ (v25 : IVec S16 32) (v31 : IVec S16 32) (v37 : IVec S16 32) (v43 : IVec S16 32) (v80 : IVec S16 32) (k1_hw4 : k1_chk4 v25 v31 v37 v43 v80), ∀ a x, ((![v80, v25] : Fin 2 → IVec S16 32) a x).toNat < S16x2048.size a := fun v25 v31 v37 v43 v80 k1_hw4 => k1_hw4.1
theorem k1_idx14_inb : ∀ (v25 : IVec S16 32) (v31 : IVec S16 32) (v37 : IVec S16 32) (v43 : IVec S16 32) (v80 : IVec S16 32) (k1_hw4 : k1_chk4 v25 v31 v37 v43 v80), ∀ a x, ((![v80, v31] : Fin 2 → IVec S16 32) a x).toNat < S16x2048.size a := fun v25 v31 v37 v43 v80 k1_hw4 => k1_hw4.2.1
theorem k1_idx15_inb : ∀ (v25 : IVec S16 32) (v31 : IVec S16 32) (v37 : IVec S16 32) (v43 : IVec S16 32) (v80 : IVec S16 32) (k1_hw4 : k1_chk4 v25 v31 v37 v43 v80), ∀ a x, ((![v80, v37] : Fin 2 → IVec S16 32) a x).toNat < S16x2048.size a := fun v25 v31 v37 v43 v80 k1_hw4 => k1_hw4.2.2.1
theorem k1_idx16_inb : ∀ (v25 : IVec S16 32) (v31 : IVec S16 32) (v37 : IVec S16 32) (v43 : IVec S16 32) (v80 : IVec S16 32) (k1_hw4 : k1_chk4 v25 v31 v37 v43 v80), ∀ a x, ((![v80, v43] : Fin 2 → IVec S16 32) a x).toNat < S16x2048.size a := fun v25 v31 v37 v43 v80 k1_hw4 => k1_hw4.2.2.2
def k1_off10 (k1_t2 : Fin k1_t2_loop.trips) : Fin 2 → Nat :=
  let c3_i32_31 : BitVec 32 := 3#32
  let v89 : Index := Scalar.indexCast c3_i32_31
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_30 : BitVec 32 := 16#32
  let v88 : BitVec 32 := Scalar.muli v19 c16_i32_30
  let v90 : Index := Scalar.indexCast v88
  ![3, v90.toNat]

def k1_chk5 (v25 : IVec S16 32) (v31 : IVec S16 32) (v37 : IVec S16 32) (v43 : IVec S16 32) (v92 : IVec S16 32) : Prop :=
  (∀ a x, ((![v92, v25] : Fin 2 → IVec S16 32) a x).toNat < S16x2048.size a) ∧
  (∀ a x, ((![v92, v31] : Fin 2 → IVec S16 32) a x).toNat < S16x2048.size a) ∧
  (∀ a x, ((![v92, v37] : Fin 2 → IVec S16 32) a x).toNat < S16x2048.size a) ∧
  (∀ a x, ((![v92, v43] : Fin 2 → IVec S16 32) a x).toNat < S16x2048.size a)
theorem k1_idx17_inb : ∀ (v25 : IVec S16 32) (v31 : IVec S16 32) (v37 : IVec S16 32) (v43 : IVec S16 32) (v92 : IVec S16 32) (k1_hw5 : k1_chk5 v25 v31 v37 v43 v92), ∀ a x, ((![v92, v25] : Fin 2 → IVec S16 32) a x).toNat < S16x2048.size a := fun v25 v31 v37 v43 v92 k1_hw5 => k1_hw5.1
theorem k1_idx18_inb : ∀ (v25 : IVec S16 32) (v31 : IVec S16 32) (v37 : IVec S16 32) (v43 : IVec S16 32) (v92 : IVec S16 32) (k1_hw5 : k1_chk5 v25 v31 v37 v43 v92), ∀ a x, ((![v92, v31] : Fin 2 → IVec S16 32) a x).toNat < S16x2048.size a := fun v25 v31 v37 v43 v92 k1_hw5 => k1_hw5.2.1
theorem k1_idx19_inb : ∀ (v25 : IVec S16 32) (v31 : IVec S16 32) (v37 : IVec S16 32) (v43 : IVec S16 32) (v92 : IVec S16 32) (k1_hw5 : k1_chk5 v25 v31 v37 v43 v92), ∀ a x, ((![v92, v37] : Fin 2 → IVec S16 32) a x).toNat < S16x2048.size a := fun v25 v31 v37 v43 v92 k1_hw5 => k1_hw5.2.2.1
theorem k1_idx20_inb : ∀ (v25 : IVec S16 32) (v31 : IVec S16 32) (v37 : IVec S16 32) (v43 : IVec S16 32) (v92 : IVec S16 32) (k1_hw5 : k1_chk5 v25 v31 v37 v43 v92), ∀ a x, ((![v92, v43] : Fin 2 → IVec S16 32) a x).toNat < S16x2048.size a := fun v25 v31 v37 v43 v92 k1_hw5 => k1_hw5.2.2.2
def k1_off11 (k1_t2 : Fin k1_t2_loop.trips) : Fin 2 → Nat :=
  let c4_i32_33 : BitVec 32 := 4#32
  let v101 : Index := Scalar.indexCast c4_i32_33
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_32 : BitVec 32 := 16#32
  let v100 : BitVec 32 := Scalar.muli v19 c16_i32_32
  let v102 : Index := Scalar.indexCast v100
  ![4, v102.toNat]

def k1_chk6 (v25 : IVec S16 32) (v31 : IVec S16 32) (v37 : IVec S16 32) (v43 : IVec S16 32) (v104 : IVec S16 32) : Prop :=
  (∀ a x, ((![v104, v25] : Fin 2 → IVec S16 32) a x).toNat < S16x2048.size a) ∧
  (∀ a x, ((![v104, v31] : Fin 2 → IVec S16 32) a x).toNat < S16x2048.size a) ∧
  (∀ a x, ((![v104, v37] : Fin 2 → IVec S16 32) a x).toNat < S16x2048.size a) ∧
  (∀ a x, ((![v104, v43] : Fin 2 → IVec S16 32) a x).toNat < S16x2048.size a)
theorem k1_idx21_inb : ∀ (v25 : IVec S16 32) (v31 : IVec S16 32) (v37 : IVec S16 32) (v43 : IVec S16 32) (v104 : IVec S16 32) (k1_hw6 : k1_chk6 v25 v31 v37 v43 v104), ∀ a x, ((![v104, v25] : Fin 2 → IVec S16 32) a x).toNat < S16x2048.size a := fun v25 v31 v37 v43 v104 k1_hw6 => k1_hw6.1
theorem k1_idx22_inb : ∀ (v25 : IVec S16 32) (v31 : IVec S16 32) (v37 : IVec S16 32) (v43 : IVec S16 32) (v104 : IVec S16 32) (k1_hw6 : k1_chk6 v25 v31 v37 v43 v104), ∀ a x, ((![v104, v31] : Fin 2 → IVec S16 32) a x).toNat < S16x2048.size a := fun v25 v31 v37 v43 v104 k1_hw6 => k1_hw6.2.1
theorem k1_idx23_inb : ∀ (v25 : IVec S16 32) (v31 : IVec S16 32) (v37 : IVec S16 32) (v43 : IVec S16 32) (v104 : IVec S16 32) (k1_hw6 : k1_chk6 v25 v31 v37 v43 v104), ∀ a x, ((![v104, v37] : Fin 2 → IVec S16 32) a x).toNat < S16x2048.size a := fun v25 v31 v37 v43 v104 k1_hw6 => k1_hw6.2.2.1
theorem k1_idx24_inb : ∀ (v25 : IVec S16 32) (v31 : IVec S16 32) (v37 : IVec S16 32) (v43 : IVec S16 32) (v104 : IVec S16 32) (k1_hw6 : k1_chk6 v25 v31 v37 v43 v104), ∀ a x, ((![v104, v43] : Fin 2 → IVec S16 32) a x).toNat < S16x2048.size a := fun v25 v31 v37 v43 v104 k1_hw6 => k1_hw6.2.2.2
def k1_off12 (k1_t2 : Fin k1_t2_loop.trips) : Fin 2 → Nat :=
  let c5_i32_35 : BitVec 32 := 5#32
  let v113 : Index := Scalar.indexCast c5_i32_35
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_34 : BitVec 32 := 16#32
  let v112 : BitVec 32 := Scalar.muli v19 c16_i32_34
  let v114 : Index := Scalar.indexCast v112
  ![5, v114.toNat]

def k1_chk7 (v25 : IVec S16 32) (v31 : IVec S16 32) (v37 : IVec S16 32) (v43 : IVec S16 32) (v116 : IVec S16 32) : Prop :=
  (∀ a x, ((![v116, v25] : Fin 2 → IVec S16 32) a x).toNat < S16x2048.size a) ∧
  (∀ a x, ((![v116, v31] : Fin 2 → IVec S16 32) a x).toNat < S16x2048.size a) ∧
  (∀ a x, ((![v116, v37] : Fin 2 → IVec S16 32) a x).toNat < S16x2048.size a) ∧
  (∀ a x, ((![v116, v43] : Fin 2 → IVec S16 32) a x).toNat < S16x2048.size a)
theorem k1_idx25_inb : ∀ (v25 : IVec S16 32) (v31 : IVec S16 32) (v37 : IVec S16 32) (v43 : IVec S16 32) (v116 : IVec S16 32) (k1_hw7 : k1_chk7 v25 v31 v37 v43 v116), ∀ a x, ((![v116, v25] : Fin 2 → IVec S16 32) a x).toNat < S16x2048.size a := fun v25 v31 v37 v43 v116 k1_hw7 => k1_hw7.1
theorem k1_idx26_inb : ∀ (v25 : IVec S16 32) (v31 : IVec S16 32) (v37 : IVec S16 32) (v43 : IVec S16 32) (v116 : IVec S16 32) (k1_hw7 : k1_chk7 v25 v31 v37 v43 v116), ∀ a x, ((![v116, v31] : Fin 2 → IVec S16 32) a x).toNat < S16x2048.size a := fun v25 v31 v37 v43 v116 k1_hw7 => k1_hw7.2.1
theorem k1_idx27_inb : ∀ (v25 : IVec S16 32) (v31 : IVec S16 32) (v37 : IVec S16 32) (v43 : IVec S16 32) (v116 : IVec S16 32) (k1_hw7 : k1_chk7 v25 v31 v37 v43 v116), ∀ a x, ((![v116, v37] : Fin 2 → IVec S16 32) a x).toNat < S16x2048.size a := fun v25 v31 v37 v43 v116 k1_hw7 => k1_hw7.2.2.1
theorem k1_idx28_inb : ∀ (v25 : IVec S16 32) (v31 : IVec S16 32) (v37 : IVec S16 32) (v43 : IVec S16 32) (v116 : IVec S16 32) (k1_hw7 : k1_chk7 v25 v31 v37 v43 v116), ∀ a x, ((![v116, v43] : Fin 2 → IVec S16 32) a x).toNat < S16x2048.size a := fun v25 v31 v37 v43 v116 k1_hw7 => k1_hw7.2.2.2
def k1_off13 (k1_t2 : Fin k1_t2_loop.trips) : Fin 2 → Nat :=
  let c6_i32_37 : BitVec 32 := 6#32
  let v125 : Index := Scalar.indexCast c6_i32_37
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_36 : BitVec 32 := 16#32
  let v124 : BitVec 32 := Scalar.muli v19 c16_i32_36
  let v126 : Index := Scalar.indexCast v124
  ![6, v126.toNat]

def k1_chk8 (v25 : IVec S16 32) (v31 : IVec S16 32) (v37 : IVec S16 32) (v43 : IVec S16 32) (v128 : IVec S16 32) : Prop :=
  (∀ a x, ((![v128, v25] : Fin 2 → IVec S16 32) a x).toNat < S16x2048.size a) ∧
  (∀ a x, ((![v128, v31] : Fin 2 → IVec S16 32) a x).toNat < S16x2048.size a) ∧
  (∀ a x, ((![v128, v37] : Fin 2 → IVec S16 32) a x).toNat < S16x2048.size a) ∧
  (∀ a x, ((![v128, v43] : Fin 2 → IVec S16 32) a x).toNat < S16x2048.size a)
theorem k1_idx29_inb : ∀ (v25 : IVec S16 32) (v31 : IVec S16 32) (v37 : IVec S16 32) (v43 : IVec S16 32) (v128 : IVec S16 32) (k1_hw8 : k1_chk8 v25 v31 v37 v43 v128), ∀ a x, ((![v128, v25] : Fin 2 → IVec S16 32) a x).toNat < S16x2048.size a := fun v25 v31 v37 v43 v128 k1_hw8 => k1_hw8.1
theorem k1_idx30_inb : ∀ (v25 : IVec S16 32) (v31 : IVec S16 32) (v37 : IVec S16 32) (v43 : IVec S16 32) (v128 : IVec S16 32) (k1_hw8 : k1_chk8 v25 v31 v37 v43 v128), ∀ a x, ((![v128, v31] : Fin 2 → IVec S16 32) a x).toNat < S16x2048.size a := fun v25 v31 v37 v43 v128 k1_hw8 => k1_hw8.2.1
theorem k1_idx31_inb : ∀ (v25 : IVec S16 32) (v31 : IVec S16 32) (v37 : IVec S16 32) (v43 : IVec S16 32) (v128 : IVec S16 32) (k1_hw8 : k1_chk8 v25 v31 v37 v43 v128), ∀ a x, ((![v128, v37] : Fin 2 → IVec S16 32) a x).toNat < S16x2048.size a := fun v25 v31 v37 v43 v128 k1_hw8 => k1_hw8.2.2.1
theorem k1_idx32_inb : ∀ (v25 : IVec S16 32) (v31 : IVec S16 32) (v37 : IVec S16 32) (v43 : IVec S16 32) (v128 : IVec S16 32) (k1_hw8 : k1_chk8 v25 v31 v37 v43 v128), ∀ a x, ((![v128, v43] : Fin 2 → IVec S16 32) a x).toNat < S16x2048.size a := fun v25 v31 v37 v43 v128 k1_hw8 => k1_hw8.2.2.2
def k1_off14 (k1_t2 : Fin k1_t2_loop.trips) : Fin 2 → Nat :=
  let c7_i32_39 : BitVec 32 := 7#32
  let v137 : Index := Scalar.indexCast c7_i32_39
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_38 : BitVec 32 := 16#32
  let v136 : BitVec 32 := Scalar.muli v19 c16_i32_38
  let v138 : Index := Scalar.indexCast v136
  ![7, v138.toNat]

def k1_chk9 (v25 : IVec S16 32) (v31 : IVec S16 32) (v37 : IVec S16 32) (v43 : IVec S16 32) (v140 : IVec S16 32) : Prop :=
  (∀ a x, ((![v140, v25] : Fin 2 → IVec S16 32) a x).toNat < S16x2048.size a) ∧
  (∀ a x, ((![v140, v31] : Fin 2 → IVec S16 32) a x).toNat < S16x2048.size a) ∧
  (∀ a x, ((![v140, v37] : Fin 2 → IVec S16 32) a x).toNat < S16x2048.size a) ∧
  (∀ a x, ((![v140, v43] : Fin 2 → IVec S16 32) a x).toNat < S16x2048.size a)
theorem k1_idx33_inb : ∀ (v25 : IVec S16 32) (v31 : IVec S16 32) (v37 : IVec S16 32) (v43 : IVec S16 32) (v140 : IVec S16 32) (k1_hw9 : k1_chk9 v25 v31 v37 v43 v140), ∀ a x, ((![v140, v25] : Fin 2 → IVec S16 32) a x).toNat < S16x2048.size a := fun v25 v31 v37 v43 v140 k1_hw9 => k1_hw9.1
theorem k1_idx34_inb : ∀ (v25 : IVec S16 32) (v31 : IVec S16 32) (v37 : IVec S16 32) (v43 : IVec S16 32) (v140 : IVec S16 32) (k1_hw9 : k1_chk9 v25 v31 v37 v43 v140), ∀ a x, ((![v140, v31] : Fin 2 → IVec S16 32) a x).toNat < S16x2048.size a := fun v25 v31 v37 v43 v140 k1_hw9 => k1_hw9.2.1
theorem k1_idx35_inb : ∀ (v25 : IVec S16 32) (v31 : IVec S16 32) (v37 : IVec S16 32) (v43 : IVec S16 32) (v140 : IVec S16 32) (k1_hw9 : k1_chk9 v25 v31 v37 v43 v140), ∀ a x, ((![v140, v37] : Fin 2 → IVec S16 32) a x).toNat < S16x2048.size a := fun v25 v31 v37 v43 v140 k1_hw9 => k1_hw9.2.2.1
theorem k1_idx36_inb : ∀ (v25 : IVec S16 32) (v31 : IVec S16 32) (v37 : IVec S16 32) (v43 : IVec S16 32) (v140 : IVec S16 32) (k1_hw9 : k1_chk9 v25 v31 v37 v43 v140), ∀ a x, ((![v140, v43] : Fin 2 → IVec S16 32) a x).toNat < S16x2048.size a := fun v25 v31 v37 v43 v140 k1_hw9 => k1_hw9.2.2.2
def k1_off15 (k1_t2 : Fin k1_t2_loop.trips) : Fin 2 → Nat :=
  let c8_i32_41 : BitVec 32 := 8#32
  let v149 : Index := Scalar.indexCast c8_i32_41
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_40 : BitVec 32 := 16#32
  let v148 : BitVec 32 := Scalar.muli v19 c16_i32_40
  let v150 : Index := Scalar.indexCast v148
  ![8, v150.toNat]

def k1_chk10 (v25 : IVec S16 32) (v31 : IVec S16 32) (v37 : IVec S16 32) (v43 : IVec S16 32) (v152 : IVec S16 32) : Prop :=
  (∀ a x, ((![v152, v25] : Fin 2 → IVec S16 32) a x).toNat < S16x2048.size a) ∧
  (∀ a x, ((![v152, v31] : Fin 2 → IVec S16 32) a x).toNat < S16x2048.size a) ∧
  (∀ a x, ((![v152, v37] : Fin 2 → IVec S16 32) a x).toNat < S16x2048.size a) ∧
  (∀ a x, ((![v152, v43] : Fin 2 → IVec S16 32) a x).toNat < S16x2048.size a)
theorem k1_idx37_inb : ∀ (v25 : IVec S16 32) (v31 : IVec S16 32) (v37 : IVec S16 32) (v43 : IVec S16 32) (v152 : IVec S16 32) (k1_hw10 : k1_chk10 v25 v31 v37 v43 v152), ∀ a x, ((![v152, v25] : Fin 2 → IVec S16 32) a x).toNat < S16x2048.size a := fun v25 v31 v37 v43 v152 k1_hw10 => k1_hw10.1
theorem k1_idx38_inb : ∀ (v25 : IVec S16 32) (v31 : IVec S16 32) (v37 : IVec S16 32) (v43 : IVec S16 32) (v152 : IVec S16 32) (k1_hw10 : k1_chk10 v25 v31 v37 v43 v152), ∀ a x, ((![v152, v31] : Fin 2 → IVec S16 32) a x).toNat < S16x2048.size a := fun v25 v31 v37 v43 v152 k1_hw10 => k1_hw10.2.1
theorem k1_idx39_inb : ∀ (v25 : IVec S16 32) (v31 : IVec S16 32) (v37 : IVec S16 32) (v43 : IVec S16 32) (v152 : IVec S16 32) (k1_hw10 : k1_chk10 v25 v31 v37 v43 v152), ∀ a x, ((![v152, v37] : Fin 2 → IVec S16 32) a x).toNat < S16x2048.size a := fun v25 v31 v37 v43 v152 k1_hw10 => k1_hw10.2.2.1
theorem k1_idx40_inb : ∀ (v25 : IVec S16 32) (v31 : IVec S16 32) (v37 : IVec S16 32) (v43 : IVec S16 32) (v152 : IVec S16 32) (k1_hw10 : k1_chk10 v25 v31 v37 v43 v152), ∀ a x, ((![v152, v43] : Fin 2 → IVec S16 32) a x).toNat < S16x2048.size a := fun v25 v31 v37 v43 v152 k1_hw10 => k1_hw10.2.2.2
def k1_off16 (k1_t2 : Fin k1_t2_loop.trips) : Fin 2 → Nat :=
  let c9_i32_43 : BitVec 32 := 9#32
  let v161 : Index := Scalar.indexCast c9_i32_43
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_42 : BitVec 32 := 16#32
  let v160 : BitVec 32 := Scalar.muli v19 c16_i32_42
  let v162 : Index := Scalar.indexCast v160
  ![9, v162.toNat]

def k1_chk11 (v25 : IVec S16 32) (v31 : IVec S16 32) (v37 : IVec S16 32) (v43 : IVec S16 32) (v164 : IVec S16 32) : Prop :=
  (∀ a x, ((![v164, v25] : Fin 2 → IVec S16 32) a x).toNat < S16x2048.size a) ∧
  (∀ a x, ((![v164, v31] : Fin 2 → IVec S16 32) a x).toNat < S16x2048.size a) ∧
  (∀ a x, ((![v164, v37] : Fin 2 → IVec S16 32) a x).toNat < S16x2048.size a) ∧
  (∀ a x, ((![v164, v43] : Fin 2 → IVec S16 32) a x).toNat < S16x2048.size a)
theorem k1_idx41_inb : ∀ (v25 : IVec S16 32) (v31 : IVec S16 32) (v37 : IVec S16 32) (v43 : IVec S16 32) (v164 : IVec S16 32) (k1_hw11 : k1_chk11 v25 v31 v37 v43 v164), ∀ a x, ((![v164, v25] : Fin 2 → IVec S16 32) a x).toNat < S16x2048.size a := fun v25 v31 v37 v43 v164 k1_hw11 => k1_hw11.1
theorem k1_idx42_inb : ∀ (v25 : IVec S16 32) (v31 : IVec S16 32) (v37 : IVec S16 32) (v43 : IVec S16 32) (v164 : IVec S16 32) (k1_hw11 : k1_chk11 v25 v31 v37 v43 v164), ∀ a x, ((![v164, v31] : Fin 2 → IVec S16 32) a x).toNat < S16x2048.size a := fun v25 v31 v37 v43 v164 k1_hw11 => k1_hw11.2.1
theorem k1_idx43_inb : ∀ (v25 : IVec S16 32) (v31 : IVec S16 32) (v37 : IVec S16 32) (v43 : IVec S16 32) (v164 : IVec S16 32) (k1_hw11 : k1_chk11 v25 v31 v37 v43 v164), ∀ a x, ((![v164, v37] : Fin 2 → IVec S16 32) a x).toNat < S16x2048.size a := fun v25 v31 v37 v43 v164 k1_hw11 => k1_hw11.2.2.1
theorem k1_idx44_inb : ∀ (v25 : IVec S16 32) (v31 : IVec S16 32) (v37 : IVec S16 32) (v43 : IVec S16 32) (v164 : IVec S16 32) (k1_hw11 : k1_chk11 v25 v31 v37 v43 v164), ∀ a x, ((![v164, v43] : Fin 2 → IVec S16 32) a x).toNat < S16x2048.size a := fun v25 v31 v37 v43 v164 k1_hw11 => k1_hw11.2.2.2
def k1_off17 (k1_t2 : Fin k1_t2_loop.trips) : Fin 2 → Nat :=
  let c10_i32_45 : BitVec 32 := 10#32
  let v173 : Index := Scalar.indexCast c10_i32_45
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_44 : BitVec 32 := 16#32
  let v172 : BitVec 32 := Scalar.muli v19 c16_i32_44
  let v174 : Index := Scalar.indexCast v172
  ![10, v174.toNat]

def k1_chk12 (v25 : IVec S16 32) (v31 : IVec S16 32) (v37 : IVec S16 32) (v43 : IVec S16 32) (v176 : IVec S16 32) : Prop :=
  (∀ a x, ((![v176, v25] : Fin 2 → IVec S16 32) a x).toNat < S16x2048.size a) ∧
  (∀ a x, ((![v176, v31] : Fin 2 → IVec S16 32) a x).toNat < S16x2048.size a) ∧
  (∀ a x, ((![v176, v37] : Fin 2 → IVec S16 32) a x).toNat < S16x2048.size a) ∧
  (∀ a x, ((![v176, v43] : Fin 2 → IVec S16 32) a x).toNat < S16x2048.size a)
theorem k1_idx45_inb : ∀ (v25 : IVec S16 32) (v31 : IVec S16 32) (v37 : IVec S16 32) (v43 : IVec S16 32) (v176 : IVec S16 32) (k1_hw12 : k1_chk12 v25 v31 v37 v43 v176), ∀ a x, ((![v176, v25] : Fin 2 → IVec S16 32) a x).toNat < S16x2048.size a := fun v25 v31 v37 v43 v176 k1_hw12 => k1_hw12.1
theorem k1_idx46_inb : ∀ (v25 : IVec S16 32) (v31 : IVec S16 32) (v37 : IVec S16 32) (v43 : IVec S16 32) (v176 : IVec S16 32) (k1_hw12 : k1_chk12 v25 v31 v37 v43 v176), ∀ a x, ((![v176, v31] : Fin 2 → IVec S16 32) a x).toNat < S16x2048.size a := fun v25 v31 v37 v43 v176 k1_hw12 => k1_hw12.2.1
theorem k1_idx47_inb : ∀ (v25 : IVec S16 32) (v31 : IVec S16 32) (v37 : IVec S16 32) (v43 : IVec S16 32) (v176 : IVec S16 32) (k1_hw12 : k1_chk12 v25 v31 v37 v43 v176), ∀ a x, ((![v176, v37] : Fin 2 → IVec S16 32) a x).toNat < S16x2048.size a := fun v25 v31 v37 v43 v176 k1_hw12 => k1_hw12.2.2.1
theorem k1_idx48_inb : ∀ (v25 : IVec S16 32) (v31 : IVec S16 32) (v37 : IVec S16 32) (v43 : IVec S16 32) (v176 : IVec S16 32) (k1_hw12 : k1_chk12 v25 v31 v37 v43 v176), ∀ a x, ((![v176, v43] : Fin 2 → IVec S16 32) a x).toNat < S16x2048.size a := fun v25 v31 v37 v43 v176 k1_hw12 => k1_hw12.2.2.2
def k1_off18 (k1_t2 : Fin k1_t2_loop.trips) : Fin 2 → Nat :=
  let c11_i32_47 : BitVec 32 := 11#32
  let v185 : Index := Scalar.indexCast c11_i32_47
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_46 : BitVec 32 := 16#32
  let v184 : BitVec 32 := Scalar.muli v19 c16_i32_46
  let v186 : Index := Scalar.indexCast v184
  ![11, v186.toNat]

def k1_chk13 (v25 : IVec S16 32) (v31 : IVec S16 32) (v37 : IVec S16 32) (v43 : IVec S16 32) (v188 : IVec S16 32) : Prop :=
  (∀ a x, ((![v188, v25] : Fin 2 → IVec S16 32) a x).toNat < S16x2048.size a) ∧
  (∀ a x, ((![v188, v31] : Fin 2 → IVec S16 32) a x).toNat < S16x2048.size a) ∧
  (∀ a x, ((![v188, v37] : Fin 2 → IVec S16 32) a x).toNat < S16x2048.size a) ∧
  (∀ a x, ((![v188, v43] : Fin 2 → IVec S16 32) a x).toNat < S16x2048.size a)
theorem k1_idx49_inb : ∀ (v25 : IVec S16 32) (v31 : IVec S16 32) (v37 : IVec S16 32) (v43 : IVec S16 32) (v188 : IVec S16 32) (k1_hw13 : k1_chk13 v25 v31 v37 v43 v188), ∀ a x, ((![v188, v25] : Fin 2 → IVec S16 32) a x).toNat < S16x2048.size a := fun v25 v31 v37 v43 v188 k1_hw13 => k1_hw13.1
theorem k1_idx50_inb : ∀ (v25 : IVec S16 32) (v31 : IVec S16 32) (v37 : IVec S16 32) (v43 : IVec S16 32) (v188 : IVec S16 32) (k1_hw13 : k1_chk13 v25 v31 v37 v43 v188), ∀ a x, ((![v188, v31] : Fin 2 → IVec S16 32) a x).toNat < S16x2048.size a := fun v25 v31 v37 v43 v188 k1_hw13 => k1_hw13.2.1
theorem k1_idx51_inb : ∀ (v25 : IVec S16 32) (v31 : IVec S16 32) (v37 : IVec S16 32) (v43 : IVec S16 32) (v188 : IVec S16 32) (k1_hw13 : k1_chk13 v25 v31 v37 v43 v188), ∀ a x, ((![v188, v37] : Fin 2 → IVec S16 32) a x).toNat < S16x2048.size a := fun v25 v31 v37 v43 v188 k1_hw13 => k1_hw13.2.2.1
theorem k1_idx52_inb : ∀ (v25 : IVec S16 32) (v31 : IVec S16 32) (v37 : IVec S16 32) (v43 : IVec S16 32) (v188 : IVec S16 32) (k1_hw13 : k1_chk13 v25 v31 v37 v43 v188), ∀ a x, ((![v188, v43] : Fin 2 → IVec S16 32) a x).toNat < S16x2048.size a := fun v25 v31 v37 v43 v188 k1_hw13 => k1_hw13.2.2.2
def k1_off19 (k1_t2 : Fin k1_t2_loop.trips) : Fin 2 → Nat :=
  let c12_i32_49 : BitVec 32 := 12#32
  let v197 : Index := Scalar.indexCast c12_i32_49
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_48 : BitVec 32 := 16#32
  let v196 : BitVec 32 := Scalar.muli v19 c16_i32_48
  let v198 : Index := Scalar.indexCast v196
  ![12, v198.toNat]

def k1_chk14 (v25 : IVec S16 32) (v31 : IVec S16 32) (v37 : IVec S16 32) (v43 : IVec S16 32) (v200 : IVec S16 32) : Prop :=
  (∀ a x, ((![v200, v25] : Fin 2 → IVec S16 32) a x).toNat < S16x2048.size a) ∧
  (∀ a x, ((![v200, v31] : Fin 2 → IVec S16 32) a x).toNat < S16x2048.size a) ∧
  (∀ a x, ((![v200, v37] : Fin 2 → IVec S16 32) a x).toNat < S16x2048.size a) ∧
  (∀ a x, ((![v200, v43] : Fin 2 → IVec S16 32) a x).toNat < S16x2048.size a)
theorem k1_idx53_inb : ∀ (v25 : IVec S16 32) (v31 : IVec S16 32) (v37 : IVec S16 32) (v43 : IVec S16 32) (v200 : IVec S16 32) (k1_hw14 : k1_chk14 v25 v31 v37 v43 v200), ∀ a x, ((![v200, v25] : Fin 2 → IVec S16 32) a x).toNat < S16x2048.size a := fun v25 v31 v37 v43 v200 k1_hw14 => k1_hw14.1
theorem k1_idx54_inb : ∀ (v25 : IVec S16 32) (v31 : IVec S16 32) (v37 : IVec S16 32) (v43 : IVec S16 32) (v200 : IVec S16 32) (k1_hw14 : k1_chk14 v25 v31 v37 v43 v200), ∀ a x, ((![v200, v31] : Fin 2 → IVec S16 32) a x).toNat < S16x2048.size a := fun v25 v31 v37 v43 v200 k1_hw14 => k1_hw14.2.1
theorem k1_idx55_inb : ∀ (v25 : IVec S16 32) (v31 : IVec S16 32) (v37 : IVec S16 32) (v43 : IVec S16 32) (v200 : IVec S16 32) (k1_hw14 : k1_chk14 v25 v31 v37 v43 v200), ∀ a x, ((![v200, v37] : Fin 2 → IVec S16 32) a x).toNat < S16x2048.size a := fun v25 v31 v37 v43 v200 k1_hw14 => k1_hw14.2.2.1
theorem k1_idx56_inb : ∀ (v25 : IVec S16 32) (v31 : IVec S16 32) (v37 : IVec S16 32) (v43 : IVec S16 32) (v200 : IVec S16 32) (k1_hw14 : k1_chk14 v25 v31 v37 v43 v200), ∀ a x, ((![v200, v43] : Fin 2 → IVec S16 32) a x).toNat < S16x2048.size a := fun v25 v31 v37 v43 v200 k1_hw14 => k1_hw14.2.2.2
def k1_off20 (k1_t2 : Fin k1_t2_loop.trips) : Fin 2 → Nat :=
  let c13_i32_51 : BitVec 32 := 13#32
  let v209 : Index := Scalar.indexCast c13_i32_51
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_50 : BitVec 32 := 16#32
  let v208 : BitVec 32 := Scalar.muli v19 c16_i32_50
  let v210 : Index := Scalar.indexCast v208
  ![13, v210.toNat]

def k1_chk15 (v25 : IVec S16 32) (v31 : IVec S16 32) (v37 : IVec S16 32) (v43 : IVec S16 32) (v212 : IVec S16 32) : Prop :=
  (∀ a x, ((![v212, v25] : Fin 2 → IVec S16 32) a x).toNat < S16x2048.size a) ∧
  (∀ a x, ((![v212, v31] : Fin 2 → IVec S16 32) a x).toNat < S16x2048.size a) ∧
  (∀ a x, ((![v212, v37] : Fin 2 → IVec S16 32) a x).toNat < S16x2048.size a) ∧
  (∀ a x, ((![v212, v43] : Fin 2 → IVec S16 32) a x).toNat < S16x2048.size a)
theorem k1_idx57_inb : ∀ (v25 : IVec S16 32) (v31 : IVec S16 32) (v37 : IVec S16 32) (v43 : IVec S16 32) (v212 : IVec S16 32) (k1_hw15 : k1_chk15 v25 v31 v37 v43 v212), ∀ a x, ((![v212, v25] : Fin 2 → IVec S16 32) a x).toNat < S16x2048.size a := fun v25 v31 v37 v43 v212 k1_hw15 => k1_hw15.1
theorem k1_idx58_inb : ∀ (v25 : IVec S16 32) (v31 : IVec S16 32) (v37 : IVec S16 32) (v43 : IVec S16 32) (v212 : IVec S16 32) (k1_hw15 : k1_chk15 v25 v31 v37 v43 v212), ∀ a x, ((![v212, v31] : Fin 2 → IVec S16 32) a x).toNat < S16x2048.size a := fun v25 v31 v37 v43 v212 k1_hw15 => k1_hw15.2.1
theorem k1_idx59_inb : ∀ (v25 : IVec S16 32) (v31 : IVec S16 32) (v37 : IVec S16 32) (v43 : IVec S16 32) (v212 : IVec S16 32) (k1_hw15 : k1_chk15 v25 v31 v37 v43 v212), ∀ a x, ((![v212, v37] : Fin 2 → IVec S16 32) a x).toNat < S16x2048.size a := fun v25 v31 v37 v43 v212 k1_hw15 => k1_hw15.2.2.1
theorem k1_idx60_inb : ∀ (v25 : IVec S16 32) (v31 : IVec S16 32) (v37 : IVec S16 32) (v43 : IVec S16 32) (v212 : IVec S16 32) (k1_hw15 : k1_chk15 v25 v31 v37 v43 v212), ∀ a x, ((![v212, v43] : Fin 2 → IVec S16 32) a x).toNat < S16x2048.size a := fun v25 v31 v37 v43 v212 k1_hw15 => k1_hw15.2.2.2
def k1_off21 (k1_t2 : Fin k1_t2_loop.trips) : Fin 2 → Nat :=
  let c14_i32_53 : BitVec 32 := 14#32
  let v221 : Index := Scalar.indexCast c14_i32_53
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_52 : BitVec 32 := 16#32
  let v220 : BitVec 32 := Scalar.muli v19 c16_i32_52
  let v222 : Index := Scalar.indexCast v220
  ![14, v222.toNat]

def k1_chk16 (v25 : IVec S16 32) (v31 : IVec S16 32) (v37 : IVec S16 32) (v43 : IVec S16 32) (v224 : IVec S16 32) : Prop :=
  (∀ a x, ((![v224, v25] : Fin 2 → IVec S16 32) a x).toNat < S16x2048.size a) ∧
  (∀ a x, ((![v224, v31] : Fin 2 → IVec S16 32) a x).toNat < S16x2048.size a) ∧
  (∀ a x, ((![v224, v37] : Fin 2 → IVec S16 32) a x).toNat < S16x2048.size a) ∧
  (∀ a x, ((![v224, v43] : Fin 2 → IVec S16 32) a x).toNat < S16x2048.size a)
theorem k1_idx61_inb : ∀ (v25 : IVec S16 32) (v31 : IVec S16 32) (v37 : IVec S16 32) (v43 : IVec S16 32) (v224 : IVec S16 32) (k1_hw16 : k1_chk16 v25 v31 v37 v43 v224), ∀ a x, ((![v224, v25] : Fin 2 → IVec S16 32) a x).toNat < S16x2048.size a := fun v25 v31 v37 v43 v224 k1_hw16 => k1_hw16.1
theorem k1_idx62_inb : ∀ (v25 : IVec S16 32) (v31 : IVec S16 32) (v37 : IVec S16 32) (v43 : IVec S16 32) (v224 : IVec S16 32) (k1_hw16 : k1_chk16 v25 v31 v37 v43 v224), ∀ a x, ((![v224, v31] : Fin 2 → IVec S16 32) a x).toNat < S16x2048.size a := fun v25 v31 v37 v43 v224 k1_hw16 => k1_hw16.2.1
theorem k1_idx63_inb : ∀ (v25 : IVec S16 32) (v31 : IVec S16 32) (v37 : IVec S16 32) (v43 : IVec S16 32) (v224 : IVec S16 32) (k1_hw16 : k1_chk16 v25 v31 v37 v43 v224), ∀ a x, ((![v224, v37] : Fin 2 → IVec S16 32) a x).toNat < S16x2048.size a := fun v25 v31 v37 v43 v224 k1_hw16 => k1_hw16.2.2.1
theorem k1_idx64_inb : ∀ (v25 : IVec S16 32) (v31 : IVec S16 32) (v37 : IVec S16 32) (v43 : IVec S16 32) (v224 : IVec S16 32) (k1_hw16 : k1_chk16 v25 v31 v37 v43 v224), ∀ a x, ((![v224, v43] : Fin 2 → IVec S16 32) a x).toNat < S16x2048.size a := fun v25 v31 v37 v43 v224 k1_hw16 => k1_hw16.2.2.2
def k1_off22 (k1_t2 : Fin k1_t2_loop.trips) : Fin 2 → Nat :=
  let c15_i32_55 : BitVec 32 := 15#32
  let v233 : Index := Scalar.indexCast c15_i32_55
  let c0_i32_11 : BitVec 32 := 0#32
  let c0_i32_7 : BitVec 32 := 0#32
  let c1_i32_8 : BitVec 32 := 1#32
  let arg10 : BitVec 32 := Scf.iv c0_i32_7 c1_i32_8 k1_t2
  let c1_i32_10 : BitVec 32 := 1#32
  let v18 : BitVec 32 := Scalar.muli arg10 c1_i32_10
  let v19 : BitVec 32 := Scalar.addi c0_i32_11 v18
  let c16_i32_54 : BitVec 32 := 16#32
  let v232 : BitVec 32 := Scalar.muli v19 c16_i32_54
  let v234 : Index := Scalar.indexCast v232
  ![15, v234.toNat]
def k1_off23 (i : grid1.Coords) (k1_t1 : Fin (k1_t1_loop i).trips) : Fin 2 → Nat :=
  let arg1 : BitVec 32 := BitVec.ofNat 32 (i 1).val
  let c16_i32 : BitVec 32 := 16#32
  let v0 : BitVec 32 := Scalar.muli arg1 c16_i32
  let arg0 : BitVec 32 := BitVec.ofNat 32 (i 0).val
  let c0_i32 : BitVec 32 := 0#32
  let c1_i32_3 : BitVec 32 := 1#32
  let arg9 : BitVec 32 := Scf.iv c0_i32 c1_i32_3 k1_t1
  let c2_i32_1 : BitVec 32 := 2#32
  let v13 : BitVec 32 := Scalar.muli arg9 c2_i32_1
  let v14 : BitVec 32 := Scalar.addi arg0 v13
  let c2048_i32 : BitVec 32 := 2048#32
  let v15 : BitVec 32 := Scalar.muli v14 c2048_i32
  let v16 : BitVec 32 := v15
  ![v0.toNat, v16.toNat]
@[reducible] def k1_t3_loop (i : grid1.Coords) : Scf.Loop 32 :=
  let c0_i32 : BitVec 32 := 0#32
  let c48_i32 : BitVec 32 := 48#32
  let arg0 : BitVec 32 := BitVec.ofNat 32 (i 0).val
  let v1 : BitVec 32 := Scalar.subi c48_i32 arg0
  let c2_i32 : BitVec 32 := 2#32
  let c1_i32 : BitVec 32 := 1#32
  let v2 : BitVec 32 := Scalar.subi c2_i32 c1_i32
  let v3 : BitVec 32 := Scalar.addi v1 v2
  let c2_i32_0 : BitVec 32 := 2#32
  let v4 : BitVec 32 := Scalar.divsi v3 c2_i32_0
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let v6 : BitVec 32 := Scalar.addi c0_i32 v5
  let c1_i32_4 : BitVec 32 := 1#32
  ⟨v9, v6, c1_i32_4⟩
def k1_mult2 (i : grid1.Coords) (k1_t3 : Fin (k1_t3_loop i).trips) : BitVec 32 :=
  let arg0 : BitVec 32 := BitVec.ofNat 32 (i 0).val
  let c0_i32 : BitVec 32 := 0#32
  let c48_i32 : BitVec 32 := 48#32
  let v1 : BitVec 32 := Scalar.subi c48_i32 arg0
  let c2_i32 : BitVec 32 := 2#32
  let c1_i32 : BitVec 32 := 1#32
  let v2 : BitVec 32 := Scalar.subi c2_i32 c1_i32
  let v3 : BitVec 32 := Scalar.addi v1 v2
  let c2_i32_0 : BitVec 32 := 2#32
  let v4 : BitVec 32 := Scalar.divsi v3 c2_i32_0
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg9 : BitVec 32 := Scf.iv v9 c1_i32_4 k1_t3
  let c2_i32_1 : BitVec 32 := 2#32
  let v13 : BitVec 32 := Scalar.muli arg9 c2_i32_1
  let v14 : BitVec 32 := Scalar.addi arg0 v13
  let c2048_i32 : BitVec 32 := 2048#32
  let v15 : BitVec 32 := Scalar.muli v14 c2048_i32
  v15
def k1_off24 (i : grid1.Coords) (k1_t3 : Fin (k1_t3_loop i).trips) : Fin 2 → Nat :=
  let c0_i32_10_r3 : BitVec 32 := 0#32
  let arg0 : BitVec 32 := BitVec.ofNat 32 (i 0).val
  let c0_i32 : BitVec 32 := 0#32
  let c48_i32 : BitVec 32 := 48#32
  let v1 : BitVec 32 := Scalar.subi c48_i32 arg0
  let c2_i32 : BitVec 32 := 2#32
  let c1_i32 : BitVec 32 := 1#32
  let v2 : BitVec 32 := Scalar.subi c2_i32 c1_i32
  let v3 : BitVec 32 := Scalar.addi v1 v2
  let c2_i32_0 : BitVec 32 := 2#32
  let v4 : BitVec 32 := Scalar.divsi v3 c2_i32_0
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg9 : BitVec 32 := Scf.iv v9 c1_i32_4 k1_t3
  let c2_i32_1 : BitVec 32 := 2#32
  let v13 : BitVec 32 := Scalar.muli arg9 c2_i32_1
  let v14 : BitVec 32 := Scalar.addi arg0 v13
  let c2048_i32 : BitVec 32 := 2048#32
  let v15 : BitVec 32 := Scalar.muli v14 c2048_i32
  let v16 : BitVec 32 := v15
  ![0, v16.toNat]
@[reducible] def k1_t4_loop : Scf.Loop 32 :=
  let c0_i32_7 : BitVec 32 := 0#32
  let c128_i32 : BitVec 32 := 128#32
  let v17 : BitVec 32 := Scalar.addi c0_i32_7 c128_i32
  let c1_i32_8 : BitVec 32 := 1#32
  ⟨c0_i32_7, v17, c1_i32_8⟩
def k1_off25 (k1_t4 : Fin k1_t4_loop.trips) : Fin 2 → Nat :=
  let c0_i32_13 : BitVec 32 := 0#32
  let v21 : Index := Scalar.indexCast c0_i32_13
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_12 : BitVec 32 := 16#32
  let v20 : BitVec 32 := Scalar.muli v19 c16_i32_12
  let v22 : Index := Scalar.indexCast v20
  ![0, v22.toNat]
def k1_off26 (k1_t4 : Fin k1_t4_loop.trips) : Fin 2 → Nat :=
  let c1_i32_16 : BitVec 32 := 1#32
  let v27 : Index := Scalar.indexCast c1_i32_16
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_15 : BitVec 32 := 16#32
  let v26 : BitVec 32 := Scalar.muli v19 c16_i32_15
  let v28 : Index := Scalar.indexCast v26
  ![1, v28.toNat]
def k1_off27 (k1_t4 : Fin k1_t4_loop.trips) : Fin 2 → Nat :=
  let c2_i32_18 : BitVec 32 := 2#32
  let v33 : Index := Scalar.indexCast c2_i32_18
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_17 : BitVec 32 := 16#32
  let v32 : BitVec 32 := Scalar.muli v19 c16_i32_17
  let v34 : Index := Scalar.indexCast v32
  ![2, v34.toNat]
def k1_off28 (k1_t4 : Fin k1_t4_loop.trips) : Fin 2 → Nat :=
  let c3_i32 : BitVec 32 := 3#32
  let v39 : Index := Scalar.indexCast c3_i32
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_19 : BitVec 32 := 16#32
  let v38 : BitVec 32 := Scalar.muli v19 c16_i32_19
  let v40 : Index := Scalar.indexCast v38
  ![3, v40.toNat]

def k1_chk17 (i : grid1.Coords) (k1_t3 : Fin (k1_t3_loop i).trips) (v25 : IVec S16 32) (v31 : IVec S16 32) (v37 : IVec S16 32) (v43 : IVec S16 32) (v44 : IVec S16 32) : Prop :=
  (∀ a x, ((![v44, v25] : Fin 2 → IVec S16 32) a x).toNat < S16x2048.size a) ∧
  (∀ a x, ((![v44, v31] : Fin 2 → IVec S16 32) a x).toNat < S16x2048.size a) ∧
  (∀ a x, ((![v44, v37] : Fin 2 → IVec S16 32) a x).toNat < S16x2048.size a) ∧
  (∀ a x, ((![v44, v43] : Fin 2 → IVec S16 32) a x).toNat < S16x2048.size a)
theorem k1_idx65_inb : ∀ (i : grid1.Coords) (k1_t3 : Fin (k1_t3_loop i).trips) (v25 : IVec S16 32) (v31 : IVec S16 32) (v37 : IVec S16 32) (v43 : IVec S16 32) (v44 : IVec S16 32) (k1_hw17 : k1_chk17 i k1_t3 v25 v31 v37 v43 v44), ∀ a x, ((![v44, v25] : Fin 2 → IVec S16 32) a x).toNat < S16x2048.size a := fun i k1_t3 v25 v31 v37 v43 v44 k1_hw17 => k1_hw17.1
theorem k1_idx66_inb : ∀ (i : grid1.Coords) (k1_t3 : Fin (k1_t3_loop i).trips) (v25 : IVec S16 32) (v31 : IVec S16 32) (v37 : IVec S16 32) (v43 : IVec S16 32) (v44 : IVec S16 32) (k1_hw17 : k1_chk17 i k1_t3 v25 v31 v37 v43 v44), ∀ a x, ((![v44, v31] : Fin 2 → IVec S16 32) a x).toNat < S16x2048.size a := fun i k1_t3 v25 v31 v37 v43 v44 k1_hw17 => k1_hw17.2.1
theorem k1_idx67_inb : ∀ (i : grid1.Coords) (k1_t3 : Fin (k1_t3_loop i).trips) (v25 : IVec S16 32) (v31 : IVec S16 32) (v37 : IVec S16 32) (v43 : IVec S16 32) (v44 : IVec S16 32) (k1_hw17 : k1_chk17 i k1_t3 v25 v31 v37 v43 v44), ∀ a x, ((![v44, v37] : Fin 2 → IVec S16 32) a x).toNat < S16x2048.size a := fun i k1_t3 v25 v31 v37 v43 v44 k1_hw17 => k1_hw17.2.2.1
theorem k1_idx68_inb : ∀ (i : grid1.Coords) (k1_t3 : Fin (k1_t3_loop i).trips) (v25 : IVec S16 32) (v31 : IVec S16 32) (v37 : IVec S16 32) (v43 : IVec S16 32) (v44 : IVec S16 32) (k1_hw17 : k1_chk17 i k1_t3 v25 v31 v37 v43 v44), ∀ a x, ((![v44, v43] : Fin 2 → IVec S16 32) a x).toNat < S16x2048.size a := fun i k1_t3 v25 v31 v37 v43 v44 k1_hw17 => k1_hw17.2.2.2
def k1_off29 (k1_t4 : Fin k1_t4_loop.trips) : Fin 2 → Nat :=
  let c0_i32_22 : BitVec 32 := 0#32
  let v53 : Index := Scalar.indexCast c0_i32_22
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_21 : BitVec 32 := 16#32
  let v52 : BitVec 32 := Scalar.muli v19 c16_i32_21
  let v54 : Index := Scalar.indexCast v52
  ![0, v54.toNat]

def k1_chk18 (i : grid1.Coords) (k1_t3 : Fin (k1_t3_loop i).trips) (v25 : IVec S16 32) (v31 : IVec S16 32) (v37 : IVec S16 32) (v43 : IVec S16 32) (v56 : IVec S16 32) : Prop :=
  (∀ a x, ((![v56, v25] : Fin 2 → IVec S16 32) a x).toNat < S16x2048.size a) ∧
  (∀ a x, ((![v56, v31] : Fin 2 → IVec S16 32) a x).toNat < S16x2048.size a) ∧
  (∀ a x, ((![v56, v37] : Fin 2 → IVec S16 32) a x).toNat < S16x2048.size a) ∧
  (∀ a x, ((![v56, v43] : Fin 2 → IVec S16 32) a x).toNat < S16x2048.size a)
theorem k1_idx69_inb : ∀ (i : grid1.Coords) (k1_t3 : Fin (k1_t3_loop i).trips) (v25 : IVec S16 32) (v31 : IVec S16 32) (v37 : IVec S16 32) (v43 : IVec S16 32) (v56 : IVec S16 32) (k1_hw18 : k1_chk18 i k1_t3 v25 v31 v37 v43 v56), ∀ a x, ((![v56, v25] : Fin 2 → IVec S16 32) a x).toNat < S16x2048.size a := fun i k1_t3 v25 v31 v37 v43 v56 k1_hw18 => k1_hw18.1
theorem k1_idx70_inb : ∀ (i : grid1.Coords) (k1_t3 : Fin (k1_t3_loop i).trips) (v25 : IVec S16 32) (v31 : IVec S16 32) (v37 : IVec S16 32) (v43 : IVec S16 32) (v56 : IVec S16 32) (k1_hw18 : k1_chk18 i k1_t3 v25 v31 v37 v43 v56), ∀ a x, ((![v56, v31] : Fin 2 → IVec S16 32) a x).toNat < S16x2048.size a := fun i k1_t3 v25 v31 v37 v43 v56 k1_hw18 => k1_hw18.2.1
theorem k1_idx71_inb : ∀ (i : grid1.Coords) (k1_t3 : Fin (k1_t3_loop i).trips) (v25 : IVec S16 32) (v31 : IVec S16 32) (v37 : IVec S16 32) (v43 : IVec S16 32) (v56 : IVec S16 32) (k1_hw18 : k1_chk18 i k1_t3 v25 v31 v37 v43 v56), ∀ a x, ((![v56, v37] : Fin 2 → IVec S16 32) a x).toNat < S16x2048.size a := fun i k1_t3 v25 v31 v37 v43 v56 k1_hw18 => k1_hw18.2.2.1
theorem k1_idx72_inb : ∀ (i : grid1.Coords) (k1_t3 : Fin (k1_t3_loop i).trips) (v25 : IVec S16 32) (v31 : IVec S16 32) (v37 : IVec S16 32) (v43 : IVec S16 32) (v56 : IVec S16 32) (k1_hw18 : k1_chk18 i k1_t3 v25 v31 v37 v43 v56), ∀ a x, ((![v56, v43] : Fin 2 → IVec S16 32) a x).toNat < S16x2048.size a := fun i k1_t3 v25 v31 v37 v43 v56 k1_hw18 => k1_hw18.2.2.2
def k1_off30 (k1_t4 : Fin k1_t4_loop.trips) : Fin 2 → Nat :=
  let c1_i32_25 : BitVec 32 := 1#32
  let v65 : Index := Scalar.indexCast c1_i32_25
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_24 : BitVec 32 := 16#32
  let v64 : BitVec 32 := Scalar.muli v19 c16_i32_24
  let v66 : Index := Scalar.indexCast v64
  ![1, v66.toNat]

def k1_chk19 (i : grid1.Coords) (k1_t3 : Fin (k1_t3_loop i).trips) (v25 : IVec S16 32) (v31 : IVec S16 32) (v37 : IVec S16 32) (v43 : IVec S16 32) (v68 : IVec S16 32) : Prop :=
  (∀ a x, ((![v68, v25] : Fin 2 → IVec S16 32) a x).toNat < S16x2048.size a) ∧
  (∀ a x, ((![v68, v31] : Fin 2 → IVec S16 32) a x).toNat < S16x2048.size a) ∧
  (∀ a x, ((![v68, v37] : Fin 2 → IVec S16 32) a x).toNat < S16x2048.size a) ∧
  (∀ a x, ((![v68, v43] : Fin 2 → IVec S16 32) a x).toNat < S16x2048.size a)
theorem k1_idx73_inb : ∀ (i : grid1.Coords) (k1_t3 : Fin (k1_t3_loop i).trips) (v25 : IVec S16 32) (v31 : IVec S16 32) (v37 : IVec S16 32) (v43 : IVec S16 32) (v68 : IVec S16 32) (k1_hw19 : k1_chk19 i k1_t3 v25 v31 v37 v43 v68), ∀ a x, ((![v68, v25] : Fin 2 → IVec S16 32) a x).toNat < S16x2048.size a := fun i k1_t3 v25 v31 v37 v43 v68 k1_hw19 => k1_hw19.1
theorem k1_idx74_inb : ∀ (i : grid1.Coords) (k1_t3 : Fin (k1_t3_loop i).trips) (v25 : IVec S16 32) (v31 : IVec S16 32) (v37 : IVec S16 32) (v43 : IVec S16 32) (v68 : IVec S16 32) (k1_hw19 : k1_chk19 i k1_t3 v25 v31 v37 v43 v68), ∀ a x, ((![v68, v31] : Fin 2 → IVec S16 32) a x).toNat < S16x2048.size a := fun i k1_t3 v25 v31 v37 v43 v68 k1_hw19 => k1_hw19.2.1
theorem k1_idx75_inb : ∀ (i : grid1.Coords) (k1_t3 : Fin (k1_t3_loop i).trips) (v25 : IVec S16 32) (v31 : IVec S16 32) (v37 : IVec S16 32) (v43 : IVec S16 32) (v68 : IVec S16 32) (k1_hw19 : k1_chk19 i k1_t3 v25 v31 v37 v43 v68), ∀ a x, ((![v68, v37] : Fin 2 → IVec S16 32) a x).toNat < S16x2048.size a := fun i k1_t3 v25 v31 v37 v43 v68 k1_hw19 => k1_hw19.2.2.1
theorem k1_idx76_inb : ∀ (i : grid1.Coords) (k1_t3 : Fin (k1_t3_loop i).trips) (v25 : IVec S16 32) (v31 : IVec S16 32) (v37 : IVec S16 32) (v43 : IVec S16 32) (v68 : IVec S16 32) (k1_hw19 : k1_chk19 i k1_t3 v25 v31 v37 v43 v68), ∀ a x, ((![v68, v43] : Fin 2 → IVec S16 32) a x).toNat < S16x2048.size a := fun i k1_t3 v25 v31 v37 v43 v68 k1_hw19 => k1_hw19.2.2.2
def k1_off31 (k1_t4 : Fin k1_t4_loop.trips) : Fin 2 → Nat :=
  let c2_i32_28 : BitVec 32 := 2#32
  let v77 : Index := Scalar.indexCast c2_i32_28
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_27 : BitVec 32 := 16#32
  let v76 : BitVec 32 := Scalar.muli v19 c16_i32_27
  let v78 : Index := Scalar.indexCast v76
  ![2, v78.toNat]

def k1_chk20 (i : grid1.Coords) (k1_t3 : Fin (k1_t3_loop i).trips) (v25 : IVec S16 32) (v31 : IVec S16 32) (v37 : IVec S16 32) (v43 : IVec S16 32) (v80 : IVec S16 32) : Prop :=
  (∀ a x, ((![v80, v25] : Fin 2 → IVec S16 32) a x).toNat < S16x2048.size a) ∧
  (∀ a x, ((![v80, v31] : Fin 2 → IVec S16 32) a x).toNat < S16x2048.size a) ∧
  (∀ a x, ((![v80, v37] : Fin 2 → IVec S16 32) a x).toNat < S16x2048.size a) ∧
  (∀ a x, ((![v80, v43] : Fin 2 → IVec S16 32) a x).toNat < S16x2048.size a)
theorem k1_idx77_inb : ∀ (i : grid1.Coords) (k1_t3 : Fin (k1_t3_loop i).trips) (v25 : IVec S16 32) (v31 : IVec S16 32) (v37 : IVec S16 32) (v43 : IVec S16 32) (v80 : IVec S16 32) (k1_hw20 : k1_chk20 i k1_t3 v25 v31 v37 v43 v80), ∀ a x, ((![v80, v25] : Fin 2 → IVec S16 32) a x).toNat < S16x2048.size a := fun i k1_t3 v25 v31 v37 v43 v80 k1_hw20 => k1_hw20.1
theorem k1_idx78_inb : ∀ (i : grid1.Coords) (k1_t3 : Fin (k1_t3_loop i).trips) (v25 : IVec S16 32) (v31 : IVec S16 32) (v37 : IVec S16 32) (v43 : IVec S16 32) (v80 : IVec S16 32) (k1_hw20 : k1_chk20 i k1_t3 v25 v31 v37 v43 v80), ∀ a x, ((![v80, v31] : Fin 2 → IVec S16 32) a x).toNat < S16x2048.size a := fun i k1_t3 v25 v31 v37 v43 v80 k1_hw20 => k1_hw20.2.1
theorem k1_idx79_inb : ∀ (i : grid1.Coords) (k1_t3 : Fin (k1_t3_loop i).trips) (v25 : IVec S16 32) (v31 : IVec S16 32) (v37 : IVec S16 32) (v43 : IVec S16 32) (v80 : IVec S16 32) (k1_hw20 : k1_chk20 i k1_t3 v25 v31 v37 v43 v80), ∀ a x, ((![v80, v37] : Fin 2 → IVec S16 32) a x).toNat < S16x2048.size a := fun i k1_t3 v25 v31 v37 v43 v80 k1_hw20 => k1_hw20.2.2.1
theorem k1_idx80_inb : ∀ (i : grid1.Coords) (k1_t3 : Fin (k1_t3_loop i).trips) (v25 : IVec S16 32) (v31 : IVec S16 32) (v37 : IVec S16 32) (v43 : IVec S16 32) (v80 : IVec S16 32) (k1_hw20 : k1_chk20 i k1_t3 v25 v31 v37 v43 v80), ∀ a x, ((![v80, v43] : Fin 2 → IVec S16 32) a x).toNat < S16x2048.size a := fun i k1_t3 v25 v31 v37 v43 v80 k1_hw20 => k1_hw20.2.2.2
def k1_off32 (k1_t4 : Fin k1_t4_loop.trips) : Fin 2 → Nat :=
  let c3_i32_31 : BitVec 32 := 3#32
  let v89 : Index := Scalar.indexCast c3_i32_31
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_30 : BitVec 32 := 16#32
  let v88 : BitVec 32 := Scalar.muli v19 c16_i32_30
  let v90 : Index := Scalar.indexCast v88
  ![3, v90.toNat]

def k1_chk21 (i : grid1.Coords) (k1_t3 : Fin (k1_t3_loop i).trips) (v25 : IVec S16 32) (v31 : IVec S16 32) (v37 : IVec S16 32) (v43 : IVec S16 32) (v92 : IVec S16 32) : Prop :=
  (∀ a x, ((![v92, v25] : Fin 2 → IVec S16 32) a x).toNat < S16x2048.size a) ∧
  (∀ a x, ((![v92, v31] : Fin 2 → IVec S16 32) a x).toNat < S16x2048.size a) ∧
  (∀ a x, ((![v92, v37] : Fin 2 → IVec S16 32) a x).toNat < S16x2048.size a) ∧
  (∀ a x, ((![v92, v43] : Fin 2 → IVec S16 32) a x).toNat < S16x2048.size a)
theorem k1_idx81_inb : ∀ (i : grid1.Coords) (k1_t3 : Fin (k1_t3_loop i).trips) (v25 : IVec S16 32) (v31 : IVec S16 32) (v37 : IVec S16 32) (v43 : IVec S16 32) (v92 : IVec S16 32) (k1_hw21 : k1_chk21 i k1_t3 v25 v31 v37 v43 v92), ∀ a x, ((![v92, v25] : Fin 2 → IVec S16 32) a x).toNat < S16x2048.size a := fun i k1_t3 v25 v31 v37 v43 v92 k1_hw21 => k1_hw21.1
theorem k1_idx82_inb : ∀ (i : grid1.Coords) (k1_t3 : Fin (k1_t3_loop i).trips) (v25 : IVec S16 32) (v31 : IVec S16 32) (v37 : IVec S16 32) (v43 : IVec S16 32) (v92 : IVec S16 32) (k1_hw21 : k1_chk21 i k1_t3 v25 v31 v37 v43 v92), ∀ a x, ((![v92, v31] : Fin 2 → IVec S16 32) a x).toNat < S16x2048.size a := fun i k1_t3 v25 v31 v37 v43 v92 k1_hw21 => k1_hw21.2.1
theorem k1_idx83_inb : ∀ (i : grid1.Coords) (k1_t3 : Fin (k1_t3_loop i).trips) (v25 : IVec S16 32) (v31 : IVec S16 32) (v37 : IVec S16 32) (v43 : IVec S16 32) (v92 : IVec S16 32) (k1_hw21 : k1_chk21 i k1_t3 v25 v31 v37 v43 v92), ∀ a x, ((![v92, v37] : Fin 2 → IVec S16 32) a x).toNat < S16x2048.size a := fun i k1_t3 v25 v31 v37 v43 v92 k1_hw21 => k1_hw21.2.2.1
theorem k1_idx84_inb : ∀ (i : grid1.Coords) (k1_t3 : Fin (k1_t3_loop i).trips) (v25 : IVec S16 32) (v31 : IVec S16 32) (v37 : IVec S16 32) (v43 : IVec S16 32) (v92 : IVec S16 32) (k1_hw21 : k1_chk21 i k1_t3 v25 v31 v37 v43 v92), ∀ a x, ((![v92, v43] : Fin 2 → IVec S16 32) a x).toNat < S16x2048.size a := fun i k1_t3 v25 v31 v37 v43 v92 k1_hw21 => k1_hw21.2.2.2
def k1_off33 (k1_t4 : Fin k1_t4_loop.trips) : Fin 2 → Nat :=
  let c4_i32_33 : BitVec 32 := 4#32
  let v101 : Index := Scalar.indexCast c4_i32_33
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_32 : BitVec 32 := 16#32
  let v100 : BitVec 32 := Scalar.muli v19 c16_i32_32
  let v102 : Index := Scalar.indexCast v100
  ![4, v102.toNat]

def k1_chk22 (i : grid1.Coords) (k1_t3 : Fin (k1_t3_loop i).trips) (v25 : IVec S16 32) (v31 : IVec S16 32) (v37 : IVec S16 32) (v43 : IVec S16 32) (v104 : IVec S16 32) : Prop :=
  (∀ a x, ((![v104, v25] : Fin 2 → IVec S16 32) a x).toNat < S16x2048.size a) ∧
  (∀ a x, ((![v104, v31] : Fin 2 → IVec S16 32) a x).toNat < S16x2048.size a) ∧
  (∀ a x, ((![v104, v37] : Fin 2 → IVec S16 32) a x).toNat < S16x2048.size a) ∧
  (∀ a x, ((![v104, v43] : Fin 2 → IVec S16 32) a x).toNat < S16x2048.size a)
theorem k1_idx85_inb : ∀ (i : grid1.Coords) (k1_t3 : Fin (k1_t3_loop i).trips) (v25 : IVec S16 32) (v31 : IVec S16 32) (v37 : IVec S16 32) (v43 : IVec S16 32) (v104 : IVec S16 32) (k1_hw22 : k1_chk22 i k1_t3 v25 v31 v37 v43 v104), ∀ a x, ((![v104, v25] : Fin 2 → IVec S16 32) a x).toNat < S16x2048.size a := fun i k1_t3 v25 v31 v37 v43 v104 k1_hw22 => k1_hw22.1
theorem k1_idx86_inb : ∀ (i : grid1.Coords) (k1_t3 : Fin (k1_t3_loop i).trips) (v25 : IVec S16 32) (v31 : IVec S16 32) (v37 : IVec S16 32) (v43 : IVec S16 32) (v104 : IVec S16 32) (k1_hw22 : k1_chk22 i k1_t3 v25 v31 v37 v43 v104), ∀ a x, ((![v104, v31] : Fin 2 → IVec S16 32) a x).toNat < S16x2048.size a := fun i k1_t3 v25 v31 v37 v43 v104 k1_hw22 => k1_hw22.2.1
theorem k1_idx87_inb : ∀ (i : grid1.Coords) (k1_t3 : Fin (k1_t3_loop i).trips) (v25 : IVec S16 32) (v31 : IVec S16 32) (v37 : IVec S16 32) (v43 : IVec S16 32) (v104 : IVec S16 32) (k1_hw22 : k1_chk22 i k1_t3 v25 v31 v37 v43 v104), ∀ a x, ((![v104, v37] : Fin 2 → IVec S16 32) a x).toNat < S16x2048.size a := fun i k1_t3 v25 v31 v37 v43 v104 k1_hw22 => k1_hw22.2.2.1
theorem k1_idx88_inb : ∀ (i : grid1.Coords) (k1_t3 : Fin (k1_t3_loop i).trips) (v25 : IVec S16 32) (v31 : IVec S16 32) (v37 : IVec S16 32) (v43 : IVec S16 32) (v104 : IVec S16 32) (k1_hw22 : k1_chk22 i k1_t3 v25 v31 v37 v43 v104), ∀ a x, ((![v104, v43] : Fin 2 → IVec S16 32) a x).toNat < S16x2048.size a := fun i k1_t3 v25 v31 v37 v43 v104 k1_hw22 => k1_hw22.2.2.2
def k1_off34 (k1_t4 : Fin k1_t4_loop.trips) : Fin 2 → Nat :=
  let c5_i32_35 : BitVec 32 := 5#32
  let v113 : Index := Scalar.indexCast c5_i32_35
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_34 : BitVec 32 := 16#32
  let v112 : BitVec 32 := Scalar.muli v19 c16_i32_34
  let v114 : Index := Scalar.indexCast v112
  ![5, v114.toNat]

def k1_chk23 (i : grid1.Coords) (k1_t3 : Fin (k1_t3_loop i).trips) (v25 : IVec S16 32) (v31 : IVec S16 32) (v37 : IVec S16 32) (v43 : IVec S16 32) (v116 : IVec S16 32) : Prop :=
  (∀ a x, ((![v116, v25] : Fin 2 → IVec S16 32) a x).toNat < S16x2048.size a) ∧
  (∀ a x, ((![v116, v31] : Fin 2 → IVec S16 32) a x).toNat < S16x2048.size a) ∧
  (∀ a x, ((![v116, v37] : Fin 2 → IVec S16 32) a x).toNat < S16x2048.size a) ∧
  (∀ a x, ((![v116, v43] : Fin 2 → IVec S16 32) a x).toNat < S16x2048.size a)
theorem k1_idx89_inb : ∀ (i : grid1.Coords) (k1_t3 : Fin (k1_t3_loop i).trips) (v25 : IVec S16 32) (v31 : IVec S16 32) (v37 : IVec S16 32) (v43 : IVec S16 32) (v116 : IVec S16 32) (k1_hw23 : k1_chk23 i k1_t3 v25 v31 v37 v43 v116), ∀ a x, ((![v116, v25] : Fin 2 → IVec S16 32) a x).toNat < S16x2048.size a := fun i k1_t3 v25 v31 v37 v43 v116 k1_hw23 => k1_hw23.1
theorem k1_idx90_inb : ∀ (i : grid1.Coords) (k1_t3 : Fin (k1_t3_loop i).trips) (v25 : IVec S16 32) (v31 : IVec S16 32) (v37 : IVec S16 32) (v43 : IVec S16 32) (v116 : IVec S16 32) (k1_hw23 : k1_chk23 i k1_t3 v25 v31 v37 v43 v116), ∀ a x, ((![v116, v31] : Fin 2 → IVec S16 32) a x).toNat < S16x2048.size a := fun i k1_t3 v25 v31 v37 v43 v116 k1_hw23 => k1_hw23.2.1
theorem k1_idx91_inb : ∀ (i : grid1.Coords) (k1_t3 : Fin (k1_t3_loop i).trips) (v25 : IVec S16 32) (v31 : IVec S16 32) (v37 : IVec S16 32) (v43 : IVec S16 32) (v116 : IVec S16 32) (k1_hw23 : k1_chk23 i k1_t3 v25 v31 v37 v43 v116), ∀ a x, ((![v116, v37] : Fin 2 → IVec S16 32) a x).toNat < S16x2048.size a := fun i k1_t3 v25 v31 v37 v43 v116 k1_hw23 => k1_hw23.2.2.1
theorem k1_idx92_inb : ∀ (i : grid1.Coords) (k1_t3 : Fin (k1_t3_loop i).trips) (v25 : IVec S16 32) (v31 : IVec S16 32) (v37 : IVec S16 32) (v43 : IVec S16 32) (v116 : IVec S16 32) (k1_hw23 : k1_chk23 i k1_t3 v25 v31 v37 v43 v116), ∀ a x, ((![v116, v43] : Fin 2 → IVec S16 32) a x).toNat < S16x2048.size a := fun i k1_t3 v25 v31 v37 v43 v116 k1_hw23 => k1_hw23.2.2.2
def k1_off35 (k1_t4 : Fin k1_t4_loop.trips) : Fin 2 → Nat :=
  let c6_i32_37 : BitVec 32 := 6#32
  let v125 : Index := Scalar.indexCast c6_i32_37
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_36 : BitVec 32 := 16#32
  let v124 : BitVec 32 := Scalar.muli v19 c16_i32_36
  let v126 : Index := Scalar.indexCast v124
  ![6, v126.toNat]

def k1_chk24 (i : grid1.Coords) (k1_t3 : Fin (k1_t3_loop i).trips) (v25 : IVec S16 32) (v31 : IVec S16 32) (v37 : IVec S16 32) (v43 : IVec S16 32) (v128 : IVec S16 32) : Prop :=
  (∀ a x, ((![v128, v25] : Fin 2 → IVec S16 32) a x).toNat < S16x2048.size a) ∧
  (∀ a x, ((![v128, v31] : Fin 2 → IVec S16 32) a x).toNat < S16x2048.size a) ∧
  (∀ a x, ((![v128, v37] : Fin 2 → IVec S16 32) a x).toNat < S16x2048.size a) ∧
  (∀ a x, ((![v128, v43] : Fin 2 → IVec S16 32) a x).toNat < S16x2048.size a)
theorem k1_idx93_inb : ∀ (i : grid1.Coords) (k1_t3 : Fin (k1_t3_loop i).trips) (v25 : IVec S16 32) (v31 : IVec S16 32) (v37 : IVec S16 32) (v43 : IVec S16 32) (v128 : IVec S16 32) (k1_hw24 : k1_chk24 i k1_t3 v25 v31 v37 v43 v128), ∀ a x, ((![v128, v25] : Fin 2 → IVec S16 32) a x).toNat < S16x2048.size a := fun i k1_t3 v25 v31 v37 v43 v128 k1_hw24 => k1_hw24.1
theorem k1_idx94_inb : ∀ (i : grid1.Coords) (k1_t3 : Fin (k1_t3_loop i).trips) (v25 : IVec S16 32) (v31 : IVec S16 32) (v37 : IVec S16 32) (v43 : IVec S16 32) (v128 : IVec S16 32) (k1_hw24 : k1_chk24 i k1_t3 v25 v31 v37 v43 v128), ∀ a x, ((![v128, v31] : Fin 2 → IVec S16 32) a x).toNat < S16x2048.size a := fun i k1_t3 v25 v31 v37 v43 v128 k1_hw24 => k1_hw24.2.1
theorem k1_idx95_inb : ∀ (i : grid1.Coords) (k1_t3 : Fin (k1_t3_loop i).trips) (v25 : IVec S16 32) (v31 : IVec S16 32) (v37 : IVec S16 32) (v43 : IVec S16 32) (v128 : IVec S16 32) (k1_hw24 : k1_chk24 i k1_t3 v25 v31 v37 v43 v128), ∀ a x, ((![v128, v37] : Fin 2 → IVec S16 32) a x).toNat < S16x2048.size a := fun i k1_t3 v25 v31 v37 v43 v128 k1_hw24 => k1_hw24.2.2.1
theorem k1_idx96_inb : ∀ (i : grid1.Coords) (k1_t3 : Fin (k1_t3_loop i).trips) (v25 : IVec S16 32) (v31 : IVec S16 32) (v37 : IVec S16 32) (v43 : IVec S16 32) (v128 : IVec S16 32) (k1_hw24 : k1_chk24 i k1_t3 v25 v31 v37 v43 v128), ∀ a x, ((![v128, v43] : Fin 2 → IVec S16 32) a x).toNat < S16x2048.size a := fun i k1_t3 v25 v31 v37 v43 v128 k1_hw24 => k1_hw24.2.2.2
def k1_off36 (k1_t4 : Fin k1_t4_loop.trips) : Fin 2 → Nat :=
  let c7_i32_39 : BitVec 32 := 7#32
  let v137 : Index := Scalar.indexCast c7_i32_39
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_38 : BitVec 32 := 16#32
  let v136 : BitVec 32 := Scalar.muli v19 c16_i32_38
  let v138 : Index := Scalar.indexCast v136
  ![7, v138.toNat]

def k1_chk25 (i : grid1.Coords) (k1_t3 : Fin (k1_t3_loop i).trips) (v25 : IVec S16 32) (v31 : IVec S16 32) (v37 : IVec S16 32) (v43 : IVec S16 32) (v140 : IVec S16 32) : Prop :=
  (∀ a x, ((![v140, v25] : Fin 2 → IVec S16 32) a x).toNat < S16x2048.size a) ∧
  (∀ a x, ((![v140, v31] : Fin 2 → IVec S16 32) a x).toNat < S16x2048.size a) ∧
  (∀ a x, ((![v140, v37] : Fin 2 → IVec S16 32) a x).toNat < S16x2048.size a) ∧
  (∀ a x, ((![v140, v43] : Fin 2 → IVec S16 32) a x).toNat < S16x2048.size a)
theorem k1_idx97_inb : ∀ (i : grid1.Coords) (k1_t3 : Fin (k1_t3_loop i).trips) (v25 : IVec S16 32) (v31 : IVec S16 32) (v37 : IVec S16 32) (v43 : IVec S16 32) (v140 : IVec S16 32) (k1_hw25 : k1_chk25 i k1_t3 v25 v31 v37 v43 v140), ∀ a x, ((![v140, v25] : Fin 2 → IVec S16 32) a x).toNat < S16x2048.size a := fun i k1_t3 v25 v31 v37 v43 v140 k1_hw25 => k1_hw25.1
theorem k1_idx98_inb : ∀ (i : grid1.Coords) (k1_t3 : Fin (k1_t3_loop i).trips) (v25 : IVec S16 32) (v31 : IVec S16 32) (v37 : IVec S16 32) (v43 : IVec S16 32) (v140 : IVec S16 32) (k1_hw25 : k1_chk25 i k1_t3 v25 v31 v37 v43 v140), ∀ a x, ((![v140, v31] : Fin 2 → IVec S16 32) a x).toNat < S16x2048.size a := fun i k1_t3 v25 v31 v37 v43 v140 k1_hw25 => k1_hw25.2.1
theorem k1_idx99_inb : ∀ (i : grid1.Coords) (k1_t3 : Fin (k1_t3_loop i).trips) (v25 : IVec S16 32) (v31 : IVec S16 32) (v37 : IVec S16 32) (v43 : IVec S16 32) (v140 : IVec S16 32) (k1_hw25 : k1_chk25 i k1_t3 v25 v31 v37 v43 v140), ∀ a x, ((![v140, v37] : Fin 2 → IVec S16 32) a x).toNat < S16x2048.size a := fun i k1_t3 v25 v31 v37 v43 v140 k1_hw25 => k1_hw25.2.2.1
theorem k1_idx100_inb : ∀ (i : grid1.Coords) (k1_t3 : Fin (k1_t3_loop i).trips) (v25 : IVec S16 32) (v31 : IVec S16 32) (v37 : IVec S16 32) (v43 : IVec S16 32) (v140 : IVec S16 32) (k1_hw25 : k1_chk25 i k1_t3 v25 v31 v37 v43 v140), ∀ a x, ((![v140, v43] : Fin 2 → IVec S16 32) a x).toNat < S16x2048.size a := fun i k1_t3 v25 v31 v37 v43 v140 k1_hw25 => k1_hw25.2.2.2
def k1_off37 (k1_t4 : Fin k1_t4_loop.trips) : Fin 2 → Nat :=
  let c8_i32_41 : BitVec 32 := 8#32
  let v149 : Index := Scalar.indexCast c8_i32_41
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_40 : BitVec 32 := 16#32
  let v148 : BitVec 32 := Scalar.muli v19 c16_i32_40
  let v150 : Index := Scalar.indexCast v148
  ![8, v150.toNat]

def k1_chk26 (i : grid1.Coords) (k1_t3 : Fin (k1_t3_loop i).trips) (v25 : IVec S16 32) (v31 : IVec S16 32) (v37 : IVec S16 32) (v43 : IVec S16 32) (v152 : IVec S16 32) : Prop :=
  (∀ a x, ((![v152, v25] : Fin 2 → IVec S16 32) a x).toNat < S16x2048.size a) ∧
  (∀ a x, ((![v152, v31] : Fin 2 → IVec S16 32) a x).toNat < S16x2048.size a) ∧
  (∀ a x, ((![v152, v37] : Fin 2 → IVec S16 32) a x).toNat < S16x2048.size a) ∧
  (∀ a x, ((![v152, v43] : Fin 2 → IVec S16 32) a x).toNat < S16x2048.size a)
theorem k1_idx101_inb : ∀ (i : grid1.Coords) (k1_t3 : Fin (k1_t3_loop i).trips) (v25 : IVec S16 32) (v31 : IVec S16 32) (v37 : IVec S16 32) (v43 : IVec S16 32) (v152 : IVec S16 32) (k1_hw26 : k1_chk26 i k1_t3 v25 v31 v37 v43 v152), ∀ a x, ((![v152, v25] : Fin 2 → IVec S16 32) a x).toNat < S16x2048.size a := fun i k1_t3 v25 v31 v37 v43 v152 k1_hw26 => k1_hw26.1
theorem k1_idx102_inb : ∀ (i : grid1.Coords) (k1_t3 : Fin (k1_t3_loop i).trips) (v25 : IVec S16 32) (v31 : IVec S16 32) (v37 : IVec S16 32) (v43 : IVec S16 32) (v152 : IVec S16 32) (k1_hw26 : k1_chk26 i k1_t3 v25 v31 v37 v43 v152), ∀ a x, ((![v152, v31] : Fin 2 → IVec S16 32) a x).toNat < S16x2048.size a := fun i k1_t3 v25 v31 v37 v43 v152 k1_hw26 => k1_hw26.2.1
theorem k1_idx103_inb : ∀ (i : grid1.Coords) (k1_t3 : Fin (k1_t3_loop i).trips) (v25 : IVec S16 32) (v31 : IVec S16 32) (v37 : IVec S16 32) (v43 : IVec S16 32) (v152 : IVec S16 32) (k1_hw26 : k1_chk26 i k1_t3 v25 v31 v37 v43 v152), ∀ a x, ((![v152, v37] : Fin 2 → IVec S16 32) a x).toNat < S16x2048.size a := fun i k1_t3 v25 v31 v37 v43 v152 k1_hw26 => k1_hw26.2.2.1
theorem k1_idx104_inb : ∀ (i : grid1.Coords) (k1_t3 : Fin (k1_t3_loop i).trips) (v25 : IVec S16 32) (v31 : IVec S16 32) (v37 : IVec S16 32) (v43 : IVec S16 32) (v152 : IVec S16 32) (k1_hw26 : k1_chk26 i k1_t3 v25 v31 v37 v43 v152), ∀ a x, ((![v152, v43] : Fin 2 → IVec S16 32) a x).toNat < S16x2048.size a := fun i k1_t3 v25 v31 v37 v43 v152 k1_hw26 => k1_hw26.2.2.2
def k1_off38 (k1_t4 : Fin k1_t4_loop.trips) : Fin 2 → Nat :=
  let c9_i32_43 : BitVec 32 := 9#32
  let v161 : Index := Scalar.indexCast c9_i32_43
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_42 : BitVec 32 := 16#32
  let v160 : BitVec 32 := Scalar.muli v19 c16_i32_42
  let v162 : Index := Scalar.indexCast v160
  ![9, v162.toNat]

def k1_chk27 (i : grid1.Coords) (k1_t3 : Fin (k1_t3_loop i).trips) (v25 : IVec S16 32) (v31 : IVec S16 32) (v37 : IVec S16 32) (v43 : IVec S16 32) (v164 : IVec S16 32) : Prop :=
  (∀ a x, ((![v164, v25] : Fin 2 → IVec S16 32) a x).toNat < S16x2048.size a) ∧
  (∀ a x, ((![v164, v31] : Fin 2 → IVec S16 32) a x).toNat < S16x2048.size a) ∧
  (∀ a x, ((![v164, v37] : Fin 2 → IVec S16 32) a x).toNat < S16x2048.size a) ∧
  (∀ a x, ((![v164, v43] : Fin 2 → IVec S16 32) a x).toNat < S16x2048.size a)
theorem k1_idx105_inb : ∀ (i : grid1.Coords) (k1_t3 : Fin (k1_t3_loop i).trips) (v25 : IVec S16 32) (v31 : IVec S16 32) (v37 : IVec S16 32) (v43 : IVec S16 32) (v164 : IVec S16 32) (k1_hw27 : k1_chk27 i k1_t3 v25 v31 v37 v43 v164), ∀ a x, ((![v164, v25] : Fin 2 → IVec S16 32) a x).toNat < S16x2048.size a := fun i k1_t3 v25 v31 v37 v43 v164 k1_hw27 => k1_hw27.1
theorem k1_idx106_inb : ∀ (i : grid1.Coords) (k1_t3 : Fin (k1_t3_loop i).trips) (v25 : IVec S16 32) (v31 : IVec S16 32) (v37 : IVec S16 32) (v43 : IVec S16 32) (v164 : IVec S16 32) (k1_hw27 : k1_chk27 i k1_t3 v25 v31 v37 v43 v164), ∀ a x, ((![v164, v31] : Fin 2 → IVec S16 32) a x).toNat < S16x2048.size a := fun i k1_t3 v25 v31 v37 v43 v164 k1_hw27 => k1_hw27.2.1
theorem k1_idx107_inb : ∀ (i : grid1.Coords) (k1_t3 : Fin (k1_t3_loop i).trips) (v25 : IVec S16 32) (v31 : IVec S16 32) (v37 : IVec S16 32) (v43 : IVec S16 32) (v164 : IVec S16 32) (k1_hw27 : k1_chk27 i k1_t3 v25 v31 v37 v43 v164), ∀ a x, ((![v164, v37] : Fin 2 → IVec S16 32) a x).toNat < S16x2048.size a := fun i k1_t3 v25 v31 v37 v43 v164 k1_hw27 => k1_hw27.2.2.1
theorem k1_idx108_inb : ∀ (i : grid1.Coords) (k1_t3 : Fin (k1_t3_loop i).trips) (v25 : IVec S16 32) (v31 : IVec S16 32) (v37 : IVec S16 32) (v43 : IVec S16 32) (v164 : IVec S16 32) (k1_hw27 : k1_chk27 i k1_t3 v25 v31 v37 v43 v164), ∀ a x, ((![v164, v43] : Fin 2 → IVec S16 32) a x).toNat < S16x2048.size a := fun i k1_t3 v25 v31 v37 v43 v164 k1_hw27 => k1_hw27.2.2.2
def k1_off39 (k1_t4 : Fin k1_t4_loop.trips) : Fin 2 → Nat :=
  let c10_i32_45 : BitVec 32 := 10#32
  let v173 : Index := Scalar.indexCast c10_i32_45
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_44 : BitVec 32 := 16#32
  let v172 : BitVec 32 := Scalar.muli v19 c16_i32_44
  let v174 : Index := Scalar.indexCast v172
  ![10, v174.toNat]

def k1_chk28 (i : grid1.Coords) (k1_t3 : Fin (k1_t3_loop i).trips) (v25 : IVec S16 32) (v31 : IVec S16 32) (v37 : IVec S16 32) (v43 : IVec S16 32) (v176 : IVec S16 32) : Prop :=
  (∀ a x, ((![v176, v25] : Fin 2 → IVec S16 32) a x).toNat < S16x2048.size a) ∧
  (∀ a x, ((![v176, v31] : Fin 2 → IVec S16 32) a x).toNat < S16x2048.size a) ∧
  (∀ a x, ((![v176, v37] : Fin 2 → IVec S16 32) a x).toNat < S16x2048.size a) ∧
  (∀ a x, ((![v176, v43] : Fin 2 → IVec S16 32) a x).toNat < S16x2048.size a)
theorem k1_idx109_inb : ∀ (i : grid1.Coords) (k1_t3 : Fin (k1_t3_loop i).trips) (v25 : IVec S16 32) (v31 : IVec S16 32) (v37 : IVec S16 32) (v43 : IVec S16 32) (v176 : IVec S16 32) (k1_hw28 : k1_chk28 i k1_t3 v25 v31 v37 v43 v176), ∀ a x, ((![v176, v25] : Fin 2 → IVec S16 32) a x).toNat < S16x2048.size a := fun i k1_t3 v25 v31 v37 v43 v176 k1_hw28 => k1_hw28.1
theorem k1_idx110_inb : ∀ (i : grid1.Coords) (k1_t3 : Fin (k1_t3_loop i).trips) (v25 : IVec S16 32) (v31 : IVec S16 32) (v37 : IVec S16 32) (v43 : IVec S16 32) (v176 : IVec S16 32) (k1_hw28 : k1_chk28 i k1_t3 v25 v31 v37 v43 v176), ∀ a x, ((![v176, v31] : Fin 2 → IVec S16 32) a x).toNat < S16x2048.size a := fun i k1_t3 v25 v31 v37 v43 v176 k1_hw28 => k1_hw28.2.1
theorem k1_idx111_inb : ∀ (i : grid1.Coords) (k1_t3 : Fin (k1_t3_loop i).trips) (v25 : IVec S16 32) (v31 : IVec S16 32) (v37 : IVec S16 32) (v43 : IVec S16 32) (v176 : IVec S16 32) (k1_hw28 : k1_chk28 i k1_t3 v25 v31 v37 v43 v176), ∀ a x, ((![v176, v37] : Fin 2 → IVec S16 32) a x).toNat < S16x2048.size a := fun i k1_t3 v25 v31 v37 v43 v176 k1_hw28 => k1_hw28.2.2.1
theorem k1_idx112_inb : ∀ (i : grid1.Coords) (k1_t3 : Fin (k1_t3_loop i).trips) (v25 : IVec S16 32) (v31 : IVec S16 32) (v37 : IVec S16 32) (v43 : IVec S16 32) (v176 : IVec S16 32) (k1_hw28 : k1_chk28 i k1_t3 v25 v31 v37 v43 v176), ∀ a x, ((![v176, v43] : Fin 2 → IVec S16 32) a x).toNat < S16x2048.size a := fun i k1_t3 v25 v31 v37 v43 v176 k1_hw28 => k1_hw28.2.2.2
def k1_off40 (k1_t4 : Fin k1_t4_loop.trips) : Fin 2 → Nat :=
  let c11_i32_47 : BitVec 32 := 11#32
  let v185 : Index := Scalar.indexCast c11_i32_47
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_46 : BitVec 32 := 16#32
  let v184 : BitVec 32 := Scalar.muli v19 c16_i32_46
  let v186 : Index := Scalar.indexCast v184
  ![11, v186.toNat]

def k1_chk29 (i : grid1.Coords) (k1_t3 : Fin (k1_t3_loop i).trips) (v25 : IVec S16 32) (v31 : IVec S16 32) (v37 : IVec S16 32) (v43 : IVec S16 32) (v188 : IVec S16 32) : Prop :=
  (∀ a x, ((![v188, v25] : Fin 2 → IVec S16 32) a x).toNat < S16x2048.size a) ∧
  (∀ a x, ((![v188, v31] : Fin 2 → IVec S16 32) a x).toNat < S16x2048.size a) ∧
  (∀ a x, ((![v188, v37] : Fin 2 → IVec S16 32) a x).toNat < S16x2048.size a) ∧
  (∀ a x, ((![v188, v43] : Fin 2 → IVec S16 32) a x).toNat < S16x2048.size a)
theorem k1_idx113_inb : ∀ (i : grid1.Coords) (k1_t3 : Fin (k1_t3_loop i).trips) (v25 : IVec S16 32) (v31 : IVec S16 32) (v37 : IVec S16 32) (v43 : IVec S16 32) (v188 : IVec S16 32) (k1_hw29 : k1_chk29 i k1_t3 v25 v31 v37 v43 v188), ∀ a x, ((![v188, v25] : Fin 2 → IVec S16 32) a x).toNat < S16x2048.size a := fun i k1_t3 v25 v31 v37 v43 v188 k1_hw29 => k1_hw29.1
theorem k1_idx114_inb : ∀ (i : grid1.Coords) (k1_t3 : Fin (k1_t3_loop i).trips) (v25 : IVec S16 32) (v31 : IVec S16 32) (v37 : IVec S16 32) (v43 : IVec S16 32) (v188 : IVec S16 32) (k1_hw29 : k1_chk29 i k1_t3 v25 v31 v37 v43 v188), ∀ a x, ((![v188, v31] : Fin 2 → IVec S16 32) a x).toNat < S16x2048.size a := fun i k1_t3 v25 v31 v37 v43 v188 k1_hw29 => k1_hw29.2.1
theorem k1_idx115_inb : ∀ (i : grid1.Coords) (k1_t3 : Fin (k1_t3_loop i).trips) (v25 : IVec S16 32) (v31 : IVec S16 32) (v37 : IVec S16 32) (v43 : IVec S16 32) (v188 : IVec S16 32) (k1_hw29 : k1_chk29 i k1_t3 v25 v31 v37 v43 v188), ∀ a x, ((![v188, v37] : Fin 2 → IVec S16 32) a x).toNat < S16x2048.size a := fun i k1_t3 v25 v31 v37 v43 v188 k1_hw29 => k1_hw29.2.2.1
theorem k1_idx116_inb : ∀ (i : grid1.Coords) (k1_t3 : Fin (k1_t3_loop i).trips) (v25 : IVec S16 32) (v31 : IVec S16 32) (v37 : IVec S16 32) (v43 : IVec S16 32) (v188 : IVec S16 32) (k1_hw29 : k1_chk29 i k1_t3 v25 v31 v37 v43 v188), ∀ a x, ((![v188, v43] : Fin 2 → IVec S16 32) a x).toNat < S16x2048.size a := fun i k1_t3 v25 v31 v37 v43 v188 k1_hw29 => k1_hw29.2.2.2
def k1_off41 (k1_t4 : Fin k1_t4_loop.trips) : Fin 2 → Nat :=
  let c12_i32_49 : BitVec 32 := 12#32
  let v197 : Index := Scalar.indexCast c12_i32_49
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_48 : BitVec 32 := 16#32
  let v196 : BitVec 32 := Scalar.muli v19 c16_i32_48
  let v198 : Index := Scalar.indexCast v196
  ![12, v198.toNat]

def k1_chk30 (i : grid1.Coords) (k1_t3 : Fin (k1_t3_loop i).trips) (v25 : IVec S16 32) (v31 : IVec S16 32) (v37 : IVec S16 32) (v43 : IVec S16 32) (v200 : IVec S16 32) : Prop :=
  (∀ a x, ((![v200, v25] : Fin 2 → IVec S16 32) a x).toNat < S16x2048.size a) ∧
  (∀ a x, ((![v200, v31] : Fin 2 → IVec S16 32) a x).toNat < S16x2048.size a) ∧
  (∀ a x, ((![v200, v37] : Fin 2 → IVec S16 32) a x).toNat < S16x2048.size a) ∧
  (∀ a x, ((![v200, v43] : Fin 2 → IVec S16 32) a x).toNat < S16x2048.size a)
theorem k1_idx117_inb : ∀ (i : grid1.Coords) (k1_t3 : Fin (k1_t3_loop i).trips) (v25 : IVec S16 32) (v31 : IVec S16 32) (v37 : IVec S16 32) (v43 : IVec S16 32) (v200 : IVec S16 32) (k1_hw30 : k1_chk30 i k1_t3 v25 v31 v37 v43 v200), ∀ a x, ((![v200, v25] : Fin 2 → IVec S16 32) a x).toNat < S16x2048.size a := fun i k1_t3 v25 v31 v37 v43 v200 k1_hw30 => k1_hw30.1
theorem k1_idx118_inb : ∀ (i : grid1.Coords) (k1_t3 : Fin (k1_t3_loop i).trips) (v25 : IVec S16 32) (v31 : IVec S16 32) (v37 : IVec S16 32) (v43 : IVec S16 32) (v200 : IVec S16 32) (k1_hw30 : k1_chk30 i k1_t3 v25 v31 v37 v43 v200), ∀ a x, ((![v200, v31] : Fin 2 → IVec S16 32) a x).toNat < S16x2048.size a := fun i k1_t3 v25 v31 v37 v43 v200 k1_hw30 => k1_hw30.2.1
theorem k1_idx119_inb : ∀ (i : grid1.Coords) (k1_t3 : Fin (k1_t3_loop i).trips) (v25 : IVec S16 32) (v31 : IVec S16 32) (v37 : IVec S16 32) (v43 : IVec S16 32) (v200 : IVec S16 32) (k1_hw30 : k1_chk30 i k1_t3 v25 v31 v37 v43 v200), ∀ a x, ((![v200, v37] : Fin 2 → IVec S16 32) a x).toNat < S16x2048.size a := fun i k1_t3 v25 v31 v37 v43 v200 k1_hw30 => k1_hw30.2.2.1
theorem k1_idx120_inb : ∀ (i : grid1.Coords) (k1_t3 : Fin (k1_t3_loop i).trips) (v25 : IVec S16 32) (v31 : IVec S16 32) (v37 : IVec S16 32) (v43 : IVec S16 32) (v200 : IVec S16 32) (k1_hw30 : k1_chk30 i k1_t3 v25 v31 v37 v43 v200), ∀ a x, ((![v200, v43] : Fin 2 → IVec S16 32) a x).toNat < S16x2048.size a := fun i k1_t3 v25 v31 v37 v43 v200 k1_hw30 => k1_hw30.2.2.2
def k1_off42 (k1_t4 : Fin k1_t4_loop.trips) : Fin 2 → Nat :=
  let c13_i32_51 : BitVec 32 := 13#32
  let v209 : Index := Scalar.indexCast c13_i32_51
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_50 : BitVec 32 := 16#32
  let v208 : BitVec 32 := Scalar.muli v19 c16_i32_50
  let v210 : Index := Scalar.indexCast v208
  ![13, v210.toNat]

def k1_chk31 (i : grid1.Coords) (k1_t3 : Fin (k1_t3_loop i).trips) (v25 : IVec S16 32) (v31 : IVec S16 32) (v37 : IVec S16 32) (v43 : IVec S16 32) (v212 : IVec S16 32) : Prop :=
  (∀ a x, ((![v212, v25] : Fin 2 → IVec S16 32) a x).toNat < S16x2048.size a) ∧
  (∀ a x, ((![v212, v31] : Fin 2 → IVec S16 32) a x).toNat < S16x2048.size a) ∧
  (∀ a x, ((![v212, v37] : Fin 2 → IVec S16 32) a x).toNat < S16x2048.size a) ∧
  (∀ a x, ((![v212, v43] : Fin 2 → IVec S16 32) a x).toNat < S16x2048.size a)
theorem k1_idx121_inb : ∀ (i : grid1.Coords) (k1_t3 : Fin (k1_t3_loop i).trips) (v25 : IVec S16 32) (v31 : IVec S16 32) (v37 : IVec S16 32) (v43 : IVec S16 32) (v212 : IVec S16 32) (k1_hw31 : k1_chk31 i k1_t3 v25 v31 v37 v43 v212), ∀ a x, ((![v212, v25] : Fin 2 → IVec S16 32) a x).toNat < S16x2048.size a := fun i k1_t3 v25 v31 v37 v43 v212 k1_hw31 => k1_hw31.1
theorem k1_idx122_inb : ∀ (i : grid1.Coords) (k1_t3 : Fin (k1_t3_loop i).trips) (v25 : IVec S16 32) (v31 : IVec S16 32) (v37 : IVec S16 32) (v43 : IVec S16 32) (v212 : IVec S16 32) (k1_hw31 : k1_chk31 i k1_t3 v25 v31 v37 v43 v212), ∀ a x, ((![v212, v31] : Fin 2 → IVec S16 32) a x).toNat < S16x2048.size a := fun i k1_t3 v25 v31 v37 v43 v212 k1_hw31 => k1_hw31.2.1
theorem k1_idx123_inb : ∀ (i : grid1.Coords) (k1_t3 : Fin (k1_t3_loop i).trips) (v25 : IVec S16 32) (v31 : IVec S16 32) (v37 : IVec S16 32) (v43 : IVec S16 32) (v212 : IVec S16 32) (k1_hw31 : k1_chk31 i k1_t3 v25 v31 v37 v43 v212), ∀ a x, ((![v212, v37] : Fin 2 → IVec S16 32) a x).toNat < S16x2048.size a := fun i k1_t3 v25 v31 v37 v43 v212 k1_hw31 => k1_hw31.2.2.1
theorem k1_idx124_inb : ∀ (i : grid1.Coords) (k1_t3 : Fin (k1_t3_loop i).trips) (v25 : IVec S16 32) (v31 : IVec S16 32) (v37 : IVec S16 32) (v43 : IVec S16 32) (v212 : IVec S16 32) (k1_hw31 : k1_chk31 i k1_t3 v25 v31 v37 v43 v212), ∀ a x, ((![v212, v43] : Fin 2 → IVec S16 32) a x).toNat < S16x2048.size a := fun i k1_t3 v25 v31 v37 v43 v212 k1_hw31 => k1_hw31.2.2.2
def k1_off43 (k1_t4 : Fin k1_t4_loop.trips) : Fin 2 → Nat :=
  let c14_i32_53 : BitVec 32 := 14#32
  let v221 : Index := Scalar.indexCast c14_i32_53
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_52 : BitVec 32 := 16#32
  let v220 : BitVec 32 := Scalar.muli v19 c16_i32_52
  let v222 : Index := Scalar.indexCast v220
  ![14, v222.toNat]

def k1_chk32 (i : grid1.Coords) (k1_t3 : Fin (k1_t3_loop i).trips) (v25 : IVec S16 32) (v31 : IVec S16 32) (v37 : IVec S16 32) (v43 : IVec S16 32) (v224 : IVec S16 32) : Prop :=
  (∀ a x, ((![v224, v25] : Fin 2 → IVec S16 32) a x).toNat < S16x2048.size a) ∧
  (∀ a x, ((![v224, v31] : Fin 2 → IVec S16 32) a x).toNat < S16x2048.size a) ∧
  (∀ a x, ((![v224, v37] : Fin 2 → IVec S16 32) a x).toNat < S16x2048.size a) ∧
  (∀ a x, ((![v224, v43] : Fin 2 → IVec S16 32) a x).toNat < S16x2048.size a)
theorem k1_idx125_inb : ∀ (i : grid1.Coords) (k1_t3 : Fin (k1_t3_loop i).trips) (v25 : IVec S16 32) (v31 : IVec S16 32) (v37 : IVec S16 32) (v43 : IVec S16 32) (v224 : IVec S16 32) (k1_hw32 : k1_chk32 i k1_t3 v25 v31 v37 v43 v224), ∀ a x, ((![v224, v25] : Fin 2 → IVec S16 32) a x).toNat < S16x2048.size a := fun i k1_t3 v25 v31 v37 v43 v224 k1_hw32 => k1_hw32.1
theorem k1_idx126_inb : ∀ (i : grid1.Coords) (k1_t3 : Fin (k1_t3_loop i).trips) (v25 : IVec S16 32) (v31 : IVec S16 32) (v37 : IVec S16 32) (v43 : IVec S16 32) (v224 : IVec S16 32) (k1_hw32 : k1_chk32 i k1_t3 v25 v31 v37 v43 v224), ∀ a x, ((![v224, v31] : Fin 2 → IVec S16 32) a x).toNat < S16x2048.size a := fun i k1_t3 v25 v31 v37 v43 v224 k1_hw32 => k1_hw32.2.1
theorem k1_idx127_inb : ∀ (i : grid1.Coords) (k1_t3 : Fin (k1_t3_loop i).trips) (v25 : IVec S16 32) (v31 : IVec S16 32) (v37 : IVec S16 32) (v43 : IVec S16 32) (v224 : IVec S16 32) (k1_hw32 : k1_chk32 i k1_t3 v25 v31 v37 v43 v224), ∀ a x, ((![v224, v37] : Fin 2 → IVec S16 32) a x).toNat < S16x2048.size a := fun i k1_t3 v25 v31 v37 v43 v224 k1_hw32 => k1_hw32.2.2.1
theorem k1_idx128_inb : ∀ (i : grid1.Coords) (k1_t3 : Fin (k1_t3_loop i).trips) (v25 : IVec S16 32) (v31 : IVec S16 32) (v37 : IVec S16 32) (v43 : IVec S16 32) (v224 : IVec S16 32) (k1_hw32 : k1_chk32 i k1_t3 v25 v31 v37 v43 v224), ∀ a x, ((![v224, v43] : Fin 2 → IVec S16 32) a x).toNat < S16x2048.size a := fun i k1_t3 v25 v31 v37 v43 v224 k1_hw32 => k1_hw32.2.2.2
def k1_off44 (k1_t4 : Fin k1_t4_loop.trips) : Fin 2 → Nat :=
  let c15_i32_55 : BitVec 32 := 15#32
  let v233 : Index := Scalar.indexCast c15_i32_55
  let c0_i32_11 : BitVec 32 := 0#32
  let c0_i32_7 : BitVec 32 := 0#32
  let c1_i32_8 : BitVec 32 := 1#32
  let arg10 : BitVec 32 := Scf.iv c0_i32_7 c1_i32_8 k1_t4
  let c1_i32_10 : BitVec 32 := 1#32
  let v18 : BitVec 32 := Scalar.muli arg10 c1_i32_10
  let v19 : BitVec 32 := Scalar.addi c0_i32_11 v18
  let c16_i32_54 : BitVec 32 := 16#32
  let v232 : BitVec 32 := Scalar.muli v19 c16_i32_54
  let v234 : Index := Scalar.indexCast v232
  ![15, v234.toNat]
def k1_off45 (i : grid1.Coords) (k1_t3 : Fin (k1_t3_loop i).trips) : Fin 2 → Nat :=
  let arg1 : BitVec 32 := BitVec.ofNat 32 (i 1).val
  let c16_i32 : BitVec 32 := 16#32
  let v0 : BitVec 32 := Scalar.muli arg1 c16_i32
  let arg0 : BitVec 32 := BitVec.ofNat 32 (i 0).val
  let c0_i32 : BitVec 32 := 0#32
  let c48_i32 : BitVec 32 := 48#32
  let v1 : BitVec 32 := Scalar.subi c48_i32 arg0
  let c2_i32 : BitVec 32 := 2#32
  let c1_i32 : BitVec 32 := 1#32
  let v2 : BitVec 32 := Scalar.subi c2_i32 c1_i32
  let v3 : BitVec 32 := Scalar.addi v1 v2
  let c2_i32_0 : BitVec 32 := 2#32
  let v4 : BitVec 32 := Scalar.divsi v3 c2_i32_0
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg9 : BitVec 32 := Scf.iv v9 c1_i32_4 k1_t3
  let c2_i32_1 : BitVec 32 := 2#32
  let v13 : BitVec 32 := Scalar.muli arg9 c2_i32_1
  let v14 : BitVec 32 := Scalar.addi arg0 v13
  let c2048_i32 : BitVec 32 := 2048#32
  let v15 : BitVec 32 := Scalar.muli v14 c2048_i32
  let v16 : BitVec 32 := v15
  ![v0.toNat, v16.toNat]
def k1_cond1 (i : grid1.Coords) : BitVec 1 :=
  let arg0 : BitVec 32 := BitVec.ofNat 32 (i 0).val
  let c1_i32_5 : BitVec 32 := 1#32
  let v10 : BitVec 1 := Scalar.cmpi .eq arg0 c1_i32_5
  let v11 : BitVec 32 := Scalar.extui v10
  let c0_i32_6 : BitVec 32 := 0#32
  let v12 : BitVec 1 := Scalar.cmpi .ne v11 c0_i32_6
  v12

@[reducible] def k1_t5_loop : Scf.Loop 32 :=
  let c0_i32_7 : BitVec 32 := 0#32
  let c112_i32 : BitVec 32 := 112#32
  let v13 : BitVec 32 := Scalar.addi c0_i32_7 c112_i32
  let c1_i32_8 : BitVec 32 := 1#32
  ⟨c0_i32_7, v13, c1_i32_8⟩
def k1_off46 (k1_t5 : Fin k1_t5_loop.trips) : Fin 2 → Nat :=
  let c0_i32_13 : BitVec 32 := 0#32
  let v17 : Index := Scalar.indexCast c0_i32_13
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_12 : BitVec 32 := 16#32
  let v16 : BitVec 32 := Scalar.muli v15 c16_i32_12
  let v18 : Index := Scalar.indexCast v16
  ![0, v18.toNat]
def k1_off47 (k1_t5 : Fin k1_t5_loop.trips) : Fin 2 → Nat :=
  let c1_i32_16 : BitVec 32 := 1#32
  let v23 : Index := Scalar.indexCast c1_i32_16
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_15 : BitVec 32 := 16#32
  let v22 : BitVec 32 := Scalar.muli v15 c16_i32_15
  let v24 : Index := Scalar.indexCast v22
  ![1, v24.toNat]
def k1_off48 (k1_t5 : Fin k1_t5_loop.trips) : Fin 2 → Nat :=
  let c2_i32_18 : BitVec 32 := 2#32
  let v29 : Index := Scalar.indexCast c2_i32_18
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_17 : BitVec 32 := 16#32
  let v28 : BitVec 32 := Scalar.muli v15 c16_i32_17
  let v30 : Index := Scalar.indexCast v28
  ![2, v30.toNat]
def k1_off49 (k1_t5 : Fin k1_t5_loop.trips) : Fin 2 → Nat :=
  let c3_i32 : BitVec 32 := 3#32
  let v35 : Index := Scalar.indexCast c3_i32
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_19 : BitVec 32 := 16#32
  let v34 : BitVec 32 := Scalar.muli v15 c16_i32_19
  let v36 : Index := Scalar.indexCast v34
  ![3, v36.toNat]

def k1_chk33 (i : grid1.Coords) (v21 : IVec S16 32) (v27 : IVec S16 32) (v33 : IVec S16 32) (v39 : IVec S16 32) (v40 : IVec S16 32) : Prop :=
  (∀ (k1_h1 : k1_cond1 i = 1#1), ∀ a x, ((![v40, v21] : Fin 2 → IVec S16 32) a x).toNat < S16x2048.size a) ∧
  (∀ (k1_h1 : k1_cond1 i = 1#1), ∀ a x, ((![v40, v27] : Fin 2 → IVec S16 32) a x).toNat < S16x2048.size a) ∧
  (∀ (k1_h1 : k1_cond1 i = 1#1), ∀ a x, ((![v40, v33] : Fin 2 → IVec S16 32) a x).toNat < S16x2048.size a) ∧
  (∀ (k1_h1 : k1_cond1 i = 1#1), ∀ a x, ((![v40, v39] : Fin 2 → IVec S16 32) a x).toNat < S16x2048.size a)
theorem k1_idx129_inb : ∀ (i : grid1.Coords) (v21 : IVec S16 32) (v27 : IVec S16 32) (v33 : IVec S16 32) (v39 : IVec S16 32) (v40 : IVec S16 32) (k1_hw33 : k1_chk33 i v21 v27 v33 v39 v40), ∀ (k1_h1 : k1_cond1 i = 1#1), ∀ a x, ((![v40, v21] : Fin 2 → IVec S16 32) a x).toNat < S16x2048.size a := fun i v21 v27 v33 v39 v40 k1_hw33 k1_h1 => k1_hw33.1 k1_h1
theorem k1_idx130_inb : ∀ (i : grid1.Coords) (v21 : IVec S16 32) (v27 : IVec S16 32) (v33 : IVec S16 32) (v39 : IVec S16 32) (v40 : IVec S16 32) (k1_hw33 : k1_chk33 i v21 v27 v33 v39 v40), ∀ (k1_h1 : k1_cond1 i = 1#1), ∀ a x, ((![v40, v27] : Fin 2 → IVec S16 32) a x).toNat < S16x2048.size a := fun i v21 v27 v33 v39 v40 k1_hw33 k1_h1 => k1_hw33.2.1 k1_h1
theorem k1_idx131_inb : ∀ (i : grid1.Coords) (v21 : IVec S16 32) (v27 : IVec S16 32) (v33 : IVec S16 32) (v39 : IVec S16 32) (v40 : IVec S16 32) (k1_hw33 : k1_chk33 i v21 v27 v33 v39 v40), ∀ (k1_h1 : k1_cond1 i = 1#1), ∀ a x, ((![v40, v33] : Fin 2 → IVec S16 32) a x).toNat < S16x2048.size a := fun i v21 v27 v33 v39 v40 k1_hw33 k1_h1 => k1_hw33.2.2.1 k1_h1
theorem k1_idx132_inb : ∀ (i : grid1.Coords) (v21 : IVec S16 32) (v27 : IVec S16 32) (v33 : IVec S16 32) (v39 : IVec S16 32) (v40 : IVec S16 32) (k1_hw33 : k1_chk33 i v21 v27 v33 v39 v40), ∀ (k1_h1 : k1_cond1 i = 1#1), ∀ a x, ((![v40, v39] : Fin 2 → IVec S16 32) a x).toNat < S16x2048.size a := fun i v21 v27 v33 v39 v40 k1_hw33 k1_h1 => k1_hw33.2.2.2 k1_h1
def k1_off50 (k1_t5 : Fin k1_t5_loop.trips) : Fin 2 → Nat :=
  let c0_i32_22 : BitVec 32 := 0#32
  let v49 : Index := Scalar.indexCast c0_i32_22
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_21 : BitVec 32 := 16#32
  let v48 : BitVec 32 := Scalar.muli v15 c16_i32_21
  let v50 : Index := Scalar.indexCast v48
  ![0, v50.toNat]

def k1_chk34 (i : grid1.Coords) (v21 : IVec S16 32) (v27 : IVec S16 32) (v33 : IVec S16 32) (v39 : IVec S16 32) (v52 : IVec S16 32) : Prop :=
  (∀ (k1_h1 : k1_cond1 i = 1#1), ∀ a x, ((![v52, v21] : Fin 2 → IVec S16 32) a x).toNat < S16x2048.size a) ∧
  (∀ (k1_h1 : k1_cond1 i = 1#1), ∀ a x, ((![v52, v27] : Fin 2 → IVec S16 32) a x).toNat < S16x2048.size a) ∧
  (∀ (k1_h1 : k1_cond1 i = 1#1), ∀ a x, ((![v52, v33] : Fin 2 → IVec S16 32) a x).toNat < S16x2048.size a) ∧
  (∀ (k1_h1 : k1_cond1 i = 1#1), ∀ a x, ((![v52, v39] : Fin 2 → IVec S16 32) a x).toNat < S16x2048.size a)
theorem k1_idx133_inb : ∀ (i : grid1.Coords) (v21 : IVec S16 32) (v27 : IVec S16 32) (v33 : IVec S16 32) (v39 : IVec S16 32) (v52 : IVec S16 32) (k1_hw34 : k1_chk34 i v21 v27 v33 v39 v52), ∀ (k1_h1 : k1_cond1 i = 1#1), ∀ a x, ((![v52, v21] : Fin 2 → IVec S16 32) a x).toNat < S16x2048.size a := fun i v21 v27 v33 v39 v52 k1_hw34 k1_h1 => k1_hw34.1 k1_h1
theorem k1_idx134_inb : ∀ (i : grid1.Coords) (v21 : IVec S16 32) (v27 : IVec S16 32) (v33 : IVec S16 32) (v39 : IVec S16 32) (v52 : IVec S16 32) (k1_hw34 : k1_chk34 i v21 v27 v33 v39 v52), ∀ (k1_h1 : k1_cond1 i = 1#1), ∀ a x, ((![v52, v27] : Fin 2 → IVec S16 32) a x).toNat < S16x2048.size a := fun i v21 v27 v33 v39 v52 k1_hw34 k1_h1 => k1_hw34.2.1 k1_h1
theorem k1_idx135_inb : ∀ (i : grid1.Coords) (v21 : IVec S16 32) (v27 : IVec S16 32) (v33 : IVec S16 32) (v39 : IVec S16 32) (v52 : IVec S16 32) (k1_hw34 : k1_chk34 i v21 v27 v33 v39 v52), ∀ (k1_h1 : k1_cond1 i = 1#1), ∀ a x, ((![v52, v33] : Fin 2 → IVec S16 32) a x).toNat < S16x2048.size a := fun i v21 v27 v33 v39 v52 k1_hw34 k1_h1 => k1_hw34.2.2.1 k1_h1
theorem k1_idx136_inb : ∀ (i : grid1.Coords) (v21 : IVec S16 32) (v27 : IVec S16 32) (v33 : IVec S16 32) (v39 : IVec S16 32) (v52 : IVec S16 32) (k1_hw34 : k1_chk34 i v21 v27 v33 v39 v52), ∀ (k1_h1 : k1_cond1 i = 1#1), ∀ a x, ((![v52, v39] : Fin 2 → IVec S16 32) a x).toNat < S16x2048.size a := fun i v21 v27 v33 v39 v52 k1_hw34 k1_h1 => k1_hw34.2.2.2 k1_h1
def k1_off51 (k1_t5 : Fin k1_t5_loop.trips) : Fin 2 → Nat :=
  let c1_i32_25 : BitVec 32 := 1#32
  let v61 : Index := Scalar.indexCast c1_i32_25
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_24 : BitVec 32 := 16#32
  let v60 : BitVec 32 := Scalar.muli v15 c16_i32_24
  let v62 : Index := Scalar.indexCast v60
  ![1, v62.toNat]

def k1_chk35 (i : grid1.Coords) (v21 : IVec S16 32) (v27 : IVec S16 32) (v33 : IVec S16 32) (v39 : IVec S16 32) (v64 : IVec S16 32) : Prop :=
  (∀ (k1_h1 : k1_cond1 i = 1#1), ∀ a x, ((![v64, v21] : Fin 2 → IVec S16 32) a x).toNat < S16x2048.size a) ∧
  (∀ (k1_h1 : k1_cond1 i = 1#1), ∀ a x, ((![v64, v27] : Fin 2 → IVec S16 32) a x).toNat < S16x2048.size a) ∧
  (∀ (k1_h1 : k1_cond1 i = 1#1), ∀ a x, ((![v64, v33] : Fin 2 → IVec S16 32) a x).toNat < S16x2048.size a) ∧
  (∀ (k1_h1 : k1_cond1 i = 1#1), ∀ a x, ((![v64, v39] : Fin 2 → IVec S16 32) a x).toNat < S16x2048.size a)
theorem k1_idx137_inb : ∀ (i : grid1.Coords) (v21 : IVec S16 32) (v27 : IVec S16 32) (v33 : IVec S16 32) (v39 : IVec S16 32) (v64 : IVec S16 32) (k1_hw35 : k1_chk35 i v21 v27 v33 v39 v64), ∀ (k1_h1 : k1_cond1 i = 1#1), ∀ a x, ((![v64, v21] : Fin 2 → IVec S16 32) a x).toNat < S16x2048.size a := fun i v21 v27 v33 v39 v64 k1_hw35 k1_h1 => k1_hw35.1 k1_h1
theorem k1_idx138_inb : ∀ (i : grid1.Coords) (v21 : IVec S16 32) (v27 : IVec S16 32) (v33 : IVec S16 32) (v39 : IVec S16 32) (v64 : IVec S16 32) (k1_hw35 : k1_chk35 i v21 v27 v33 v39 v64), ∀ (k1_h1 : k1_cond1 i = 1#1), ∀ a x, ((![v64, v27] : Fin 2 → IVec S16 32) a x).toNat < S16x2048.size a := fun i v21 v27 v33 v39 v64 k1_hw35 k1_h1 => k1_hw35.2.1 k1_h1
theorem k1_idx139_inb : ∀ (i : grid1.Coords) (v21 : IVec S16 32) (v27 : IVec S16 32) (v33 : IVec S16 32) (v39 : IVec S16 32) (v64 : IVec S16 32) (k1_hw35 : k1_chk35 i v21 v27 v33 v39 v64), ∀ (k1_h1 : k1_cond1 i = 1#1), ∀ a x, ((![v64, v33] : Fin 2 → IVec S16 32) a x).toNat < S16x2048.size a := fun i v21 v27 v33 v39 v64 k1_hw35 k1_h1 => k1_hw35.2.2.1 k1_h1
theorem k1_idx140_inb : ∀ (i : grid1.Coords) (v21 : IVec S16 32) (v27 : IVec S16 32) (v33 : IVec S16 32) (v39 : IVec S16 32) (v64 : IVec S16 32) (k1_hw35 : k1_chk35 i v21 v27 v33 v39 v64), ∀ (k1_h1 : k1_cond1 i = 1#1), ∀ a x, ((![v64, v39] : Fin 2 → IVec S16 32) a x).toNat < S16x2048.size a := fun i v21 v27 v33 v39 v64 k1_hw35 k1_h1 => k1_hw35.2.2.2 k1_h1
def k1_off52 (k1_t5 : Fin k1_t5_loop.trips) : Fin 2 → Nat :=
  let c2_i32_28 : BitVec 32 := 2#32
  let v73 : Index := Scalar.indexCast c2_i32_28
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_27 : BitVec 32 := 16#32
  let v72 : BitVec 32 := Scalar.muli v15 c16_i32_27
  let v74 : Index := Scalar.indexCast v72
  ![2, v74.toNat]

def k1_chk36 (i : grid1.Coords) (v21 : IVec S16 32) (v27 : IVec S16 32) (v33 : IVec S16 32) (v39 : IVec S16 32) (v76 : IVec S16 32) : Prop :=
  (∀ (k1_h1 : k1_cond1 i = 1#1), ∀ a x, ((![v76, v21] : Fin 2 → IVec S16 32) a x).toNat < S16x2048.size a) ∧
  (∀ (k1_h1 : k1_cond1 i = 1#1), ∀ a x, ((![v76, v27] : Fin 2 → IVec S16 32) a x).toNat < S16x2048.size a) ∧
  (∀ (k1_h1 : k1_cond1 i = 1#1), ∀ a x, ((![v76, v33] : Fin 2 → IVec S16 32) a x).toNat < S16x2048.size a) ∧
  (∀ (k1_h1 : k1_cond1 i = 1#1), ∀ a x, ((![v76, v39] : Fin 2 → IVec S16 32) a x).toNat < S16x2048.size a)
theorem k1_idx141_inb : ∀ (i : grid1.Coords) (v21 : IVec S16 32) (v27 : IVec S16 32) (v33 : IVec S16 32) (v39 : IVec S16 32) (v76 : IVec S16 32) (k1_hw36 : k1_chk36 i v21 v27 v33 v39 v76), ∀ (k1_h1 : k1_cond1 i = 1#1), ∀ a x, ((![v76, v21] : Fin 2 → IVec S16 32) a x).toNat < S16x2048.size a := fun i v21 v27 v33 v39 v76 k1_hw36 k1_h1 => k1_hw36.1 k1_h1
theorem k1_idx142_inb : ∀ (i : grid1.Coords) (v21 : IVec S16 32) (v27 : IVec S16 32) (v33 : IVec S16 32) (v39 : IVec S16 32) (v76 : IVec S16 32) (k1_hw36 : k1_chk36 i v21 v27 v33 v39 v76), ∀ (k1_h1 : k1_cond1 i = 1#1), ∀ a x, ((![v76, v27] : Fin 2 → IVec S16 32) a x).toNat < S16x2048.size a := fun i v21 v27 v33 v39 v76 k1_hw36 k1_h1 => k1_hw36.2.1 k1_h1
theorem k1_idx143_inb : ∀ (i : grid1.Coords) (v21 : IVec S16 32) (v27 : IVec S16 32) (v33 : IVec S16 32) (v39 : IVec S16 32) (v76 : IVec S16 32) (k1_hw36 : k1_chk36 i v21 v27 v33 v39 v76), ∀ (k1_h1 : k1_cond1 i = 1#1), ∀ a x, ((![v76, v33] : Fin 2 → IVec S16 32) a x).toNat < S16x2048.size a := fun i v21 v27 v33 v39 v76 k1_hw36 k1_h1 => k1_hw36.2.2.1 k1_h1
theorem k1_idx144_inb : ∀ (i : grid1.Coords) (v21 : IVec S16 32) (v27 : IVec S16 32) (v33 : IVec S16 32) (v39 : IVec S16 32) (v76 : IVec S16 32) (k1_hw36 : k1_chk36 i v21 v27 v33 v39 v76), ∀ (k1_h1 : k1_cond1 i = 1#1), ∀ a x, ((![v76, v39] : Fin 2 → IVec S16 32) a x).toNat < S16x2048.size a := fun i v21 v27 v33 v39 v76 k1_hw36 k1_h1 => k1_hw36.2.2.2 k1_h1
def k1_off53 (k1_t5 : Fin k1_t5_loop.trips) : Fin 2 → Nat :=
  let c3_i32_31 : BitVec 32 := 3#32
  let v85 : Index := Scalar.indexCast c3_i32_31
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_30 : BitVec 32 := 16#32
  let v84 : BitVec 32 := Scalar.muli v15 c16_i32_30
  let v86 : Index := Scalar.indexCast v84
  ![3, v86.toNat]

def k1_chk37 (i : grid1.Coords) (v21 : IVec S16 32) (v27 : IVec S16 32) (v33 : IVec S16 32) (v39 : IVec S16 32) (v88 : IVec S16 32) : Prop :=
  (∀ (k1_h1 : k1_cond1 i = 1#1), ∀ a x, ((![v88, v21] : Fin 2 → IVec S16 32) a x).toNat < S16x2048.size a) ∧
  (∀ (k1_h1 : k1_cond1 i = 1#1), ∀ a x, ((![v88, v27] : Fin 2 → IVec S16 32) a x).toNat < S16x2048.size a) ∧
  (∀ (k1_h1 : k1_cond1 i = 1#1), ∀ a x, ((![v88, v33] : Fin 2 → IVec S16 32) a x).toNat < S16x2048.size a) ∧
  (∀ (k1_h1 : k1_cond1 i = 1#1), ∀ a x, ((![v88, v39] : Fin 2 → IVec S16 32) a x).toNat < S16x2048.size a)
theorem k1_idx145_inb : ∀ (i : grid1.Coords) (v21 : IVec S16 32) (v27 : IVec S16 32) (v33 : IVec S16 32) (v39 : IVec S16 32) (v88 : IVec S16 32) (k1_hw37 : k1_chk37 i v21 v27 v33 v39 v88), ∀ (k1_h1 : k1_cond1 i = 1#1), ∀ a x, ((![v88, v21] : Fin 2 → IVec S16 32) a x).toNat < S16x2048.size a := fun i v21 v27 v33 v39 v88 k1_hw37 k1_h1 => k1_hw37.1 k1_h1
theorem k1_idx146_inb : ∀ (i : grid1.Coords) (v21 : IVec S16 32) (v27 : IVec S16 32) (v33 : IVec S16 32) (v39 : IVec S16 32) (v88 : IVec S16 32) (k1_hw37 : k1_chk37 i v21 v27 v33 v39 v88), ∀ (k1_h1 : k1_cond1 i = 1#1), ∀ a x, ((![v88, v27] : Fin 2 → IVec S16 32) a x).toNat < S16x2048.size a := fun i v21 v27 v33 v39 v88 k1_hw37 k1_h1 => k1_hw37.2.1 k1_h1
theorem k1_idx147_inb : ∀ (i : grid1.Coords) (v21 : IVec S16 32) (v27 : IVec S16 32) (v33 : IVec S16 32) (v39 : IVec S16 32) (v88 : IVec S16 32) (k1_hw37 : k1_chk37 i v21 v27 v33 v39 v88), ∀ (k1_h1 : k1_cond1 i = 1#1), ∀ a x, ((![v88, v33] : Fin 2 → IVec S16 32) a x).toNat < S16x2048.size a := fun i v21 v27 v33 v39 v88 k1_hw37 k1_h1 => k1_hw37.2.2.1 k1_h1
theorem k1_idx148_inb : ∀ (i : grid1.Coords) (v21 : IVec S16 32) (v27 : IVec S16 32) (v33 : IVec S16 32) (v39 : IVec S16 32) (v88 : IVec S16 32) (k1_hw37 : k1_chk37 i v21 v27 v33 v39 v88), ∀ (k1_h1 : k1_cond1 i = 1#1), ∀ a x, ((![v88, v39] : Fin 2 → IVec S16 32) a x).toNat < S16x2048.size a := fun i v21 v27 v33 v39 v88 k1_hw37 k1_h1 => k1_hw37.2.2.2 k1_h1
def k1_off54 (k1_t5 : Fin k1_t5_loop.trips) : Fin 2 → Nat :=
  let c4_i32_33 : BitVec 32 := 4#32
  let v97 : Index := Scalar.indexCast c4_i32_33
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_32 : BitVec 32 := 16#32
  let v96 : BitVec 32 := Scalar.muli v15 c16_i32_32
  let v98 : Index := Scalar.indexCast v96
  ![4, v98.toNat]

def k1_chk38 (i : grid1.Coords) (v21 : IVec S16 32) (v27 : IVec S16 32) (v33 : IVec S16 32) (v39 : IVec S16 32) (v100 : IVec S16 32) : Prop :=
  (∀ (k1_h1 : k1_cond1 i = 1#1), ∀ a x, ((![v100, v21] : Fin 2 → IVec S16 32) a x).toNat < S16x2048.size a) ∧
  (∀ (k1_h1 : k1_cond1 i = 1#1), ∀ a x, ((![v100, v27] : Fin 2 → IVec S16 32) a x).toNat < S16x2048.size a) ∧
  (∀ (k1_h1 : k1_cond1 i = 1#1), ∀ a x, ((![v100, v33] : Fin 2 → IVec S16 32) a x).toNat < S16x2048.size a) ∧
  (∀ (k1_h1 : k1_cond1 i = 1#1), ∀ a x, ((![v100, v39] : Fin 2 → IVec S16 32) a x).toNat < S16x2048.size a)
theorem k1_idx149_inb : ∀ (i : grid1.Coords) (v21 : IVec S16 32) (v27 : IVec S16 32) (v33 : IVec S16 32) (v39 : IVec S16 32) (v100 : IVec S16 32) (k1_hw38 : k1_chk38 i v21 v27 v33 v39 v100), ∀ (k1_h1 : k1_cond1 i = 1#1), ∀ a x, ((![v100, v21] : Fin 2 → IVec S16 32) a x).toNat < S16x2048.size a := fun i v21 v27 v33 v39 v100 k1_hw38 k1_h1 => k1_hw38.1 k1_h1
theorem k1_idx150_inb : ∀ (i : grid1.Coords) (v21 : IVec S16 32) (v27 : IVec S16 32) (v33 : IVec S16 32) (v39 : IVec S16 32) (v100 : IVec S16 32) (k1_hw38 : k1_chk38 i v21 v27 v33 v39 v100), ∀ (k1_h1 : k1_cond1 i = 1#1), ∀ a x, ((![v100, v27] : Fin 2 → IVec S16 32) a x).toNat < S16x2048.size a := fun i v21 v27 v33 v39 v100 k1_hw38 k1_h1 => k1_hw38.2.1 k1_h1
theorem k1_idx151_inb : ∀ (i : grid1.Coords) (v21 : IVec S16 32) (v27 : IVec S16 32) (v33 : IVec S16 32) (v39 : IVec S16 32) (v100 : IVec S16 32) (k1_hw38 : k1_chk38 i v21 v27 v33 v39 v100), ∀ (k1_h1 : k1_cond1 i = 1#1), ∀ a x, ((![v100, v33] : Fin 2 → IVec S16 32) a x).toNat < S16x2048.size a := fun i v21 v27 v33 v39 v100 k1_hw38 k1_h1 => k1_hw38.2.2.1 k1_h1
theorem k1_idx152_inb : ∀ (i : grid1.Coords) (v21 : IVec S16 32) (v27 : IVec S16 32) (v33 : IVec S16 32) (v39 : IVec S16 32) (v100 : IVec S16 32) (k1_hw38 : k1_chk38 i v21 v27 v33 v39 v100), ∀ (k1_h1 : k1_cond1 i = 1#1), ∀ a x, ((![v100, v39] : Fin 2 → IVec S16 32) a x).toNat < S16x2048.size a := fun i v21 v27 v33 v39 v100 k1_hw38 k1_h1 => k1_hw38.2.2.2 k1_h1
def k1_off55 (k1_t5 : Fin k1_t5_loop.trips) : Fin 2 → Nat :=
  let c5_i32_35 : BitVec 32 := 5#32
  let v109 : Index := Scalar.indexCast c5_i32_35
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_34 : BitVec 32 := 16#32
  let v108 : BitVec 32 := Scalar.muli v15 c16_i32_34
  let v110 : Index := Scalar.indexCast v108
  ![5, v110.toNat]

def k1_chk39 (i : grid1.Coords) (v21 : IVec S16 32) (v27 : IVec S16 32) (v33 : IVec S16 32) (v39 : IVec S16 32) (v112 : IVec S16 32) : Prop :=
  (∀ (k1_h1 : k1_cond1 i = 1#1), ∀ a x, ((![v112, v21] : Fin 2 → IVec S16 32) a x).toNat < S16x2048.size a) ∧
  (∀ (k1_h1 : k1_cond1 i = 1#1), ∀ a x, ((![v112, v27] : Fin 2 → IVec S16 32) a x).toNat < S16x2048.size a) ∧
  (∀ (k1_h1 : k1_cond1 i = 1#1), ∀ a x, ((![v112, v33] : Fin 2 → IVec S16 32) a x).toNat < S16x2048.size a) ∧
  (∀ (k1_h1 : k1_cond1 i = 1#1), ∀ a x, ((![v112, v39] : Fin 2 → IVec S16 32) a x).toNat < S16x2048.size a)
theorem k1_idx153_inb : ∀ (i : grid1.Coords) (v21 : IVec S16 32) (v27 : IVec S16 32) (v33 : IVec S16 32) (v39 : IVec S16 32) (v112 : IVec S16 32) (k1_hw39 : k1_chk39 i v21 v27 v33 v39 v112), ∀ (k1_h1 : k1_cond1 i = 1#1), ∀ a x, ((![v112, v21] : Fin 2 → IVec S16 32) a x).toNat < S16x2048.size a := fun i v21 v27 v33 v39 v112 k1_hw39 k1_h1 => k1_hw39.1 k1_h1
theorem k1_idx154_inb : ∀ (i : grid1.Coords) (v21 : IVec S16 32) (v27 : IVec S16 32) (v33 : IVec S16 32) (v39 : IVec S16 32) (v112 : IVec S16 32) (k1_hw39 : k1_chk39 i v21 v27 v33 v39 v112), ∀ (k1_h1 : k1_cond1 i = 1#1), ∀ a x, ((![v112, v27] : Fin 2 → IVec S16 32) a x).toNat < S16x2048.size a := fun i v21 v27 v33 v39 v112 k1_hw39 k1_h1 => k1_hw39.2.1 k1_h1
theorem k1_idx155_inb : ∀ (i : grid1.Coords) (v21 : IVec S16 32) (v27 : IVec S16 32) (v33 : IVec S16 32) (v39 : IVec S16 32) (v112 : IVec S16 32) (k1_hw39 : k1_chk39 i v21 v27 v33 v39 v112), ∀ (k1_h1 : k1_cond1 i = 1#1), ∀ a x, ((![v112, v33] : Fin 2 → IVec S16 32) a x).toNat < S16x2048.size a := fun i v21 v27 v33 v39 v112 k1_hw39 k1_h1 => k1_hw39.2.2.1 k1_h1
theorem k1_idx156_inb : ∀ (i : grid1.Coords) (v21 : IVec S16 32) (v27 : IVec S16 32) (v33 : IVec S16 32) (v39 : IVec S16 32) (v112 : IVec S16 32) (k1_hw39 : k1_chk39 i v21 v27 v33 v39 v112), ∀ (k1_h1 : k1_cond1 i = 1#1), ∀ a x, ((![v112, v39] : Fin 2 → IVec S16 32) a x).toNat < S16x2048.size a := fun i v21 v27 v33 v39 v112 k1_hw39 k1_h1 => k1_hw39.2.2.2 k1_h1
def k1_off56 (k1_t5 : Fin k1_t5_loop.trips) : Fin 2 → Nat :=
  let c6_i32_37 : BitVec 32 := 6#32
  let v121 : Index := Scalar.indexCast c6_i32_37
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_36 : BitVec 32 := 16#32
  let v120 : BitVec 32 := Scalar.muli v15 c16_i32_36
  let v122 : Index := Scalar.indexCast v120
  ![6, v122.toNat]

def k1_chk40 (i : grid1.Coords) (v21 : IVec S16 32) (v27 : IVec S16 32) (v33 : IVec S16 32) (v39 : IVec S16 32) (v124 : IVec S16 32) : Prop :=
  (∀ (k1_h1 : k1_cond1 i = 1#1), ∀ a x, ((![v124, v21] : Fin 2 → IVec S16 32) a x).toNat < S16x2048.size a) ∧
  (∀ (k1_h1 : k1_cond1 i = 1#1), ∀ a x, ((![v124, v27] : Fin 2 → IVec S16 32) a x).toNat < S16x2048.size a) ∧
  (∀ (k1_h1 : k1_cond1 i = 1#1), ∀ a x, ((![v124, v33] : Fin 2 → IVec S16 32) a x).toNat < S16x2048.size a) ∧
  (∀ (k1_h1 : k1_cond1 i = 1#1), ∀ a x, ((![v124, v39] : Fin 2 → IVec S16 32) a x).toNat < S16x2048.size a)
theorem k1_idx157_inb : ∀ (i : grid1.Coords) (v21 : IVec S16 32) (v27 : IVec S16 32) (v33 : IVec S16 32) (v39 : IVec S16 32) (v124 : IVec S16 32) (k1_hw40 : k1_chk40 i v21 v27 v33 v39 v124), ∀ (k1_h1 : k1_cond1 i = 1#1), ∀ a x, ((![v124, v21] : Fin 2 → IVec S16 32) a x).toNat < S16x2048.size a := fun i v21 v27 v33 v39 v124 k1_hw40 k1_h1 => k1_hw40.1 k1_h1
theorem k1_idx158_inb : ∀ (i : grid1.Coords) (v21 : IVec S16 32) (v27 : IVec S16 32) (v33 : IVec S16 32) (v39 : IVec S16 32) (v124 : IVec S16 32) (k1_hw40 : k1_chk40 i v21 v27 v33 v39 v124), ∀ (k1_h1 : k1_cond1 i = 1#1), ∀ a x, ((![v124, v27] : Fin 2 → IVec S16 32) a x).toNat < S16x2048.size a := fun i v21 v27 v33 v39 v124 k1_hw40 k1_h1 => k1_hw40.2.1 k1_h1
theorem k1_idx159_inb : ∀ (i : grid1.Coords) (v21 : IVec S16 32) (v27 : IVec S16 32) (v33 : IVec S16 32) (v39 : IVec S16 32) (v124 : IVec S16 32) (k1_hw40 : k1_chk40 i v21 v27 v33 v39 v124), ∀ (k1_h1 : k1_cond1 i = 1#1), ∀ a x, ((![v124, v33] : Fin 2 → IVec S16 32) a x).toNat < S16x2048.size a := fun i v21 v27 v33 v39 v124 k1_hw40 k1_h1 => k1_hw40.2.2.1 k1_h1
theorem k1_idx160_inb : ∀ (i : grid1.Coords) (v21 : IVec S16 32) (v27 : IVec S16 32) (v33 : IVec S16 32) (v39 : IVec S16 32) (v124 : IVec S16 32) (k1_hw40 : k1_chk40 i v21 v27 v33 v39 v124), ∀ (k1_h1 : k1_cond1 i = 1#1), ∀ a x, ((![v124, v39] : Fin 2 → IVec S16 32) a x).toNat < S16x2048.size a := fun i v21 v27 v33 v39 v124 k1_hw40 k1_h1 => k1_hw40.2.2.2 k1_h1
def k1_off57 (k1_t5 : Fin k1_t5_loop.trips) : Fin 2 → Nat :=
  let c7_i32_39 : BitVec 32 := 7#32
  let v133 : Index := Scalar.indexCast c7_i32_39
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_38 : BitVec 32 := 16#32
  let v132 : BitVec 32 := Scalar.muli v15 c16_i32_38
  let v134 : Index := Scalar.indexCast v132
  ![7, v134.toNat]

def k1_chk41 (i : grid1.Coords) (v21 : IVec S16 32) (v27 : IVec S16 32) (v33 : IVec S16 32) (v39 : IVec S16 32) (v136 : IVec S16 32) : Prop :=
  (∀ (k1_h1 : k1_cond1 i = 1#1), ∀ a x, ((![v136, v21] : Fin 2 → IVec S16 32) a x).toNat < S16x2048.size a) ∧
  (∀ (k1_h1 : k1_cond1 i = 1#1), ∀ a x, ((![v136, v27] : Fin 2 → IVec S16 32) a x).toNat < S16x2048.size a) ∧
  (∀ (k1_h1 : k1_cond1 i = 1#1), ∀ a x, ((![v136, v33] : Fin 2 → IVec S16 32) a x).toNat < S16x2048.size a) ∧
  (∀ (k1_h1 : k1_cond1 i = 1#1), ∀ a x, ((![v136, v39] : Fin 2 → IVec S16 32) a x).toNat < S16x2048.size a)
theorem k1_idx161_inb : ∀ (i : grid1.Coords) (v21 : IVec S16 32) (v27 : IVec S16 32) (v33 : IVec S16 32) (v39 : IVec S16 32) (v136 : IVec S16 32) (k1_hw41 : k1_chk41 i v21 v27 v33 v39 v136), ∀ (k1_h1 : k1_cond1 i = 1#1), ∀ a x, ((![v136, v21] : Fin 2 → IVec S16 32) a x).toNat < S16x2048.size a := fun i v21 v27 v33 v39 v136 k1_hw41 k1_h1 => k1_hw41.1 k1_h1
theorem k1_idx162_inb : ∀ (i : grid1.Coords) (v21 : IVec S16 32) (v27 : IVec S16 32) (v33 : IVec S16 32) (v39 : IVec S16 32) (v136 : IVec S16 32) (k1_hw41 : k1_chk41 i v21 v27 v33 v39 v136), ∀ (k1_h1 : k1_cond1 i = 1#1), ∀ a x, ((![v136, v27] : Fin 2 → IVec S16 32) a x).toNat < S16x2048.size a := fun i v21 v27 v33 v39 v136 k1_hw41 k1_h1 => k1_hw41.2.1 k1_h1
theorem k1_idx163_inb : ∀ (i : grid1.Coords) (v21 : IVec S16 32) (v27 : IVec S16 32) (v33 : IVec S16 32) (v39 : IVec S16 32) (v136 : IVec S16 32) (k1_hw41 : k1_chk41 i v21 v27 v33 v39 v136), ∀ (k1_h1 : k1_cond1 i = 1#1), ∀ a x, ((![v136, v33] : Fin 2 → IVec S16 32) a x).toNat < S16x2048.size a := fun i v21 v27 v33 v39 v136 k1_hw41 k1_h1 => k1_hw41.2.2.1 k1_h1
theorem k1_idx164_inb : ∀ (i : grid1.Coords) (v21 : IVec S16 32) (v27 : IVec S16 32) (v33 : IVec S16 32) (v39 : IVec S16 32) (v136 : IVec S16 32) (k1_hw41 : k1_chk41 i v21 v27 v33 v39 v136), ∀ (k1_h1 : k1_cond1 i = 1#1), ∀ a x, ((![v136, v39] : Fin 2 → IVec S16 32) a x).toNat < S16x2048.size a := fun i v21 v27 v33 v39 v136 k1_hw41 k1_h1 => k1_hw41.2.2.2 k1_h1
def k1_off58 (k1_t5 : Fin k1_t5_loop.trips) : Fin 2 → Nat :=
  let c8_i32_41 : BitVec 32 := 8#32
  let v145 : Index := Scalar.indexCast c8_i32_41
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_40 : BitVec 32 := 16#32
  let v144 : BitVec 32 := Scalar.muli v15 c16_i32_40
  let v146 : Index := Scalar.indexCast v144
  ![8, v146.toNat]

def k1_chk42 (i : grid1.Coords) (v21 : IVec S16 32) (v27 : IVec S16 32) (v33 : IVec S16 32) (v39 : IVec S16 32) (v148 : IVec S16 32) : Prop :=
  (∀ (k1_h1 : k1_cond1 i = 1#1), ∀ a x, ((![v148, v21] : Fin 2 → IVec S16 32) a x).toNat < S16x2048.size a) ∧
  (∀ (k1_h1 : k1_cond1 i = 1#1), ∀ a x, ((![v148, v27] : Fin 2 → IVec S16 32) a x).toNat < S16x2048.size a) ∧
  (∀ (k1_h1 : k1_cond1 i = 1#1), ∀ a x, ((![v148, v33] : Fin 2 → IVec S16 32) a x).toNat < S16x2048.size a) ∧
  (∀ (k1_h1 : k1_cond1 i = 1#1), ∀ a x, ((![v148, v39] : Fin 2 → IVec S16 32) a x).toNat < S16x2048.size a)
theorem k1_idx165_inb : ∀ (i : grid1.Coords) (v21 : IVec S16 32) (v27 : IVec S16 32) (v33 : IVec S16 32) (v39 : IVec S16 32) (v148 : IVec S16 32) (k1_hw42 : k1_chk42 i v21 v27 v33 v39 v148), ∀ (k1_h1 : k1_cond1 i = 1#1), ∀ a x, ((![v148, v21] : Fin 2 → IVec S16 32) a x).toNat < S16x2048.size a := fun i v21 v27 v33 v39 v148 k1_hw42 k1_h1 => k1_hw42.1 k1_h1
theorem k1_idx166_inb : ∀ (i : grid1.Coords) (v21 : IVec S16 32) (v27 : IVec S16 32) (v33 : IVec S16 32) (v39 : IVec S16 32) (v148 : IVec S16 32) (k1_hw42 : k1_chk42 i v21 v27 v33 v39 v148), ∀ (k1_h1 : k1_cond1 i = 1#1), ∀ a x, ((![v148, v27] : Fin 2 → IVec S16 32) a x).toNat < S16x2048.size a := fun i v21 v27 v33 v39 v148 k1_hw42 k1_h1 => k1_hw42.2.1 k1_h1
theorem k1_idx167_inb : ∀ (i : grid1.Coords) (v21 : IVec S16 32) (v27 : IVec S16 32) (v33 : IVec S16 32) (v39 : IVec S16 32) (v148 : IVec S16 32) (k1_hw42 : k1_chk42 i v21 v27 v33 v39 v148), ∀ (k1_h1 : k1_cond1 i = 1#1), ∀ a x, ((![v148, v33] : Fin 2 → IVec S16 32) a x).toNat < S16x2048.size a := fun i v21 v27 v33 v39 v148 k1_hw42 k1_h1 => k1_hw42.2.2.1 k1_h1
theorem k1_idx168_inb : ∀ (i : grid1.Coords) (v21 : IVec S16 32) (v27 : IVec S16 32) (v33 : IVec S16 32) (v39 : IVec S16 32) (v148 : IVec S16 32) (k1_hw42 : k1_chk42 i v21 v27 v33 v39 v148), ∀ (k1_h1 : k1_cond1 i = 1#1), ∀ a x, ((![v148, v39] : Fin 2 → IVec S16 32) a x).toNat < S16x2048.size a := fun i v21 v27 v33 v39 v148 k1_hw42 k1_h1 => k1_hw42.2.2.2 k1_h1
def k1_off59 (k1_t5 : Fin k1_t5_loop.trips) : Fin 2 → Nat :=
  let c9_i32_43 : BitVec 32 := 9#32
  let v157 : Index := Scalar.indexCast c9_i32_43
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_42 : BitVec 32 := 16#32
  let v156 : BitVec 32 := Scalar.muli v15 c16_i32_42
  let v158 : Index := Scalar.indexCast v156
  ![9, v158.toNat]

def k1_chk43 (i : grid1.Coords) (v21 : IVec S16 32) (v27 : IVec S16 32) (v33 : IVec S16 32) (v39 : IVec S16 32) (v160 : IVec S16 32) : Prop :=
  (∀ (k1_h1 : k1_cond1 i = 1#1), ∀ a x, ((![v160, v21] : Fin 2 → IVec S16 32) a x).toNat < S16x2048.size a) ∧
  (∀ (k1_h1 : k1_cond1 i = 1#1), ∀ a x, ((![v160, v27] : Fin 2 → IVec S16 32) a x).toNat < S16x2048.size a) ∧
  (∀ (k1_h1 : k1_cond1 i = 1#1), ∀ a x, ((![v160, v33] : Fin 2 → IVec S16 32) a x).toNat < S16x2048.size a) ∧
  (∀ (k1_h1 : k1_cond1 i = 1#1), ∀ a x, ((![v160, v39] : Fin 2 → IVec S16 32) a x).toNat < S16x2048.size a)
theorem k1_idx169_inb : ∀ (i : grid1.Coords) (v21 : IVec S16 32) (v27 : IVec S16 32) (v33 : IVec S16 32) (v39 : IVec S16 32) (v160 : IVec S16 32) (k1_hw43 : k1_chk43 i v21 v27 v33 v39 v160), ∀ (k1_h1 : k1_cond1 i = 1#1), ∀ a x, ((![v160, v21] : Fin 2 → IVec S16 32) a x).toNat < S16x2048.size a := fun i v21 v27 v33 v39 v160 k1_hw43 k1_h1 => k1_hw43.1 k1_h1
theorem k1_idx170_inb : ∀ (i : grid1.Coords) (v21 : IVec S16 32) (v27 : IVec S16 32) (v33 : IVec S16 32) (v39 : IVec S16 32) (v160 : IVec S16 32) (k1_hw43 : k1_chk43 i v21 v27 v33 v39 v160), ∀ (k1_h1 : k1_cond1 i = 1#1), ∀ a x, ((![v160, v27] : Fin 2 → IVec S16 32) a x).toNat < S16x2048.size a := fun i v21 v27 v33 v39 v160 k1_hw43 k1_h1 => k1_hw43.2.1 k1_h1
theorem k1_idx171_inb : ∀ (i : grid1.Coords) (v21 : IVec S16 32) (v27 : IVec S16 32) (v33 : IVec S16 32) (v39 : IVec S16 32) (v160 : IVec S16 32) (k1_hw43 : k1_chk43 i v21 v27 v33 v39 v160), ∀ (k1_h1 : k1_cond1 i = 1#1), ∀ a x, ((![v160, v33] : Fin 2 → IVec S16 32) a x).toNat < S16x2048.size a := fun i v21 v27 v33 v39 v160 k1_hw43 k1_h1 => k1_hw43.2.2.1 k1_h1
theorem k1_idx172_inb : ∀ (i : grid1.Coords) (v21 : IVec S16 32) (v27 : IVec S16 32) (v33 : IVec S16 32) (v39 : IVec S16 32) (v160 : IVec S16 32) (k1_hw43 : k1_chk43 i v21 v27 v33 v39 v160), ∀ (k1_h1 : k1_cond1 i = 1#1), ∀ a x, ((![v160, v39] : Fin 2 → IVec S16 32) a x).toNat < S16x2048.size a := fun i v21 v27 v33 v39 v160 k1_hw43 k1_h1 => k1_hw43.2.2.2 k1_h1
def k1_off60 (k1_t5 : Fin k1_t5_loop.trips) : Fin 2 → Nat :=
  let c10_i32_45 : BitVec 32 := 10#32
  let v169 : Index := Scalar.indexCast c10_i32_45
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_44 : BitVec 32 := 16#32
  let v168 : BitVec 32 := Scalar.muli v15 c16_i32_44
  let v170 : Index := Scalar.indexCast v168
  ![10, v170.toNat]

def k1_chk44 (i : grid1.Coords) (v21 : IVec S16 32) (v27 : IVec S16 32) (v33 : IVec S16 32) (v39 : IVec S16 32) (v172 : IVec S16 32) : Prop :=
  (∀ (k1_h1 : k1_cond1 i = 1#1), ∀ a x, ((![v172, v21] : Fin 2 → IVec S16 32) a x).toNat < S16x2048.size a) ∧
  (∀ (k1_h1 : k1_cond1 i = 1#1), ∀ a x, ((![v172, v27] : Fin 2 → IVec S16 32) a x).toNat < S16x2048.size a) ∧
  (∀ (k1_h1 : k1_cond1 i = 1#1), ∀ a x, ((![v172, v33] : Fin 2 → IVec S16 32) a x).toNat < S16x2048.size a) ∧
  (∀ (k1_h1 : k1_cond1 i = 1#1), ∀ a x, ((![v172, v39] : Fin 2 → IVec S16 32) a x).toNat < S16x2048.size a)
theorem k1_idx173_inb : ∀ (i : grid1.Coords) (v21 : IVec S16 32) (v27 : IVec S16 32) (v33 : IVec S16 32) (v39 : IVec S16 32) (v172 : IVec S16 32) (k1_hw44 : k1_chk44 i v21 v27 v33 v39 v172), ∀ (k1_h1 : k1_cond1 i = 1#1), ∀ a x, ((![v172, v21] : Fin 2 → IVec S16 32) a x).toNat < S16x2048.size a := fun i v21 v27 v33 v39 v172 k1_hw44 k1_h1 => k1_hw44.1 k1_h1
theorem k1_idx174_inb : ∀ (i : grid1.Coords) (v21 : IVec S16 32) (v27 : IVec S16 32) (v33 : IVec S16 32) (v39 : IVec S16 32) (v172 : IVec S16 32) (k1_hw44 : k1_chk44 i v21 v27 v33 v39 v172), ∀ (k1_h1 : k1_cond1 i = 1#1), ∀ a x, ((![v172, v27] : Fin 2 → IVec S16 32) a x).toNat < S16x2048.size a := fun i v21 v27 v33 v39 v172 k1_hw44 k1_h1 => k1_hw44.2.1 k1_h1
theorem k1_idx175_inb : ∀ (i : grid1.Coords) (v21 : IVec S16 32) (v27 : IVec S16 32) (v33 : IVec S16 32) (v39 : IVec S16 32) (v172 : IVec S16 32) (k1_hw44 : k1_chk44 i v21 v27 v33 v39 v172), ∀ (k1_h1 : k1_cond1 i = 1#1), ∀ a x, ((![v172, v33] : Fin 2 → IVec S16 32) a x).toNat < S16x2048.size a := fun i v21 v27 v33 v39 v172 k1_hw44 k1_h1 => k1_hw44.2.2.1 k1_h1
theorem k1_idx176_inb : ∀ (i : grid1.Coords) (v21 : IVec S16 32) (v27 : IVec S16 32) (v33 : IVec S16 32) (v39 : IVec S16 32) (v172 : IVec S16 32) (k1_hw44 : k1_chk44 i v21 v27 v33 v39 v172), ∀ (k1_h1 : k1_cond1 i = 1#1), ∀ a x, ((![v172, v39] : Fin 2 → IVec S16 32) a x).toNat < S16x2048.size a := fun i v21 v27 v33 v39 v172 k1_hw44 k1_h1 => k1_hw44.2.2.2 k1_h1
def k1_off61 (k1_t5 : Fin k1_t5_loop.trips) : Fin 2 → Nat :=
  let c11_i32_47 : BitVec 32 := 11#32
  let v181 : Index := Scalar.indexCast c11_i32_47
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_46 : BitVec 32 := 16#32
  let v180 : BitVec 32 := Scalar.muli v15 c16_i32_46
  let v182 : Index := Scalar.indexCast v180
  ![11, v182.toNat]

def k1_chk45 (i : grid1.Coords) (v21 : IVec S16 32) (v27 : IVec S16 32) (v33 : IVec S16 32) (v39 : IVec S16 32) (v184 : IVec S16 32) : Prop :=
  (∀ (k1_h1 : k1_cond1 i = 1#1), ∀ a x, ((![v184, v21] : Fin 2 → IVec S16 32) a x).toNat < S16x2048.size a) ∧
  (∀ (k1_h1 : k1_cond1 i = 1#1), ∀ a x, ((![v184, v27] : Fin 2 → IVec S16 32) a x).toNat < S16x2048.size a) ∧
  (∀ (k1_h1 : k1_cond1 i = 1#1), ∀ a x, ((![v184, v33] : Fin 2 → IVec S16 32) a x).toNat < S16x2048.size a) ∧
  (∀ (k1_h1 : k1_cond1 i = 1#1), ∀ a x, ((![v184, v39] : Fin 2 → IVec S16 32) a x).toNat < S16x2048.size a)
theorem k1_idx177_inb : ∀ (i : grid1.Coords) (v21 : IVec S16 32) (v27 : IVec S16 32) (v33 : IVec S16 32) (v39 : IVec S16 32) (v184 : IVec S16 32) (k1_hw45 : k1_chk45 i v21 v27 v33 v39 v184), ∀ (k1_h1 : k1_cond1 i = 1#1), ∀ a x, ((![v184, v21] : Fin 2 → IVec S16 32) a x).toNat < S16x2048.size a := fun i v21 v27 v33 v39 v184 k1_hw45 k1_h1 => k1_hw45.1 k1_h1
theorem k1_idx178_inb : ∀ (i : grid1.Coords) (v21 : IVec S16 32) (v27 : IVec S16 32) (v33 : IVec S16 32) (v39 : IVec S16 32) (v184 : IVec S16 32) (k1_hw45 : k1_chk45 i v21 v27 v33 v39 v184), ∀ (k1_h1 : k1_cond1 i = 1#1), ∀ a x, ((![v184, v27] : Fin 2 → IVec S16 32) a x).toNat < S16x2048.size a := fun i v21 v27 v33 v39 v184 k1_hw45 k1_h1 => k1_hw45.2.1 k1_h1
theorem k1_idx179_inb : ∀ (i : grid1.Coords) (v21 : IVec S16 32) (v27 : IVec S16 32) (v33 : IVec S16 32) (v39 : IVec S16 32) (v184 : IVec S16 32) (k1_hw45 : k1_chk45 i v21 v27 v33 v39 v184), ∀ (k1_h1 : k1_cond1 i = 1#1), ∀ a x, ((![v184, v33] : Fin 2 → IVec S16 32) a x).toNat < S16x2048.size a := fun i v21 v27 v33 v39 v184 k1_hw45 k1_h1 => k1_hw45.2.2.1 k1_h1
theorem k1_idx180_inb : ∀ (i : grid1.Coords) (v21 : IVec S16 32) (v27 : IVec S16 32) (v33 : IVec S16 32) (v39 : IVec S16 32) (v184 : IVec S16 32) (k1_hw45 : k1_chk45 i v21 v27 v33 v39 v184), ∀ (k1_h1 : k1_cond1 i = 1#1), ∀ a x, ((![v184, v39] : Fin 2 → IVec S16 32) a x).toNat < S16x2048.size a := fun i v21 v27 v33 v39 v184 k1_hw45 k1_h1 => k1_hw45.2.2.2 k1_h1
def k1_off62 (k1_t5 : Fin k1_t5_loop.trips) : Fin 2 → Nat :=
  let c12_i32_49 : BitVec 32 := 12#32
  let v193 : Index := Scalar.indexCast c12_i32_49
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_48 : BitVec 32 := 16#32
  let v192 : BitVec 32 := Scalar.muli v15 c16_i32_48
  let v194 : Index := Scalar.indexCast v192
  ![12, v194.toNat]

def k1_chk46 (i : grid1.Coords) (v21 : IVec S16 32) (v27 : IVec S16 32) (v33 : IVec S16 32) (v39 : IVec S16 32) (v196 : IVec S16 32) : Prop :=
  (∀ (k1_h1 : k1_cond1 i = 1#1), ∀ a x, ((![v196, v21] : Fin 2 → IVec S16 32) a x).toNat < S16x2048.size a) ∧
  (∀ (k1_h1 : k1_cond1 i = 1#1), ∀ a x, ((![v196, v27] : Fin 2 → IVec S16 32) a x).toNat < S16x2048.size a) ∧
  (∀ (k1_h1 : k1_cond1 i = 1#1), ∀ a x, ((![v196, v33] : Fin 2 → IVec S16 32) a x).toNat < S16x2048.size a) ∧
  (∀ (k1_h1 : k1_cond1 i = 1#1), ∀ a x, ((![v196, v39] : Fin 2 → IVec S16 32) a x).toNat < S16x2048.size a)
theorem k1_idx181_inb : ∀ (i : grid1.Coords) (v21 : IVec S16 32) (v27 : IVec S16 32) (v33 : IVec S16 32) (v39 : IVec S16 32) (v196 : IVec S16 32) (k1_hw46 : k1_chk46 i v21 v27 v33 v39 v196), ∀ (k1_h1 : k1_cond1 i = 1#1), ∀ a x, ((![v196, v21] : Fin 2 → IVec S16 32) a x).toNat < S16x2048.size a := fun i v21 v27 v33 v39 v196 k1_hw46 k1_h1 => k1_hw46.1 k1_h1
theorem k1_idx182_inb : ∀ (i : grid1.Coords) (v21 : IVec S16 32) (v27 : IVec S16 32) (v33 : IVec S16 32) (v39 : IVec S16 32) (v196 : IVec S16 32) (k1_hw46 : k1_chk46 i v21 v27 v33 v39 v196), ∀ (k1_h1 : k1_cond1 i = 1#1), ∀ a x, ((![v196, v27] : Fin 2 → IVec S16 32) a x).toNat < S16x2048.size a := fun i v21 v27 v33 v39 v196 k1_hw46 k1_h1 => k1_hw46.2.1 k1_h1
theorem k1_idx183_inb : ∀ (i : grid1.Coords) (v21 : IVec S16 32) (v27 : IVec S16 32) (v33 : IVec S16 32) (v39 : IVec S16 32) (v196 : IVec S16 32) (k1_hw46 : k1_chk46 i v21 v27 v33 v39 v196), ∀ (k1_h1 : k1_cond1 i = 1#1), ∀ a x, ((![v196, v33] : Fin 2 → IVec S16 32) a x).toNat < S16x2048.size a := fun i v21 v27 v33 v39 v196 k1_hw46 k1_h1 => k1_hw46.2.2.1 k1_h1
theorem k1_idx184_inb : ∀ (i : grid1.Coords) (v21 : IVec S16 32) (v27 : IVec S16 32) (v33 : IVec S16 32) (v39 : IVec S16 32) (v196 : IVec S16 32) (k1_hw46 : k1_chk46 i v21 v27 v33 v39 v196), ∀ (k1_h1 : k1_cond1 i = 1#1), ∀ a x, ((![v196, v39] : Fin 2 → IVec S16 32) a x).toNat < S16x2048.size a := fun i v21 v27 v33 v39 v196 k1_hw46 k1_h1 => k1_hw46.2.2.2 k1_h1
def k1_off63 (k1_t5 : Fin k1_t5_loop.trips) : Fin 2 → Nat :=
  let c13_i32_51 : BitVec 32 := 13#32
  let v205 : Index := Scalar.indexCast c13_i32_51
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_50 : BitVec 32 := 16#32
  let v204 : BitVec 32 := Scalar.muli v15 c16_i32_50
  let v206 : Index := Scalar.indexCast v204
  ![13, v206.toNat]

def k1_chk47 (i : grid1.Coords) (v21 : IVec S16 32) (v27 : IVec S16 32) (v33 : IVec S16 32) (v39 : IVec S16 32) (v208 : IVec S16 32) : Prop :=
  (∀ (k1_h1 : k1_cond1 i = 1#1), ∀ a x, ((![v208, v21] : Fin 2 → IVec S16 32) a x).toNat < S16x2048.size a) ∧
  (∀ (k1_h1 : k1_cond1 i = 1#1), ∀ a x, ((![v208, v27] : Fin 2 → IVec S16 32) a x).toNat < S16x2048.size a) ∧
  (∀ (k1_h1 : k1_cond1 i = 1#1), ∀ a x, ((![v208, v33] : Fin 2 → IVec S16 32) a x).toNat < S16x2048.size a) ∧
  (∀ (k1_h1 : k1_cond1 i = 1#1), ∀ a x, ((![v208, v39] : Fin 2 → IVec S16 32) a x).toNat < S16x2048.size a)
theorem k1_idx185_inb : ∀ (i : grid1.Coords) (v21 : IVec S16 32) (v27 : IVec S16 32) (v33 : IVec S16 32) (v39 : IVec S16 32) (v208 : IVec S16 32) (k1_hw47 : k1_chk47 i v21 v27 v33 v39 v208), ∀ (k1_h1 : k1_cond1 i = 1#1), ∀ a x, ((![v208, v21] : Fin 2 → IVec S16 32) a x).toNat < S16x2048.size a := fun i v21 v27 v33 v39 v208 k1_hw47 k1_h1 => k1_hw47.1 k1_h1
theorem k1_idx186_inb : ∀ (i : grid1.Coords) (v21 : IVec S16 32) (v27 : IVec S16 32) (v33 : IVec S16 32) (v39 : IVec S16 32) (v208 : IVec S16 32) (k1_hw47 : k1_chk47 i v21 v27 v33 v39 v208), ∀ (k1_h1 : k1_cond1 i = 1#1), ∀ a x, ((![v208, v27] : Fin 2 → IVec S16 32) a x).toNat < S16x2048.size a := fun i v21 v27 v33 v39 v208 k1_hw47 k1_h1 => k1_hw47.2.1 k1_h1
theorem k1_idx187_inb : ∀ (i : grid1.Coords) (v21 : IVec S16 32) (v27 : IVec S16 32) (v33 : IVec S16 32) (v39 : IVec S16 32) (v208 : IVec S16 32) (k1_hw47 : k1_chk47 i v21 v27 v33 v39 v208), ∀ (k1_h1 : k1_cond1 i = 1#1), ∀ a x, ((![v208, v33] : Fin 2 → IVec S16 32) a x).toNat < S16x2048.size a := fun i v21 v27 v33 v39 v208 k1_hw47 k1_h1 => k1_hw47.2.2.1 k1_h1
theorem k1_idx188_inb : ∀ (i : grid1.Coords) (v21 : IVec S16 32) (v27 : IVec S16 32) (v33 : IVec S16 32) (v39 : IVec S16 32) (v208 : IVec S16 32) (k1_hw47 : k1_chk47 i v21 v27 v33 v39 v208), ∀ (k1_h1 : k1_cond1 i = 1#1), ∀ a x, ((![v208, v39] : Fin 2 → IVec S16 32) a x).toNat < S16x2048.size a := fun i v21 v27 v33 v39 v208 k1_hw47 k1_h1 => k1_hw47.2.2.2 k1_h1
def k1_off64 (k1_t5 : Fin k1_t5_loop.trips) : Fin 2 → Nat :=
  let c14_i32_53 : BitVec 32 := 14#32
  let v217 : Index := Scalar.indexCast c14_i32_53
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_52 : BitVec 32 := 16#32
  let v216 : BitVec 32 := Scalar.muli v15 c16_i32_52
  let v218 : Index := Scalar.indexCast v216
  ![14, v218.toNat]

def k1_chk48 (i : grid1.Coords) (v21 : IVec S16 32) (v27 : IVec S16 32) (v33 : IVec S16 32) (v39 : IVec S16 32) (v220 : IVec S16 32) : Prop :=
  (∀ (k1_h1 : k1_cond1 i = 1#1), ∀ a x, ((![v220, v21] : Fin 2 → IVec S16 32) a x).toNat < S16x2048.size a) ∧
  (∀ (k1_h1 : k1_cond1 i = 1#1), ∀ a x, ((![v220, v27] : Fin 2 → IVec S16 32) a x).toNat < S16x2048.size a) ∧
  (∀ (k1_h1 : k1_cond1 i = 1#1), ∀ a x, ((![v220, v33] : Fin 2 → IVec S16 32) a x).toNat < S16x2048.size a) ∧
  (∀ (k1_h1 : k1_cond1 i = 1#1), ∀ a x, ((![v220, v39] : Fin 2 → IVec S16 32) a x).toNat < S16x2048.size a)
theorem k1_idx189_inb : ∀ (i : grid1.Coords) (v21 : IVec S16 32) (v27 : IVec S16 32) (v33 : IVec S16 32) (v39 : IVec S16 32) (v220 : IVec S16 32) (k1_hw48 : k1_chk48 i v21 v27 v33 v39 v220), ∀ (k1_h1 : k1_cond1 i = 1#1), ∀ a x, ((![v220, v21] : Fin 2 → IVec S16 32) a x).toNat < S16x2048.size a := fun i v21 v27 v33 v39 v220 k1_hw48 k1_h1 => k1_hw48.1 k1_h1
theorem k1_idx190_inb : ∀ (i : grid1.Coords) (v21 : IVec S16 32) (v27 : IVec S16 32) (v33 : IVec S16 32) (v39 : IVec S16 32) (v220 : IVec S16 32) (k1_hw48 : k1_chk48 i v21 v27 v33 v39 v220), ∀ (k1_h1 : k1_cond1 i = 1#1), ∀ a x, ((![v220, v27] : Fin 2 → IVec S16 32) a x).toNat < S16x2048.size a := fun i v21 v27 v33 v39 v220 k1_hw48 k1_h1 => k1_hw48.2.1 k1_h1
theorem k1_idx191_inb : ∀ (i : grid1.Coords) (v21 : IVec S16 32) (v27 : IVec S16 32) (v33 : IVec S16 32) (v39 : IVec S16 32) (v220 : IVec S16 32) (k1_hw48 : k1_chk48 i v21 v27 v33 v39 v220), ∀ (k1_h1 : k1_cond1 i = 1#1), ∀ a x, ((![v220, v33] : Fin 2 → IVec S16 32) a x).toNat < S16x2048.size a := fun i v21 v27 v33 v39 v220 k1_hw48 k1_h1 => k1_hw48.2.2.1 k1_h1
theorem k1_idx192_inb : ∀ (i : grid1.Coords) (v21 : IVec S16 32) (v27 : IVec S16 32) (v33 : IVec S16 32) (v39 : IVec S16 32) (v220 : IVec S16 32) (k1_hw48 : k1_chk48 i v21 v27 v33 v39 v220), ∀ (k1_h1 : k1_cond1 i = 1#1), ∀ a x, ((![v220, v39] : Fin 2 → IVec S16 32) a x).toNat < S16x2048.size a := fun i v21 v27 v33 v39 v220 k1_hw48 k1_h1 => k1_hw48.2.2.2 k1_h1
def k1_off65 (k1_t5 : Fin k1_t5_loop.trips) : Fin 2 → Nat :=
  let c15_i32_55 : BitVec 32 := 15#32
  let v229 : Index := Scalar.indexCast c15_i32_55
  let c0_i32_11 : BitVec 32 := 0#32
  let c0_i32_7 : BitVec 32 := 0#32
  let c1_i32_8 : BitVec 32 := 1#32
  let arg9 : BitVec 32 := Scf.iv c0_i32_7 c1_i32_8 k1_t5
  let c1_i32_10 : BitVec 32 := 1#32
  let v14 : BitVec 32 := Scalar.muli arg9 c1_i32_10
  let v15 : BitVec 32 := Scalar.addi c0_i32_11 v14
  let c16_i32_54 : BitVec 32 := 16#32
  let v228 : BitVec 32 := Scalar.muli v15 c16_i32_54
  let v230 : Index := Scalar.indexCast v228
  ![15, v230.toNat]
def k1_off66 (i : grid1.Coords) : Fin 2 → Nat :=
  let arg1 : BitVec 32 := BitVec.ofNat 32 (i 1).val
  let c16_i32 : BitVec 32 := 16#32
  let v0 : BitVec 32 := Scalar.muli arg1 c16_i32
  let c0_i32_12_r6 : BitVec 32 := 0#32
  ![v0.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x512 : Shape := ⟨2, ![256, 512]⟩
abbrev S4x512x128 : Shape := ⟨3, ![4, 512, 128]⟩
abbrev S4x512 : Shape := ⟨2, ![4, 512]⟩
abbrev S4x100000 : Shape := ⟨2, ![4, 100000]⟩
abbrev S256x4x128 : Shape := ⟨3, ![256, 4, 128]⟩
abbrev S4x128x256 : Shape := ⟨3, ![4, 128, 256]⟩
abbrev S4x512x256 : Shape := ⟨3, ![4, 512, 256]⟩
abbrev S4x512x1 : Shape := ⟨3, ![4, 512, 1]⟩
abbrev S4x100000x1 : Shape := ⟨3, ![4, 100000, 1]⟩
abbrev S_ : Shape := ⟨0, ![]⟩
abbrev S1 : Shape := ⟨1, ![1]⟩
abbrev S1x1x1 : Shape := ⟨3, ![1, 1, 1]⟩
abbrev S4x100000x256 : Shape := ⟨3, ![4, 100000, 256]⟩
abbrev S100000x256 : Shape := ⟨2, ![100000, 256]⟩
abbrev S256x100000 : Shape := ⟨2, ![256, 100000]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S4x512x128, .f32⟩
  | .hbm, ⟨2, _⟩ => ⟨S4x512, .f32⟩
  | .hbm, ⟨3, _⟩ => ⟨S4x100000, .i32⟩
  | .hbm, ⟨4, _⟩ => ⟨S256x4x128, .f32⟩
  | .hbm, ⟨5, _⟩ => ⟨S4x128x256, .f32⟩
  | .hbm, ⟨6, _⟩ => ⟨S4x512x256, .f32⟩
  | .hbm, ⟨7, _⟩ => ⟨S4x512x1, .f32⟩
  | .hbm, ⟨8, _⟩ => ⟨S4x512x256, .f32⟩
  | .hbm, ⟨9, _⟩ => ⟨S4x512x256, .f32⟩
  | .hbm, ⟨10, _⟩ => ⟨S4x100000x1, .i32⟩
  | .hbm, ⟨11, _⟩ => ⟨S_, .i32⟩
  | .hbm, ⟨12, _⟩ => ⟨S4x100000x1, .i32⟩
  | .hbm, ⟨13, _⟩ => ⟨S4x100000x1, .i1⟩
  | .hbm, ⟨14, _⟩ => ⟨S_, .i32⟩
  | .hbm, ⟨15, _⟩ => ⟨S4x100000x1, .i32⟩
  | .hbm, ⟨16, _⟩ => ⟨S4x100000x1, .i32⟩
  | .hbm, ⟨17, _⟩ => ⟨S4x100000x1, .i32⟩
  | .hbm, ⟨18, _⟩ => ⟨S1, .i32⟩
  | .hbm, ⟨19, _⟩ => ⟨S_, .i32⟩
  | .hbm, ⟨20, _⟩ => ⟨S4x100000x1, .i32⟩
  | .hbm, ⟨21, _⟩ => ⟨S4x100000x1, .i1⟩
  | .hbm, ⟨22, _⟩ => ⟨S1x1x1, .i32⟩
  | .hbm, ⟨23, _⟩ => ⟨S4x100000x1, .i32⟩
  | .hbm, ⟨24, _⟩ => ⟨S4x100000x1, .i1⟩
  | .hbm, ⟨25, _⟩ => ⟨S4x100000x1, .i1⟩
  | .hbm, ⟨26, _⟩ => ⟨S_, .i1⟩
  | .hbm, ⟨27, _⟩ => ⟨S4x100000, .i1⟩
  | .hbm, ⟨28, _⟩ => ⟨S4x100000x256, .f32⟩
  | .hbm, ⟨29, _⟩ => ⟨S4x100000x256, .i1⟩
  | .hbm, ⟨30, _⟩ => ⟨S_, .f32⟩
  | .hbm, ⟨31, _⟩ => ⟨S4x100000x256, .f32⟩
  | .hbm, ⟨32, _⟩ => ⟨S4x100000x256, .f32⟩
  | .hbm, ⟨33, _⟩ => ⟨S_, .f32⟩
  | .hbm, ⟨34, _⟩ => ⟨S100000x256, .f32⟩
  | .hbm, ⟨35, _⟩ => ⟨S256x100000, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩

abbrev nD : Nat := 1
abbrev τ : Topo := Topo.v7x

variable {F : FTy → Type} [FloatOps F]
-- ==== Proof.Spec.lean ====
/- The mathematics of the problem: the table of the four dense blocks, and the sum the coordinates pick out of it. -/
module

public import Idealize.ShloMosaic.Lib.ValueIdx
public import Idealize.ShloMosaic.PureOps.Ideal

@[expose] public section

noncomputable section

namespace Cert.Spec

open Idealize.ShloMosaic Idealize.ShloMosaic.ValueIdx

/-- The column of the input that feature `f` of block `b` is. -/
def feat (b : Fin 4) (f : Fin 128) : Fin 512 := ⟨128 * b.val + f.val, by omega⟩

/-- The table: for row `n`, block `b` and coordinate `c`, the product of block `b` of the row with the weights, and the bias. -/
def tab (x : (⟨2, ![256, 512]⟩ : Shape).Idx → EReal) (w : (⟨3, ![4, 512, 128]⟩ : Shape).Idx → EReal) (v : (⟨2, ![4, 512]⟩ : Shape).Idx → EReal)
    (n : Fin 256) (b : Fin 4) (c : Fin 512) : EReal :=
  (∑ f : Fin 128, x (ix2 n (feat b f)) * w (ix3 b c f)) + v (ix2 b c)

/-- The sum over the blocks of the table's entries at the coordinates `k`. -/
def val (x : (⟨2, ![256, 512]⟩ : Shape).Idx → EReal) (w : (⟨3, ![4, 512, 128]⟩ : Shape).Idx → EReal) (v : (⟨2, ![4, 512]⟩ : Shape).Idx → EReal)
    (n : Fin 256) (k : Fin 4 → Fin 512) : EReal :=
  ∑ b : Fin 4, tab x w v n b (k b)

end Cert.Spec

end
-- ==== Proof.RefValue.lean ====
/- What the reference computes, entry by entry: the sum, over the four blocks of coordinates, of the table's entries. -/
module

public import proofs.«01_k».proof.Proof.Gen.ReferenceIdeal
public import proofs.«01_k».proof.Proof.Spec
public import Idealize.ShloMosaic.Lib.ValueLayout
public import Idealize.ShloMosaic.Lib.Pointwise
public import Idealize.ShloMosaic.Lib.StackMember
public import Idealize.ShloMosaic.Lib.ReduceAll
public import Idealize.ShloMosaic.Lib.WordCmp
public import Idealize.ShloMosaic.Lib.ValueIdx

@[expose] public section

noncomputable section

namespace Cert.RefPf

open Cert.ReferenceIdeal Cert.ReferenceIdeal.Gen
open Idealize.ShloMosaic hiding ix1 ix2 ix3
open Idealize.ShloMosaic.ValueIdx

/-! ## The gather along the table's rows -/

abbrev G : GatherDims S4x512x256 S4x100000x1 S4x100000x256 := gather_S4x512x256_S4x100000x1_S4x100000x256_2_1_0_0_1_2_11256

theorem gather_read {α : Type} (x : S4x512x256.Idx → α) (idx : IVec S4x100000x1 32) (b : Fin 4) (j : Fin 100000) (n : Fin 256)
    (h : (idx (ix3 b j 0)).toNat < 512) :
    Host.gather G x idx (ix3 b j n) = x (ix3 b ⟨(idx (ix3 b j 0)).toNat, h⟩ n) := by
  unfold Host.gather
  congr 1
  funext a
  refine Fin.ext ?_
  show G.start (ix3 b j n) idx a + G.batchCoord (ix3 b j n) a + G.offCoord (ix3 b j n) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : G.siIdx (ix3 b j n) ⟨List.idxOf (1 : Fin 3) G.startIndexMap, List.idxOf_lt_length_iff.2 (by decide)⟩ = ix3 b j 0 := by
      funext k; refine Fin.ext ?_
      match k with
      | ⟨0, _⟩ => rfl
      | ⟨1, _⟩ => rfl
      | ⟨2, _⟩ => rfl
    show min (idx (G.siIdx (ix3 b j n) _)).toInt.toNat (512 - 1) = (idx (ix3 b j 0)).toNat
    rw [hsi, BitVec.toInt_eq_toNat_of_lt (by omega)]
    simp only [Int.toNat_natCast]
    omega
  · rw [GatherDims.batchCoord_eq_zero _ _ _ (by decide)]
    have : G.start (ix3 b j n) idx 2 = 0 := by unfold GatherDims.start; rw [dif_neg (by decide)]
    rw [this]
    simp only [Nat.zero_add]
    rfl

/-! ## The reference's arrays -/

variable (x : FVec Ideal S256x512 .f32) (w : FVec Ideal S4x512x128 .f32) (v : FVec Ideal S4x512 .f32) (a : IVec S4x100000 32)

/-- The coordinates as the gather's indices: a negative one is counted from the end. -/
def idxs : IVec S4x100000x1 32 :=
  select (cmpi .slt (broadcastInDim S4x100000x1 ![0, 1] bcast_S4x100000_S4x100000x1_0_1 a) (broadcastInDim S4x100000x1 ![] bcast_S_S4x100000x1 (constantI S_ 32 0#32)))
    (addi (broadcastInDim S4x100000x1 ![0, 1] bcast_S4x100000_S4x100000x1_0_1 a) (broadcastInDim S4x100000x1 ![] bcast_S_S4x100000x1 (constantI S_ 32 512#32)))
    (broadcastInDim S4x100000x1 ![0, 1] bcast_S4x100000_S4x100000x1_0_1 a)

/-- Which indices are in range. -/
def oks : IVec S4x100000 1 :=
  Host.reduce IntOp.andi (andi (cmpi .sge (idxs a) (broadcastInDim S4x100000x1 ![] bcast_S_S4x100000x1 (constantI S_ 32 0#32)))
      (cmpi .sle (idxs a) (broadcastInDim S4x100000x1 ![0, 1, 2] bcast_S1x1x1_S4x100000x1_0_1_2 (broadcastInDim S1x1x1 ![2] bcast_S1_S1x1x1_2 (constantI S1 32 511#32)))))
    (constantI S_ 1 1#1) reducesTo_S4x100000x1_S4x100000_d2 h_S_

/-- The table. -/
def tbl : FVec Ideal S4x512x256 .f32 :=
  addf (Host.dotGeneral dot_S4x512x128_S4x128x256_S4x512x256_2_1_1_2_0_0 none w
      (transpose S4x128x256 [1, 2, 0] (shapeCast _ x shapeCasts_S256x512_S256x4x128) transposes_S256x4x128_S4x128x256_1_2_0))
    (broadcastInDim S4x512x256 ![0, 1, 2] bcast_S4x512x1_S4x512x256_0_1_2 (broadcastInDim S4x512x1 ![0, 1] bcast_S4x512_S4x512x1_0_1 v))

/-- The result. -/
def out : FVec Ideal S256x100000 .f32 :=
  transpose S256x100000 [1, 0] (Host.reduceAdd (select (broadcastInDim S4x100000x256 ![0, 1] bcast_S4x100000_S4x100000x256_0_1 (oks a))
      (Host.gather G (tbl x w v) (idxs a)) (broadcastInDim S4x100000x256 ![] bcast_S_S4x100000x256 (constant S_ .f32 0x7FC00000#32)))
    (constant S_ .f32 0x00000000#32) reducesTo_S4x100000x256_S100000x256_d0 h_S_) transposes_S100000x256_S256x100000_1_0

/-! ## Entry by entry -/

theorem lt_word (k : BitVec 32) (h : k.toNat < 512) : IntOp.cmpi .slt k 0#32 = 0#1 := by
  have : (BitVec.slt k 0#32) = false := by
    rw [BitVec.slt_eq_decide, decide_eq_false_iff_not, BitVec.toInt_eq_toNat_of_lt (by omega)]; simp
  simp [IntOp.cmpi, this]

theorem ok_word (k : BitVec 32) (h : k.toNat < 512) : IntOp.andi (IntOp.cmpi .sge k 0#32) (IntOp.cmpi .sle k 511#32) = 1#1 := by
  have h1 : BitVec.sle 0#32 k = true := by
    rw [BitVec.sle_eq_decide, decide_eq_true_eq, BitVec.toInt_eq_toNat_of_lt (x := k) (by omega)]; simp
  have h2 : BitVec.sle k 511#32 = true := by
    rw [BitVec.sle_eq_decide, decide_eq_true_eq, BitVec.toInt_eq_toNat_of_lt (by omega)]
    show (k.toNat : Int) ≤ 511; omega
  simp [IntOp.cmpi, h1, h2, IntOp.andi]

variable (ha : ∀ i, (a i).toNat < 512)
include ha

theorem spread_at (i : S4x100000x1.Idx) : broadcastInDim S4x100000x1 ![0, 1] bcast_S4x100000_S4x100000x1_0_1 a i = a (ix2 (i 0) (i 1)) := by
  unfold broadcastInDim
  congr 1
  funext k
  match k with
  | ⟨0, _⟩ => rfl
  | ⟨1, _⟩ => rfl

theorem idxs_at (i : S4x100000x1.Idx) : idxs a i = a (ix2 (i 0) (i 1)) := by
  have e := spread_at a ha i
  show (if (IntOp.cmpi .slt (broadcastInDim S4x100000x1 ![0, 1] bcast_S4x100000_S4x100000x1_0_1 a i) 0#32) = 1#1 then _ else _) = _
  rw [e, lt_word _ (ha _), if_neg (by decide)]

theorem oks_at (i : S4x100000.Idx) : oks a i = 1#1 := by
  unfold oks
  refine Host.reduce_andi_one _ _ _ _ _ rfl fun k => ?_
  show IntOp.andi (IntOp.cmpi .sge (idxs a k) 0#32) (IntOp.cmpi .sle (idxs a k) 511#32) = 1#1
  rw [idxs_at a ha]; exact ok_word _ (ha _)

omit ha in
theorem tbl_at (b : Fin 4) (c : Fin 512) (n : Fin 256) : tbl x w v (ix3 b c n) = Spec.tab x w v n b c := by
  unfold tbl Spec.tab
  show Host.dotGeneral _ none _ _ (ix3 b c n) + _ = _
  congr 1
  · refine (StackMember.dotGeneral_stack_apply _ none w _ b c n).trans ?_
    refine Finset.sum_congr rfl fun f _ => ?_
    rw [mul_comm]
    congr 1
    rw [transpose_apply _ _ _ (ix3 b f n) (ix3 n b f) (fun k => match k with | ⟨0, _⟩ => rfl | ⟨1, _⟩ => rfl | ⟨2, _⟩ => rfl)]
    refine shapeCast_apply x _ _ _ ?_
    rw [Shape.rowMajor_val_two, Shape.rowMajor_val_three]
    show n.val * 512 + (128 * b.val + f.val) = (n.val * 4 + b.val) * 128 + f.val
    ring
  · unfold broadcastInDim
    congr 1
    funext k
    match k with
    | ⟨0, _⟩ => rfl
    | ⟨1, _⟩ => rfl

theorem sel_at (i k : S4x100000x256.Idx) (hk : i = k) :
    select (broadcastInDim S4x100000x256 ![0, 1] bcast_S4x100000_S4x100000x256_0_1 (oks a))
      (Host.gather G (tbl x w v) (idxs a)) (broadcastInDim S4x100000x256 ![] bcast_S_S4x100000x256 (constant (F := Ideal) S_ .f32 0x7FC00000#32)) i
      = Host.gather G (tbl x w v) (idxs a) k := by
  subst hk
  have e : broadcastInDim S4x100000x256 ![0, 1] bcast_S4x100000_S4x100000x256_0_1 (oks a) i = 1#1 := oks_at a ha _
  unfold select
  rw [e]
  rfl

theorem out_at (n : Fin 256) (j : Fin 100000) : out x w v a (ix2 n j) = Spec.val x w v n fun b => ⟨(a (ix2 b j)).toNat, ha _⟩ := by
  unfold out Spec.val
  rw [transpose_ix2_apply, Host.reduceAdd_apply]
  refine (Ideal.hostReduceAdd_r3_a0 _ _ _ _).trans ?_
  rw [show (constant (F := Ideal) S_ .f32 0x00000000#32 (Shape.Idx.first h_S_)) = (0 : EReal) from by simp [constant], zero_add]
  refine Finset.sum_congr rfl fun b _ => ?_
  have e : (idxs a (ix3 b j 0)) = a (ix2 b j) := idxs_at a ha _
  have hb : (idxs a (ix3 b j 0)).toNat < 512 := by rw [e]; exact ha _
  refine (sel_at x w v a ha _ (ix3 b j n) ?_).trans ?_
  · funext k
    match k with
    | ⟨0, _⟩ => rfl
    | ⟨1, _⟩ => rfl
    | ⟨2, _⟩ => rfl
  · rw [gather_read _ _ _ _ _ hb, tbl_at]
    congr 1
    exact Fin.ext (congrArg BitVec.toNat e)

end Cert.RefPf

end
-- ==== Proof.RefRun.lean ====
/- The reference's run: what it leaves in its result and its arguments, and that its semaphores stay at zero. -/
module

public import proofs.«01_k».proof.Defs
public import proofs.«01_k».proof.Proof.RefValue
public import proofs.«01_k».proof.Proof.Gen.ReferenceIdeal
public import proofs.«01_k».proof.Proof.Gen.Pre_in_range
public import proofs.«01_k».proof.Proof.Gen.ReferenceIdeal.Run
public import Idealize.ShloMosaic.Lib.Quiescent

@[expose] public section

noncomputable section

namespace Cert.RefPf

open Cert.ReferenceIdeal Cert.ReferenceIdeal.Gen

open Idealize.ShloMosaic Idealize.SL.Sem

/-- What the reference leaves: its result the composed value of its arguments, which keep what they held. -/
theorem run_main (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v9) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨(h c).1, (h c).2⟩) (Cert.ReferenceIdeal.Value.run (F := Ideal) m g)

theorem frame : Cert.quiescent_ReferenceIdeal := fun m g _ =>
  (θ_run (defs (F := Ideal)) _ _).mono (fun r h => ⟨fun c => (h c).2, sem_eq_zero_of_no_sems (by decide) r.2⟩) (run_main m g)

theorem frame_in_range : Cert.quiescent_ReferenceIdeal_pre_in_range := fun m g _ => frame m g trivial

end Cert.RefPf

end
-- ==== Proof.Range.lean ====
/- The precondition on the coordinates, read as a bound on every word. -/
module

public import proofs.«01_k».proof.Proof.Gen.Pre_in_range
public import Idealize.ShloMosaic.Lib.ReduceAll
public import Idealize.ShloMosaic.Lib.WordCmp

@[expose] public section

noncomputable section

namespace Cert.RangePf

open Idealize.ShloMosaic Cert.Pre_in_range

variable {F : FTy → Type} [FloatOps F]

theorem both_bits : ∀ p q : Bool, IntOp.andi (BitVec.ofBool p) (BitVec.ofBool q) = 1#1 → p = true ∧ q = true := by decide

/-- A word that is at least 0 and below 512 as a signed word is a number below 512. -/
theorem word_range (v : BitVec 32) (e : IntOp.andi (IntOp.cmpi .sge v 0#32) (IntOp.cmpi .slt v 512#32) = 1#1) : v.toNat < 512 := by
  obtain ⟨h1, h2⟩ := both_bits _ _ e
  simp only [BitVec.sle_eq_decide, BitVec.slt_eq_decide, decide_eq_true_eq, BitVec.toInt_eq_toNat_cond, BitVec.toNat_ofNat, Nat.reducePow,
    Nat.reduceMod] at h1 h2
  omega

instance : Subsingleton S_.Idx := ⟨fun a b => funext fun k => k.elim0⟩

/-- When the precondition holds, every coordinate is below 512. -/
theorem coords (a0 : FVec F S256x512 .f32) (a1 : FVec F S4x512x128 .f32) (a2 : FVec F S4x512 .f32) (a3 : IVec S4x100000 32)
    (h : fn a0 a1 a2 a3 = fun _ => 1#1) (i : S4x100000.Idx) : (a3 i).toNat < 512 := by
  have e := congrFun h (Shape.Idx.first Facts.h_S_)
  unfold fn at e
  have e1 := Host.reduce_andi_all _ _ _ _ _ e i
  exact word_range _ e1

end Cert.RangePf

end
-- ==== Proof.KernelIdeal.Setup.lean ====
/- The program as its proofs see it: the launch's parameters, the two libraries' ghost algebras side by side, the
   arrays the call moves, and the function of the table and of the index words that every result is. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueIdxCore
public import Idealize.ShloMosaic.Lib.ValueLayout
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

/-! ## The launch's parameters -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The handshake's semaphores are distinct, none is one that a processor scopes, and no buffer is shared by a
    SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds, the pipelined region's rounds, the local transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev wLoc (d : Dev nD) : Loc nD τ sig := (SparseCore.T d).loc main_arg1
abbrev bLoc (d : Dev nD) : Loc nD τ sig := (SparseCore.T d).loc main_arg2
abbrev cLoc (d : Dev nD) : Loc nD τ sig := (SparseCore.T d).loc main_arg3
abbrev ttLoc (d : Dev nD) : Loc nD τ sig := (SparseCore.T d).loc main_v0
abbrev ixLoc (d : Dev nD) : Loc nD τ sig := (SparseCore.T d).loc main_v2
abbrev outLoc (d : Dev nD) : Loc nD τ sig := (SparseCore.T d).loc main_v3_0
abbrev tailLoc (d : Dev nD) : Loc nD τ sig := (SparseCore.T d).loc main_v3_1

/-- The tile memory of subcore `thr`: its rows of the table, a chunk of the index words, a chunk of results. -/
abbrev sV : Memref sig .scVector .vmem S16x2048 .f32 := Memref.whole cc1_scratch0
abbrev iV : Memref sig .scVector .vmem S4x2048 .i32 := Memref.whole cc1_scratch1
abbrev oV : Memref sig .scVector .vmem S16x2048 .f32 := Memref.whole cc1_scratch2
abbrev ttV : Memref sig .scVector .hbm S256x2048 .f32 := Memref.whole main_v0_scv
abbrev ixV : Memref sig .scVector .hbm S4x100096 .i32 := Memref.whole main_v2_scv
abbrev outV : Memref sig .scVector .hbm S256x100000 .f32 := Memref.whole main_v3_0_scv
abbrev tailV : Memref sig .scVector .hbm S256x1792 .f32 := Memref.whole main_v3_1_scv

/-! ## What a result is -/

/-- The table's column that a word of index row `b` names: the word plus `512·b`. -/
def col (w : BitVec 32) (b : ℕ) : Fin 2048 := ⟨(w.toNat + 512 * b) % 2048, Nat.mod_lt _ (by decide)⟩

theorem col_val {w : BitVec 32} {b : ℕ} (hw : w.toNat < 512) (hb : b < 4) : (col w b).val = w.toNat + 512 * b :=
  Nat.mod_eq_of_lt (by omega)

variable [FloatOps F]

/-- Four values added left to right, as the kernel adds them. -/
def sum4 (a b c d : F .f32) : F .f32 := FloatOps.addf (FloatOps.addf (FloatOps.addf a b) c) d

/-- Row `t` of the table summed at the four columns that the words `w 0 … w 3` name. -/
def dec (t : Fin 2048 → F .f32) (w : Fin 4 → BitVec 32) : F .f32 :=
  sum4 (t (col (w 0) 0)) (t (col (w 1) 1)) (t (col (w 2) 2)) (t (col (w 3) 3))

end Cert.KernelIdeal.Pf

end
-- ==== Proof.KernelIdeal.Row.lean ====
/- The kernel's vector operations over one group of sixteen lanes: four table loads and three sums for each of sixteen rows. -/
module

public import proofs.«01_k».proof.Proof.KernelIdeal.Setup

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

/-! ## One row of one group of sixteen lanes -/

abbrev cV (L : grid1.Coords) : Fin τ.nSC := (L 0).castLE hcore1
abbrev jV (L : grid1.Coords) : Fin τ.nSub := (L 1).castLE hsub1
/-- The vector subcore that runs grid point `L`. -/
abbrev thr (d : Dev nD) (L : grid1.Coords) : Thread nD τ := V d (cV L) (jV L)

/-- Lane `x` of group `j` of a chunk, as a column of the chunk. -/
def lane (j : Fin 128) (x : S16.Idx) : Fin 2048 := ⟨16 * j.val + (x 0).val, by
  have h : (x 0).val < 16 := (x 0).isLt
  omega⟩

/-- A chunk of results is done up to group `j`, and in group `j` up to row `n`: there it holds `dec` of the table's row
    at the chunk's words. -/
def Done (s : S16x2048.Idx → F .f32) (w : Fin 4 → Fin 2048 → BitVec 32) (j n : ℕ) (f : S16x2048.Idx → F .f32) : Prop :=
  ∀ (r : Fin 16) (c : Fin 2048), (c.val < 16 * j ∨ (c.val < 16 * (j + 1) ∧ r.val < n)) → f (ix2 r c) = dec (fun k => s (ix2 r k)) (fun b => w b c)

theorem Done.next {s : S16x2048.Idx → F .f32} {w : Fin 4 → Fin 2048 → BitVec 32} {j : ℕ} {f : S16x2048.Idx → F .f32}
    (h : Done s w j 16 f) : Done s w (j + 1) 0 f :=
  fun r c hc => h r c (by rcases hc with hc | hc <;> [exact .inr ⟨hc, r.isLt⟩; omega])

theorem done_zero (s : S16x2048.Idx → F .f32) (w : Fin 4 → Fin 2048 → BitVec 32) (f : S16x2048.Idx → F .f32) : Done s w 0 0 f :=
  fun r c hc => by rcases hc with hc | hc <;> omega

/-- The index vector of group `j` for table block `b`: each lane's word plus `512·b`, a column of the table. -/
def Names (w : Fin 4 → Fin 2048 → BitVec 32) (j : Fin 128) (b : Fin 4) (v : IVec S16 32) : Prop :=
  ∀ x, (v x).toNat = (col (w b (lane j x)) b.val).val

theorem inRange {n : ℕ} (hn : n < 16) {w : Fin 4 → Fin 2048 → BitVec 32} {j : Fin 128} {b : Fin 4} {v : IVec S16 32} (h : Names w j b v) :
    ∀ a x, ((![broadcast S16 (BitVec.ofNat 32 n), v] : Fin 2 → IVec S16 32) a x).toNat < S16x2048.size a := by
  intro a x
  match a with
  | 0 =>
    show (BitVec.ofNat 32 n).toNat < 16
    rw [BitVec.toNat_ofNat, Nat.mod_eq_of_lt (by omega)]; exact hn
  | 1 => show (v x).toNat < 2048; rw [h x]; exact (col _ _).isLt

/-- The gather of row `n` at an index vector reads the table's row at the columns the words name. -/
theorem loadIdx_row {n : Fin 16} {w : Fin 4 → Fin 2048 → BitVec 32} {j : Fin 128} {b : Fin 4} {v : IVec S16 32} (h : Names w j b v)
    (s : S16x2048.Idx → F .f32) (hi : ∀ a x, ((![broadcast S16 (BitVec.ofNat 32 n.val), v] : Fin 2 → IVec S16 32) a x).toNat < S16x2048.size a)
    (x : S16.Idx) :
    (loadIdx (F := F) (e := .f32) s (![broadcast S16 (BitVec.ofNat 32 n.val), v] : Fin 2 → IVec S16 32) hi : Vec F S16 .f32) x = s (ix2 n (col (w b (lane j x)) b.val)) := by
  show s (idxAt _ hi x) = _
  refine congrArg s (funext fun a => Fin.ext ?_)
  match a with
  | 0 =>
    show (BitVec.ofNat 32 n.val).toNat = n.val
    rw [BitVec.toNat_ofNat, Nat.mod_eq_of_lt (by have := n.isLt; omega)]
  | 1 => exact h x

/-- Storing sixteen lanes of row `n` at group `j` extends what is done by that row. -/
theorem done_store {s : S16x2048.Idx → F .f32} {w : Fin 4 → Fin 2048 → BitVec 32} {j : Fin 128} {n : Fin 16} {f : S16x2048.Idx → F .f32}
    (hf : Done s w j.val n.val f) {off : Fin 2 → ℕ} (hoff : off = ![n.val, 16 * j.val]) (inb : ∀ a, off a + S1x16.size a ≤ S16x2048.size a)
    (pay : FVec F S16 .f32) (hpay : ∀ x, pay x = dec (fun k => s (ix2 n k)) (fun b => w b (lane j x))) :
    Done s w j.val (n.val + 1)
      (((oV).access (Rect.unit (s := S16x2048) off S1x16.size inb)).write (Elt F) f (shapeCast S1x16 pay shapeCasts_S16_S1x16) Finset.univ) := by
  subst hoff
  intro r c hc
  by_cases hin : r.val = n.val ∧ 16 * j.val ≤ c.val ∧ c.val < 16 * j.val + 16
  · obtain ⟨hr, hc1, hc2⟩ := hin
    have hr' : r = n := Fin.ext hr
    subst hr'
    let y : S1x16.Idx := ix2 (0 : Fin 1) (⟨c.val - 16 * j.val, by omega⟩ : Fin 16)
    let x : S16.Idx := ix1 (⟨c.val - 16 * j.val, by omega⟩ : Fin 16)
    have hl : lane j x = c := Fin.ext (by show 16 * j.val + (c.val - 16 * j.val) = c.val; omega)
    have he : ((oV).access (Rect.unit (s := S16x2048) ![r.val, 16 * j.val] S1x16.size inb)).emb y = ix2 r c := by
      funext a
      refine Fin.ext ?_
      match a with
      | 0 => show r.val + 1 * 0 = r.val; omega
      | 1 => show 16 * j.val + 1 * (c.val - 16 * j.val) = c.val; omega
    refine (congrArg _ he.symm).trans ((View.write_emb_of_mem (v := (oV).access (Rect.unit (s := S16x2048) ![r.val, 16 * j.val] S1x16.size inb))
      (Val := Elt F) f (shapeCast S1x16 pay shapeCasts_S16_S1x16) (Finset.mem_univ y)).trans ?_)
    refine (cast_eq _ _).trans ((shapeCast_a_1a_apply pay shapeCasts_S16_S1x16 0 _).trans ((hpay x).trans ?_))
    simp only [hl]
  · have hm : (ix2 r c : S16x2048.Idx) ∉ ((oV).access (Rect.unit (s := S16x2048) ![n.val, 16 * j.val] S1x16.size inb)).setOn Finset.univ := by
      intro h
      rw [View.setOn_univ, View.set_slice] at h
      obtain ⟨y, hy, e⟩ := Finset.mem_map.mp h
      have e' : y = ix2 r c := e
      subst e'
      have h0 := Rect.mem_set_unit.mp hy 0
      have h1 := Rect.mem_set_unit.mp hy 1
      refine hin ⟨?_, ?_, ?_⟩
      · have a : n.val ≤ r.val := h0.1
        have b : r.val < n.val + 1 := h0.2
        omega
      · exact h1.1
      · exact h1.2
    refine (View.write_of_not_mem (v := (oV).access (Rect.unit (s := S16x2048) ![n.val, 16 * j.val] S1x16.size inb)) (Val := Elt F) f
      (shapeCast S1x16 pay shapeCasts_S16_S1x16) Finset.univ hm).trans (hf r c ?_)
    rcases hc with hc | hc
    · exact .inl hc
    · by_cases h : c.val < 16 * j.val
      · exact .inl h
      · exact .inr ⟨hc.1, by omega⟩

/-- All of a whole buffer, read, is its contents. -/
theorem read_sV (s : S16x2048.Idx → F .f32) : ((sV).access (Rect.whole S16x2048)).read (Elt F) s = s :=
  funext fun x => (View.read_apply _ _).trans ((cast_eq _ _).trans (congrArg s (funext fun a => Fin.ext (by
    show 0 + 1 * (x a).val = (x a).val; omega))))

/-- Contents known to be done so far, held with that knowledge. -/
theorem keep_done {s : S16x2048.Idx → F .f32} {w : Fin 4 → Fin 2048 → BitVec 32} {j n : ℕ} {f : S16x2048.Idx → F .f32} (h : Done s w j n f)
    {d : Dev nD} {L : grid1.Coords} :
    (((oV).view.loc (thr d L) ↦{fullShare} f) : sProp 𝕄) ⊢ iprop(∃ f' : S16x2048.Idx → F .f32, ⌜Done s w j n f'⌝ ∗ ((oV).view.loc (thr d L) ↦{fullShare} f')) := by
  iintro Ho
  iexists f
  isplitr
  · ipureintro; exact h
  · iexact Ho

/-- What the row's four loads, three sums and one store leave in the output chunk: row `n` of the group is done. -/
theorem row_done (d : Dev nD) (L : grid1.Coords) {s : S16x2048.Idx → F .f32} {w : Fin 4 → Fin 2048 → BitVec 32} {j : Fin 128} (n : Fin 16)
    {f : S16x2048.Idx → F .f32} (hf : Done s w j.val n.val f)
    {va vb vc vd : IVec S16 32} (ha : Names w j 0 va) (hb : Names w j 1 vb) (hc : Names w j 2 vc) (hd : Names w j 3 vd)
    {off : Fin 2 → ℕ} (hoff : off = ![n.val, 16 * j.val]) {vn : IVec S16 32} (hvn : vn = broadcast S16 (BitVec.ofNat 32 n.val))
    {i1 : ∀ a x, ((![vn, va] : Fin 2 → IVec S16 32) a x).toNat < S16x2048.size a}
    {i2 : ∀ a x, ((![vn, vb] : Fin 2 → IVec S16 32) a x).toNat < S16x2048.size a}
    {i3 : ∀ a x, ((![vn, vc] : Fin 2 → IVec S16 32) a x).toNat < S16x2048.size a}
    {i4 : ∀ a x, ((![vn, vd] : Fin 2 → IVec S16 32) a x).toNat < S16x2048.size a}
    {inb : ∀ a, off a + S1x16.size a ≤ S16x2048.size a} :
    (((((oV).access (Rect.unit (s := S16x2048) off S1x16.size inb)).loc (thr d L)) ↦{fullShare} ((oV).access (Rect.unit (s := S16x2048) off S1x16.size inb)).write (Elt F) f
        (shapeCast S1x16 (addf (addf (addf
          (loadIdx (F := F) (e := .f32) (((sV).access (Rect.whole S16x2048)).read (Elt F) s) (![vn, va] : Fin 2 → IVec S16 32) i1 : FVec F S16 .f32)
          (loadIdx (F := F) (e := .f32) (((sV).access (Rect.whole S16x2048)).read (Elt F) s) (![vn, vb] : Fin 2 → IVec S16 32) i2))
          (loadIdx (F := F) (e := .f32) (((sV).access (Rect.whole S16x2048)).read (Elt F) s) (![vn, vc] : Fin 2 → IVec S16 32) i3))
          (loadIdx (F := F) (e := .f32) (((sV).access (Rect.whole S16x2048)).read (Elt F) s) (![vn, vd] : Fin 2 → IVec S16 32) i4))
          shapeCasts_S16_S1x16) Finset.univ) : sProp 𝕄)
      ⊢ iprop(∃ f' : S16x2048.Idx → F .f32, ⌜Done s w j.val (n.val + 1) f'⌝ ∗ ((oV).view.loc (thr d L) ↦{fullShare} f')) := by
  subst hvn
  refine keep_done (done_store hf hoff inb _ fun x => ?_)
  show sum4 _ _ _ _ = _
  rw [read_sV, loadIdx_row ha, loadIdx_row hb, loadIdx_row hc, loadIdx_row hd]
  rfl

end Cert.KernelIdeal.Pf

end
-- ==== Proof.KernelIdeal.Trip.lean ====
/- One trip of a chunk's group loop: the four index vectors, then the sixteen rows. -/
module

public import proofs.«01_k».proof.Proof.KernelIdeal.Row

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

/-! ## One group of sixteen lanes: the four index vectors, then the sixteen rows -/

/-- The words of a chunk by index row and column. -/
abbrev wordsOf (g : S4x2048.Idx → BitVec 32) : Fin 4 → Fin 2048 → BitVec 32 := fun b c => g (ix2 b c)

/-- A row of sixteen words loaded from the chunk, plus the block's base, is that block's index vector. -/
theorem names_of_load {g : S4x2048.Idx → BitVec 32} {j : Fin 128} {b : Fin 4} (hr : ∀ x, (g (ix2 b (lane j x))).toNat < 512)
    {off : Fin 2 → ℕ} (hoff : off = ![b.val, 16 * j.val]) (inb : ∀ a, off a + S1x16.size a ≤ S4x2048.size a) :
    Names (wordsOf g) j b (addi (shapeCast S16 ((iV).view.readAt (Elt F) (Rect.unit (s := S4x2048) off S1x16.size inb).toLoadRect g) shapeCasts_S1x16_S16 : IVec S16 32)
      (broadcast S16 (BitVec.ofNat 32 (512 * b.val)))) := by
  subst hoff
  intro x
  have hx : x = ix1 (x 0) := eq_ix1 x
  have e1 : (shapeCast S16 ((iV).view.readAt (Elt F) (Rect.unit (s := S4x2048) ![b.val, 16 * j.val] S1x16.size inb).toLoadRect g) shapeCasts_S1x16_S16 : IVec S16 32) x
      = g (ix2 b (lane j x)) := by
    rw [hx]
    refine (shapeCast_1a_a_apply _ shapeCasts_S1x16_S16 (x 0)).trans ?_
    refine (View.readAt_apply _ _ _).trans ((View.read_apply _ _).trans ((cast_eq _ _).trans (congrArg g (funext fun a => Fin.ext ?_))))
    match a with
    | 0 => show b.val + 1 * 0 = b.val; omega
    | 1 => show 16 * j.val + 1 * (x 0).val = 16 * j.val + (x 0).val; omega
  show (_ + BitVec.ofNat 32 (512 * b.val) : BitVec 32).toNat = _
  have h := hr x
  have hb := b.isLt
  rw [e1, col_val h hb, BitVec.toNat_add, BitVec.toNat_ofNat, Nat.mod_eq_of_lt (a := 512 * b.val) (by omega), Nat.mod_eq_of_lt (by omega)]

theorem off3_eq : ∀ t : Fin k1_t2_loop.trips, k1_off3 t = ![0, 16 * t.val] := by decide +kernel
theorem off4_eq : ∀ t : Fin k1_t2_loop.trips, k1_off4 t = ![1, 16 * t.val] := by decide +kernel
theorem off5_eq : ∀ t : Fin k1_t2_loop.trips, k1_off5 t = ![2, 16 * t.val] := by decide +kernel
theorem off6_eq : ∀ t : Fin k1_t2_loop.trips, k1_off6 t = ![3, 16 * t.val] := by decide +kernel
theorem off7_eq : ∀ t : Fin k1_t2_loop.trips, k1_off7 t = ![0, 16 * t.val] := by decide +kernel
theorem off8_eq : ∀ t : Fin k1_t2_loop.trips, k1_off8 t = ![1, 16 * t.val] := by decide +kernel
theorem off9_eq : ∀ t : Fin k1_t2_loop.trips, k1_off9 t = ![2, 16 * t.val] := by decide +kernel
theorem off10_eq : ∀ t : Fin k1_t2_loop.trips, k1_off10 t = ![3, 16 * t.val] := by decide +kernel
theorem off11_eq : ∀ t : Fin k1_t2_loop.trips, k1_off11 t = ![4, 16 * t.val] := by decide +kernel
theorem off12_eq : ∀ t : Fin k1_t2_loop.trips, k1_off12 t = ![5, 16 * t.val] := by decide +kernel
theorem off13_eq : ∀ t : Fin k1_t2_loop.trips, k1_off13 t = ![6, 16 * t.val] := by decide +kernel
theorem off14_eq : ∀ t : Fin k1_t2_loop.trips, k1_off14 t = ![7, 16 * t.val] := by decide +kernel
theorem off15_eq : ∀ t : Fin k1_t2_loop.trips, k1_off15 t = ![8, 16 * t.val] := by decide +kernel
theorem off16_eq : ∀ t : Fin k1_t2_loop.trips, k1_off16 t = ![9, 16 * t.val] := by decide +kernel
theorem off17_eq : ∀ t : Fin k1_t2_loop.trips, k1_off17 t = ![10, 16 * t.val] := by decide +kernel
theorem off18_eq : ∀ t : Fin k1_t2_loop.trips, k1_off18 t = ![11, 16 * t.val] := by decide +kernel
theorem off19_eq : ∀ t : Fin k1_t2_loop.trips, k1_off19 t = ![12, 16 * t.val] := by decide +kernel
theorem off20_eq : ∀ t : Fin k1_t2_loop.trips, k1_off20 t = ![13, 16 * t.val] := by decide +kernel
theorem off21_eq : ∀ t : Fin k1_t2_loop.trips, k1_off21 t = ![14, 16 * t.val] := by decide +kernel
theorem off22_eq : ∀ t : Fin k1_t2_loop.trips, k1_off22 t = ![15, 16 * t.val] := by decide +kernel

/-- Trip `t` of a chunk's group loop is group `t`. -/
def grpk1_t2 (t : Fin k1_t2_loop.trips) : Fin 128 := ⟨t.val, Nat.lt_of_lt_of_le t.isLt (k1_t2_abs.2.1)⟩

set_option maxRecDepth 20000 in
set_option maxHeartbeats 8000000 in
/-- A trip of the group loop: what was done up to group `t` is done up to the next. -/
theorem trip2 (d : Dev nD) (L : grid1.Coords) (t : Fin k1_t2_loop.trips) {s f : S16x2048.Idx → F .f32} {g : S4x2048.Idx → BitVec 32}
    (hr : ∀ b x, (g (ix2 b (lane (grpk1_t2 t) x))).toNat < 512) (hf : Done s (wordsOf g) t.val 0 f) :
    iprop(((sV).view.loc (thr d L) ↦{fullShare} s) ∗ ((iV).view.loc (thr d L) ↦{fullShare} g) ∗ ((oV).view.loc (thr d L) ↦{fullShare} f))
      ⊢ (wp frame (wpE (defs₀ (F := F)) 𝒱₀ (thr d L) none) Set.univ
          (k1_t2_body (F := F) L ttV (Memref.isWhole_whole _) ixV (Memref.isWhole_whole _) outV (Memref.isWhole_whole _) tailV (Memref.isWhole_whole _)
            sV (Memref.isWhole_whole _) iV (Memref.isWhole_whole _) oV (Memref.isWhole_whole _) cc1_scoped0 cc1_scoped1 cc1_scoped2 cc1_scoped3 cc1_scoped4 cc1_scoped5 cc1_scoped6 t ())
          fun _ => iprop(∃ f', ⌜Done s (wordsOf g) (t.val + 1) 0 f'⌝ ∗ ((sV).view.loc (thr d L) ↦{fullShare} s) ∗ ((iV).view.loc (thr d L) ↦{fullShare} g)
            ∗ ((oV).view.loc (thr d L) ↦{fullShare} f')) : sProp 𝕄) := by
  unfold k1_t2_body
  simp only [k1_part1_eq_skeleton, k1_part2_eq_skeleton, k1_part3_eq_skeleton, k1_part4_eq_skeleton, k1_part5_eq_skeleton]
  unfold k1_part1_skel k1_part2_skel k1_part3_skel k1_part4_skel k1_part5_skel
  simp only [Prog.bind_assoc, Prog.bind_lift, Prog.bind_op, Prog.bind_ret, Prog.pure_eq_ret, k1_pay11, k1_pay12, k1_pay13, k1_pay14, k1_pay15, k1_pay16, k1_pay17, k1_pay18, k1_pay19, k1_pay20, k1_pay21, k1_pay22, k1_pay23, k1_pay24, k1_pay25, k1_pay1, k1_pay2]
  iintro ⟨Hs, Hi, Ho⟩
  iapply (wp_load 𝒱₀ (thr d L) none Set.univ (m := iV) (S := Finset.univ) (Finset.subset_univ _)) $$ Hi; iintro Hi
  iapply (wp_load 𝒱₀ (thr d L) none Set.univ (m := iV) (S := Finset.univ) (Finset.subset_univ _)) $$ Hi; iintro Hi
  iapply (wp_load 𝒱₀ (thr d L) none Set.univ (m := iV) (S := Finset.univ) (Finset.subset_univ _)) $$ Hi; iintro Hi
  iapply (wp_load 𝒱₀ (thr d L) none Set.univ (m := iV) (S := Finset.univ) (Finset.subset_univ _)) $$ Hi; iintro Hi
  have n0 : Names (wordsOf g) (grpk1_t2 t) 0 (k1_pay7 ((iV).view.readAt (Elt F) (Rect.unit (s := S4x2048) (k1_off3 t) S1x16.size (k1_off3_inb t)).toLoadRect g)) :=
    names_of_load (F := F) (b := 0) (hr 0) (off3_eq t) _
  have n1 : Names (wordsOf g) (grpk1_t2 t) 1 (k1_pay8 ((iV).view.readAt (Elt F) (Rect.unit (s := S4x2048) (k1_off4 t) S1x16.size (k1_off4_inb t)).toLoadRect g)) :=
    names_of_load (F := F) (b := 1) (hr 1) (off4_eq t) _
  have n2 : Names (wordsOf g) (grpk1_t2 t) 2 (k1_pay9 ((iV).view.readAt (Elt F) (Rect.unit (s := S4x2048) (k1_off5 t) S1x16.size (k1_off5_inb t)).toLoadRect g)) :=
    names_of_load (F := F) (b := 2) (hr 2) (off5_eq t) _
  have n3 : Names (wordsOf g) (grpk1_t2 t) 3 (k1_pay10 ((iV).view.readAt (Elt F) (Rect.unit (s := S4x2048) (k1_off6 t) S1x16.size (k1_off6_inb t)).toLoadRect g)) :=
    names_of_load (F := F) (b := 3) (hr 3) (off6_eq t) _
  generalize k1_pay7 ((iV).view.readAt (Elt F) (Rect.unit (s := S4x2048) (k1_off3 t) S1x16.size (k1_off3_inb t)).toLoadRect g) = va at *
  generalize k1_pay8 ((iV).view.readAt (Elt F) (Rect.unit (s := S4x2048) (k1_off4 t) S1x16.size (k1_off4_inb t)).toLoadRect g) = vb at *
  generalize k1_pay9 ((iV).view.readAt (Elt F) (Rect.unit (s := S4x2048) (k1_off5 t) S1x16.size (k1_off5_inb t)).toLoadRect g) = vc at *
  generalize k1_pay10 ((iV).view.readAt (Elt F) (Rect.unit (s := S4x2048) (k1_off6 t) S1x16.size (k1_off6_inb t)).toLoadRect g) = vd at *
  rw [wp_assume_of _ _ _ _ (show k1_chk1 va vb vc vd (broadcast S16 0#32) from ⟨inRange (n := 0) (by decide) n0, inRange (n := 0) (by decide) n1, inRange (n := 0) (by decide) n2, inRange (n := 0) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off7 t) S1x16.size (k1_off7_inb t)) (f := f) (Mk := Finset.univ) (S := Finset.univ) (Finset.subset_univ _)) $$ Ho; iintro Ho
  ihave Hd := (row_done d L (vn := broadcast S16 0#32) (j := grpk1_t2 t) (0 : Fin 16) hf n0 n1 n2 n3 (off7_eq t) rfl) $$ Ho; icases Hd with ⟨%f0, %h0, Ho⟩
  rw [wp_assume_of _ _ _ _ (show k1_chk2 va vb vc vd (broadcast S16 1#32) from ⟨inRange (n := 1) (by decide) n0, inRange (n := 1) (by decide) n1, inRange (n := 1) (by decide) n2, inRange (n := 1) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off8 t) S1x16.size (k1_off8_inb t)) (f := f0) (Mk := Finset.univ) (S := Finset.univ) (Finset.subset_univ _)) $$ Ho; iintro Ho
  ihave Hd := (row_done d L (vn := broadcast S16 1#32) (j := grpk1_t2 t) (1 : Fin 16) h0 n0 n1 n2 n3 (off8_eq t) rfl) $$ Ho; icases Hd with ⟨%f1, %h1, Ho⟩
  rw [wp_assume_of _ _ _ _ (show k1_chk3 va vb vc vd (broadcast S16 2#32) from ⟨inRange (n := 2) (by decide) n0, inRange (n := 2) (by decide) n1, inRange (n := 2) (by decide) n2, inRange (n := 2) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off9 t) S1x16.size (k1_off9_inb t)) (f := f1) (Mk := Finset.univ) (S := Finset.univ) (Finset.subset_univ _)) $$ Ho; iintro Ho
  ihave Hd := (row_done d L (vn := broadcast S16 2#32) (j := grpk1_t2 t) (2 : Fin 16) h1 n0 n1 n2 n3 (off9_eq t) rfl) $$ Ho; icases Hd with ⟨%f2, %h2, Ho⟩
  rw [wp_assume_of _ _ _ _ (show k1_chk4 va vb vc vd (broadcast S16 3#32) from ⟨inRange (n := 3) (by decide) n0, inRange (n := 3) (by decide) n1, inRange (n := 3) (by decide) n2, inRange (n := 3) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off10 t) S1x16.size (k1_off10_inb t)) (f := f2) (Mk := Finset.univ) (S := Finset.univ) (Finset.subset_univ _)) $$ Ho; iintro Ho
  ihave Hd := (row_done d L (vn := broadcast S16 3#32) (j := grpk1_t2 t) (3 : Fin 16) h2 n0 n1 n2 n3 (off10_eq t) rfl) $$ Ho; icases Hd with ⟨%f3, %h3, Ho⟩
  rw [wp_assume_of _ _ _ _ (show k1_chk5 va vb vc vd (broadcast S16 4#32) from ⟨inRange (n := 4) (by decide) n0, inRange (n := 4) (by decide) n1, inRange (n := 4) (by decide) n2, inRange (n := 4) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off11 t) S1x16.size (k1_off11_inb t)) (f := f3) (Mk := Finset.univ) (S := Finset.univ) (Finset.subset_univ _)) $$ Ho; iintro Ho
  ihave Hd := (row_done d L (vn := broadcast S16 4#32) (j := grpk1_t2 t) (4 : Fin 16) h3 n0 n1 n2 n3 (off11_eq t) rfl) $$ Ho; icases Hd with ⟨%f4, %h4, Ho⟩
  rw [wp_assume_of _ _ _ _ (show k1_chk6 va vb vc vd (broadcast S16 5#32) from ⟨inRange (n := 5) (by decide) n0, inRange (n := 5) (by decide) n1, inRange (n := 5) (by decide) n2, inRange (n := 5) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off12 t) S1x16.size (k1_off12_inb t)) (f := f4) (Mk := Finset.univ) (S := Finset.univ) (Finset.subset_univ _)) $$ Ho; iintro Ho
  ihave Hd := (row_done d L (vn := broadcast S16 5#32) (j := grpk1_t2 t) (5 : Fin 16) h4 n0 n1 n2 n3 (off12_eq t) rfl) $$ Ho; icases Hd with ⟨%f5, %h5, Ho⟩
  rw [wp_assume_of _ _ _ _ (show k1_chk7 va vb vc vd (broadcast S16 6#32) from ⟨inRange (n := 6) (by decide) n0, inRange (n := 6) (by decide) n1, inRange (n := 6) (by decide) n2, inRange (n := 6) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off13 t) S1x16.size (k1_off13_inb t)) (f := f5) (Mk := Finset.univ) (S := Finset.univ) (Finset.subset_univ _)) $$ Ho; iintro Ho
  ihave Hd := (row_done d L (vn := broadcast S16 6#32) (j := grpk1_t2 t) (6 : Fin 16) h5 n0 n1 n2 n3 (off13_eq t) rfl) $$ Ho; icases Hd with ⟨%f6, %h6, Ho⟩
  rw [wp_assume_of _ _ _ _ (show k1_chk8 va vb vc vd (broadcast S16 7#32) from ⟨inRange (n := 7) (by decide) n0, inRange (n := 7) (by decide) n1, inRange (n := 7) (by decide) n2, inRange (n := 7) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off14 t) S1x16.size (k1_off14_inb t)) (f := f6) (Mk := Finset.univ) (S := Finset.univ) (Finset.subset_univ _)) $$ Ho; iintro Ho
  ihave Hd := (row_done d L (vn := broadcast S16 7#32) (j := grpk1_t2 t) (7 : Fin 16) h6 n0 n1 n2 n3 (off14_eq t) rfl) $$ Ho; icases Hd with ⟨%f7, %h7, Ho⟩
  rw [wp_assume_of _ _ _ _ (show k1_chk9 va vb vc vd (broadcast S16 8#32) from ⟨inRange (n := 8) (by decide) n0, inRange (n := 8) (by decide) n1, inRange (n := 8) (by decide) n2, inRange (n := 8) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off15 t) S1x16.size (k1_off15_inb t)) (f := f7) (Mk := Finset.univ) (S := Finset.univ) (Finset.subset_univ _)) $$ Ho; iintro Ho
  ihave Hd := (row_done d L (vn := broadcast S16 8#32) (j := grpk1_t2 t) (8 : Fin 16) h7 n0 n1 n2 n3 (off15_eq t) rfl) $$ Ho; icases Hd with ⟨%f8, %h8, Ho⟩
  rw [wp_assume_of _ _ _ _ (show k1_chk10 va vb vc vd (broadcast S16 9#32) from ⟨inRange (n := 9) (by decide) n0, inRange (n := 9) (by decide) n1, inRange (n := 9) (by decide) n2, inRange (n := 9) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off16 t) S1x16.size (k1_off16_inb t)) (f := f8) (Mk := Finset.univ) (S := Finset.univ) (Finset.subset_univ _)) $$ Ho; iintro Ho
  ihave Hd := (row_done d L (vn := broadcast S16 9#32) (j := grpk1_t2 t) (9 : Fin 16) h8 n0 n1 n2 n3 (off16_eq t) rfl) $$ Ho; icases Hd with ⟨%f9, %h9, Ho⟩
  rw [wp_assume_of _ _ _ _ (show k1_chk11 va vb vc vd (broadcast S16 10#32) from ⟨inRange (n := 10) (by decide) n0, inRange (n := 10) (by decide) n1, inRange (n := 10) (by decide) n2, inRange (n := 10) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off17 t) S1x16.size (k1_off17_inb t)) (f := f9) (Mk := Finset.univ) (S := Finset.univ) (Finset.subset_univ _)) $$ Ho; iintro Ho
  ihave Hd := (row_done d L (vn := broadcast S16 10#32) (j := grpk1_t2 t) (10 : Fin 16) h9 n0 n1 n2 n3 (off17_eq t) rfl) $$ Ho; icases Hd with ⟨%f10, %h10, Ho⟩
  rw [wp_assume_of _ _ _ _ (show k1_chk12 va vb vc vd (broadcast S16 11#32) from ⟨inRange (n := 11) (by decide) n0, inRange (n := 11) (by decide) n1, inRange (n := 11) (by decide) n2, inRange (n := 11) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off18 t) S1x16.size (k1_off18_inb t)) (f := f10) (Mk := Finset.univ) (S := Finset.univ) (Finset.subset_univ _)) $$ Ho; iintro Ho
  ihave Hd := (row_done d L (vn := broadcast S16 11#32) (j := grpk1_t2 t) (11 : Fin 16) h10 n0 n1 n2 n3 (off18_eq t) rfl) $$ Ho; icases Hd with ⟨%f11, %h11, Ho⟩
  rw [wp_assume_of _ _ _ _ (show k1_chk13 va vb vc vd (broadcast S16 12#32) from ⟨inRange (n := 12) (by decide) n0, inRange (n := 12) (by decide) n1, inRange (n := 12) (by decide) n2, inRange (n := 12) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off19 t) S1x16.size (k1_off19_inb t)) (f := f11) (Mk := Finset.univ) (S := Finset.univ) (Finset.subset_univ _)) $$ Ho; iintro Ho
  ihave Hd := (row_done d L (vn := broadcast S16 12#32) (j := grpk1_t2 t) (12 : Fin 16) h11 n0 n1 n2 n3 (off19_eq t) rfl) $$ Ho; icases Hd with ⟨%f12, %h12, Ho⟩
  rw [wp_assume_of _ _ _ _ (show k1_chk14 va vb vc vd (broadcast S16 13#32) from ⟨inRange (n := 13) (by decide) n0, inRange (n := 13) (by decide) n1, inRange (n := 13) (by decide) n2, inRange (n := 13) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off20 t) S1x16.size (k1_off20_inb t)) (f := f12) (Mk := Finset.univ) (S := Finset.univ) (Finset.subset_univ _)) $$ Ho; iintro Ho
  ihave Hd := (row_done d L (vn := broadcast S16 13#32) (j := grpk1_t2 t) (13 : Fin 16) h12 n0 n1 n2 n3 (off20_eq t) rfl) $$ Ho; icases Hd with ⟨%f13, %h13, Ho⟩
  rw [wp_assume_of _ _ _ _ (show k1_chk15 va vb vc vd (broadcast S16 14#32) from ⟨inRange (n := 14) (by decide) n0, inRange (n := 14) (by decide) n1, inRange (n := 14) (by decide) n2, inRange (n := 14) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off21 t) S1x16.size (k1_off21_inb t)) (f := f13) (Mk := Finset.univ) (S := Finset.univ) (Finset.subset_univ _)) $$ Ho; iintro Ho
  ihave Hd := (row_done d L (vn := broadcast S16 14#32) (j := grpk1_t2 t) (14 : Fin 16) h13 n0 n1 n2 n3 (off21_eq t) rfl) $$ Ho; icases Hd with ⟨%f14, %h14, Ho⟩
  rw [wp_assume_of _ _ _ _ (show k1_chk16 va vb vc vd (broadcast S16 15#32) from ⟨inRange (n := 15) (by decide) n0, inRange (n := 15) (by decide) n1, inRange (n := 15) (by decide) n2, inRange (n := 15) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off22 t) S1x16.size (k1_off22_inb t)) (f := f14) (Mk := Finset.univ) (S := Finset.univ) (Finset.subset_univ _)) $$ Ho; iintro Ho
  ihave Hd := (row_done d L (vn := broadcast S16 15#32) (j := grpk1_t2 t) (15 : Fin 16) h14 n0 n1 n2 n3 (off22_eq t) rfl) $$ Ho; icases Hd with ⟨%f15, %h15, Ho⟩
  sl_step
  iexists _; isplitr
  · ipureintro; exact h15.next
  isplitl [Hs]; · iexact Hs
  isplitl [Hi]; · iexact Hi
  iexact Ho

end Cert.KernelIdeal.Pf

end
-- ==== Proof.KernelIdeal.TripLast.lean ====
/- One trip of the last chunk's group loop: the four index vectors, then the sixteen rows. -/
module

public import proofs.«01_k».proof.Proof.KernelIdeal.Trip

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

theorem off46_eq : ∀ t : Fin k1_t5_loop.trips, k1_off46 t = ![0, 16 * t.val] := by decide +kernel
theorem off47_eq : ∀ t : Fin k1_t5_loop.trips, k1_off47 t = ![1, 16 * t.val] := by decide +kernel
theorem off48_eq : ∀ t : Fin k1_t5_loop.trips, k1_off48 t = ![2, 16 * t.val] := by decide +kernel
theorem off49_eq : ∀ t : Fin k1_t5_loop.trips, k1_off49 t = ![3, 16 * t.val] := by decide +kernel
theorem off50_eq : ∀ t : Fin k1_t5_loop.trips, k1_off50 t = ![0, 16 * t.val] := by decide +kernel
theorem off51_eq : ∀ t : Fin k1_t5_loop.trips, k1_off51 t = ![1, 16 * t.val] := by decide +kernel
theorem off52_eq : ∀ t : Fin k1_t5_loop.trips, k1_off52 t = ![2, 16 * t.val] := by decide +kernel
theorem off53_eq : ∀ t : Fin k1_t5_loop.trips, k1_off53 t = ![3, 16 * t.val] := by decide +kernel
theorem off54_eq : ∀ t : Fin k1_t5_loop.trips, k1_off54 t = ![4, 16 * t.val] := by decide +kernel
theorem off55_eq : ∀ t : Fin k1_t5_loop.trips, k1_off55 t = ![5, 16 * t.val] := by decide +kernel
theorem off56_eq : ∀ t : Fin k1_t5_loop.trips, k1_off56 t = ![6, 16 * t.val] := by decide +kernel
theorem off57_eq : ∀ t : Fin k1_t5_loop.trips, k1_off57 t = ![7, 16 * t.val] := by decide +kernel
theorem off58_eq : ∀ t : Fin k1_t5_loop.trips, k1_off58 t = ![8, 16 * t.val] := by decide +kernel
theorem off59_eq : ∀ t : Fin k1_t5_loop.trips, k1_off59 t = ![9, 16 * t.val] := by decide +kernel
theorem off60_eq : ∀ t : Fin k1_t5_loop.trips, k1_off60 t = ![10, 16 * t.val] := by decide +kernel
theorem off61_eq : ∀ t : Fin k1_t5_loop.trips, k1_off61 t = ![11, 16 * t.val] := by decide +kernel
theorem off62_eq : ∀ t : Fin k1_t5_loop.trips, k1_off62 t = ![12, 16 * t.val] := by decide +kernel
theorem off63_eq : ∀ t : Fin k1_t5_loop.trips, k1_off63 t = ![13, 16 * t.val] := by decide +kernel
theorem off64_eq : ∀ t : Fin k1_t5_loop.trips, k1_off64 t = ![14, 16 * t.val] := by decide +kernel
theorem off65_eq : ∀ t : Fin k1_t5_loop.trips, k1_off65 t = ![15, 16 * t.val] := by decide +kernel

/-- Trip `t` of the last chunk's group loop is group `t`. -/
def grpk1_t5 (t : Fin k1_t5_loop.trips) : Fin 128 := ⟨t.val, Nat.lt_of_lt_of_le t.isLt (k1_t5_abs.2.1.trans (by decide))⟩

set_option maxRecDepth 20000 in
set_option maxHeartbeats 8000000 in
/-- A trip of the group loop: what was done up to group `t` is done up to the next. -/
theorem trip5 (d : Dev nD) (L : grid1.Coords) (h1 : k1_cond1 L = 1#1) (t : Fin k1_t5_loop.trips) {s f : S16x2048.Idx → F .f32} {g : S4x2048.Idx → BitVec 32}
    (hr : ∀ b x, (g (ix2 b (lane (grpk1_t5 t) x))).toNat < 512) (hf : Done s (wordsOf g) t.val 0 f) :
    iprop(((sV).view.loc (thr d L) ↦{fullShare} s) ∗ ((iV).view.loc (thr d L) ↦{fullShare} g) ∗ ((oV).view.loc (thr d L) ↦{fullShare} f))
      ⊢ (wp frame (wpE (defs₀ (F := F)) 𝒱₀ (thr d L) none) Set.univ
          (k1_t5_body (F := F) L ttV (Memref.isWhole_whole _) ixV (Memref.isWhole_whole _) outV (Memref.isWhole_whole _) tailV (Memref.isWhole_whole _)
            sV (Memref.isWhole_whole _) iV (Memref.isWhole_whole _) oV (Memref.isWhole_whole _) cc1_scoped0 cc1_scoped1 cc1_scoped2 cc1_scoped3 cc1_scoped4 cc1_scoped5 cc1_scoped6 h1 t ())
          fun _ => iprop(∃ f', ⌜Done s (wordsOf g) (t.val + 1) 0 f'⌝ ∗ ((sV).view.loc (thr d L) ↦{fullShare} s) ∗ ((iV).view.loc (thr d L) ↦{fullShare} g)
            ∗ ((oV).view.loc (thr d L) ↦{fullShare} f')) : sProp 𝕄) := by
  unfold k1_t5_body
  simp only [k1_part11_eq_skeleton, k1_part12_eq_skeleton, k1_part13_eq_skeleton, k1_part14_eq_skeleton, k1_part15_eq_skeleton]
  unfold k1_part11_skel k1_part12_skel k1_part13_skel k1_part14_skel k1_part15_skel
  simp only [Prog.bind_assoc, Prog.bind_lift, Prog.bind_op, Prog.bind_ret, Prog.pure_eq_ret, k1_pay49, k1_pay50, k1_pay51, k1_pay52, k1_pay53, k1_pay54, k1_pay55, k1_pay56, k1_pay57, k1_pay58, k1_pay59, k1_pay60, k1_pay61, k1_pay62, k1_pay63, k1_pay5, k1_pay6]
  iintro ⟨Hs, Hi, Ho⟩
  iapply (wp_load 𝒱₀ (thr d L) none Set.univ (m := iV) (S := Finset.univ) (Finset.subset_univ _)) $$ Hi; iintro Hi
  iapply (wp_load 𝒱₀ (thr d L) none Set.univ (m := iV) (S := Finset.univ) (Finset.subset_univ _)) $$ Hi; iintro Hi
  iapply (wp_load 𝒱₀ (thr d L) none Set.univ (m := iV) (S := Finset.univ) (Finset.subset_univ _)) $$ Hi; iintro Hi
  iapply (wp_load 𝒱₀ (thr d L) none Set.univ (m := iV) (S := Finset.univ) (Finset.subset_univ _)) $$ Hi; iintro Hi
  have n0 : Names (wordsOf g) (grpk1_t5 t) 0 (k1_pay45 ((iV).view.readAt (Elt F) (Rect.unit (s := S4x2048) (k1_off46 t) S1x16.size (k1_off46_inb L t h1)).toLoadRect g)) :=
    names_of_load (F := F) (b := 0) (hr 0) (off46_eq t) _
  have n1 : Names (wordsOf g) (grpk1_t5 t) 1 (k1_pay46 ((iV).view.readAt (Elt F) (Rect.unit (s := S4x2048) (k1_off47 t) S1x16.size (k1_off47_inb L t h1)).toLoadRect g)) :=
    names_of_load (F := F) (b := 1) (hr 1) (off47_eq t) _
  have n2 : Names (wordsOf g) (grpk1_t5 t) 2 (k1_pay47 ((iV).view.readAt (Elt F) (Rect.unit (s := S4x2048) (k1_off48 t) S1x16.size (k1_off48_inb L t h1)).toLoadRect g)) :=
    names_of_load (F := F) (b := 2) (hr 2) (off48_eq t) _
  have n3 : Names (wordsOf g) (grpk1_t5 t) 3 (k1_pay48 ((iV).view.readAt (Elt F) (Rect.unit (s := S4x2048) (k1_off49 t) S1x16.size (k1_off49_inb L t h1)).toLoadRect g)) :=
    names_of_load (F := F) (b := 3) (hr 3) (off49_eq t) _
  generalize k1_pay45 ((iV).view.readAt (Elt F) (Rect.unit (s := S4x2048) (k1_off46 t) S1x16.size (k1_off46_inb L t h1)).toLoadRect g) = va at *
  generalize k1_pay46 ((iV).view.readAt (Elt F) (Rect.unit (s := S4x2048) (k1_off47 t) S1x16.size (k1_off47_inb L t h1)).toLoadRect g) = vb at *
  generalize k1_pay47 ((iV).view.readAt (Elt F) (Rect.unit (s := S4x2048) (k1_off48 t) S1x16.size (k1_off48_inb L t h1)).toLoadRect g) = vc at *
  generalize k1_pay48 ((iV).view.readAt (Elt F) (Rect.unit (s := S4x2048) (k1_off49 t) S1x16.size (k1_off49_inb L t h1)).toLoadRect g) = vd at *
  rw [wp_assume_of _ _ _ _ (show k1_chk33 L va vb vc vd (broadcast S16 0#32) from ⟨fun _ => inRange (n := 0) (by decide) n0, fun _ => inRange (n := 0) (by decide) n1, fun _ => inRange (n := 0) (by decide) n2, fun _ => inRange (n := 0) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off50 t) S1x16.size (k1_off50_inb L t h1)) (f := f) (Mk := Finset.univ) (S := Finset.univ) (Finset.subset_univ _)) $$ Ho; iintro Ho
  ihave Hd := (row_done d L (vn := broadcast S16 0#32) (j := grpk1_t5 t) (0 : Fin 16) hf n0 n1 n2 n3 (off50_eq t) rfl) $$ Ho; icases Hd with ⟨%f0, %hr0, Ho⟩
  rw [wp_assume_of _ _ _ _ (show k1_chk34 L va vb vc vd (broadcast S16 1#32) from ⟨fun _ => inRange (n := 1) (by decide) n0, fun _ => inRange (n := 1) (by decide) n1, fun _ => inRange (n := 1) (by decide) n2, fun _ => inRange (n := 1) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off51 t) S1x16.size (k1_off51_inb L t h1)) (f := f0) (Mk := Finset.univ) (S := Finset.univ) (Finset.subset_univ _)) $$ Ho; iintro Ho
  ihave Hd := (row_done d L (vn := broadcast S16 1#32) (j := grpk1_t5 t) (1 : Fin 16) hr0 n0 n1 n2 n3 (off51_eq t) rfl) $$ Ho; icases Hd with ⟨%f1, %hr1, Ho⟩
  rw [wp_assume_of _ _ _ _ (show k1_chk35 L va vb vc vd (broadcast S16 2#32) from ⟨fun _ => inRange (n := 2) (by decide) n0, fun _ => inRange (n := 2) (by decide) n1, fun _ => inRange (n := 2) (by decide) n2, fun _ => inRange (n := 2) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off52 t) S1x16.size (k1_off52_inb L t h1)) (f := f1) (Mk := Finset.univ) (S := Finset.univ) (Finset.subset_univ _)) $$ Ho; iintro Ho
  ihave Hd := (row_done d L (vn := broadcast S16 2#32) (j := grpk1_t5 t) (2 : Fin 16) hr1 n0 n1 n2 n3 (off52_eq t) rfl) $$ Ho; icases Hd with ⟨%f2, %hr2, Ho⟩
  rw [wp_assume_of _ _ _ _ (show k1_chk36 L va vb vc vd (broadcast S16 3#32) from ⟨fun _ => inRange (n := 3) (by decide) n0, fun _ => inRange (n := 3) (by decide) n1, fun _ => inRange (n := 3) (by decide) n2, fun _ => inRange (n := 3) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off53 t) S1x16.size (k1_off53_inb L t h1)) (f := f2) (Mk := Finset.univ) (S := Finset.univ) (Finset.subset_univ _)) $$ Ho; iintro Ho
  ihave Hd := (row_done d L (vn := broadcast S16 3#32) (j := grpk1_t5 t) (3 : Fin 16) hr2 n0 n1 n2 n3 (off53_eq t) rfl) $$ Ho; icases Hd with ⟨%f3, %hr3, Ho⟩
  rw [wp_assume_of _ _ _ _ (show k1_chk37 L va vb vc vd (broadcast S16 4#32) from ⟨fun _ => inRange (n := 4) (by decide) n0, fun _ => inRange (n := 4) (by decide) n1, fun _ => inRange (n := 4) (by decide) n2, fun _ => inRange (n := 4) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off54 t) S1x16.size (k1_off54_inb L t h1)) (f := f3) (Mk := Finset.univ) (S := Finset.univ) (Finset.subset_univ _)) $$ Ho; iintro Ho
  ihave Hd := (row_done d L (vn := broadcast S16 4#32) (j := grpk1_t5 t) (4 : Fin 16) hr3 n0 n1 n2 n3 (off54_eq t) rfl) $$ Ho; icases Hd with ⟨%f4, %hr4, Ho⟩
  rw [wp_assume_of _ _ _ _ (show k1_chk38 L va vb vc vd (broadcast S16 5#32) from ⟨fun _ => inRange (n := 5) (by decide) n0, fun _ => inRange (n := 5) (by decide) n1, fun _ => inRange (n := 5) (by decide) n2, fun _ => inRange (n := 5) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off55 t) S1x16.size (k1_off55_inb L t h1)) (f := f4) (Mk := Finset.univ) (S := Finset.univ) (Finset.subset_univ _)) $$ Ho; iintro Ho
  ihave Hd := (row_done d L (vn := broadcast S16 5#32) (j := grpk1_t5 t) (5 : Fin 16) hr4 n0 n1 n2 n3 (off55_eq t) rfl) $$ Ho; icases Hd with ⟨%f5, %hr5, Ho⟩
  rw [wp_assume_of _ _ _ _ (show k1_chk39 L va vb vc vd (broadcast S16 6#32) from ⟨fun _ => inRange (n := 6) (by decide) n0, fun _ => inRange (n := 6) (by decide) n1, fun _ => inRange (n := 6) (by decide) n2, fun _ => inRange (n := 6) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off56 t) S1x16.size (k1_off56_inb L t h1)) (f := f5) (Mk := Finset.univ) (S := Finset.univ) (Finset.subset_univ _)) $$ Ho; iintro Ho
  ihave Hd := (row_done d L (vn := broadcast S16 6#32) (j := grpk1_t5 t) (6 : Fin 16) hr5 n0 n1 n2 n3 (off56_eq t) rfl) $$ Ho; icases Hd with ⟨%f6, %hr6, Ho⟩
  rw [wp_assume_of _ _ _ _ (show k1_chk40 L va vb vc vd (broadcast S16 7#32) from ⟨fun _ => inRange (n := 7) (by decide) n0, fun _ => inRange (n := 7) (by decide) n1, fun _ => inRange (n := 7) (by decide) n2, fun _ => inRange (n := 7) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off57 t) S1x16.size (k1_off57_inb L t h1)) (f := f6) (Mk := Finset.univ) (S := Finset.univ) (Finset.subset_univ _)) $$ Ho; iintro Ho
  ihave Hd := (row_done d L (vn := broadcast S16 7#32) (j := grpk1_t5 t) (7 : Fin 16) hr6 n0 n1 n2 n3 (off57_eq t) rfl) $$ Ho; icases Hd with ⟨%f7, %hr7, Ho⟩
  rw [wp_assume_of _ _ _ _ (show k1_chk41 L va vb vc vd (broadcast S16 8#32) from ⟨fun _ => inRange (n := 8) (by decide) n0, fun _ => inRange (n := 8) (by decide) n1, fun _ => inRange (n := 8) (by decide) n2, fun _ => inRange (n := 8) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off58 t) S1x16.size (k1_off58_inb L t h1)) (f := f7) (Mk := Finset.univ) (S := Finset.univ) (Finset.subset_univ _)) $$ Ho; iintro Ho
  ihave Hd := (row_done d L (vn := broadcast S16 8#32) (j := grpk1_t5 t) (8 : Fin 16) hr7 n0 n1 n2 n3 (off58_eq t) rfl) $$ Ho; icases Hd with ⟨%f8, %hr8, Ho⟩
  rw [wp_assume_of _ _ _ _ (show k1_chk42 L va vb vc vd (broadcast S16 9#32) from ⟨fun _ => inRange (n := 9) (by decide) n0, fun _ => inRange (n := 9) (by decide) n1, fun _ => inRange (n := 9) (by decide) n2, fun _ => inRange (n := 9) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off59 t) S1x16.size (k1_off59_inb L t h1)) (f := f8) (Mk := Finset.univ) (S := Finset.univ) (Finset.subset_univ _)) $$ Ho; iintro Ho
  ihave Hd := (row_done d L (vn := broadcast S16 9#32) (j := grpk1_t5 t) (9 : Fin 16) hr8 n0 n1 n2 n3 (off59_eq t) rfl) $$ Ho; icases Hd with ⟨%f9, %hr9, Ho⟩
  rw [wp_assume_of _ _ _ _ (show k1_chk43 L va vb vc vd (broadcast S16 10#32) from ⟨fun _ => inRange (n := 10) (by decide) n0, fun _ => inRange (n := 10) (by decide) n1, fun _ => inRange (n := 10) (by decide) n2, fun _ => inRange (n := 10) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off60 t) S1x16.size (k1_off60_inb L t h1)) (f := f9) (Mk := Finset.univ) (S := Finset.univ) (Finset.subset_univ _)) $$ Ho; iintro Ho
  ihave Hd := (row_done d L (vn := broadcast S16 10#32) (j := grpk1_t5 t) (10 : Fin 16) hr9 n0 n1 n2 n3 (off60_eq t) rfl) $$ Ho; icases Hd with ⟨%f10, %hr10, Ho⟩
  rw [wp_assume_of _ _ _ _ (show k1_chk44 L va vb vc vd (broadcast S16 11#32) from ⟨fun _ => inRange (n := 11) (by decide) n0, fun _ => inRange (n := 11) (by decide) n1, fun _ => inRange (n := 11) (by decide) n2, fun _ => inRange (n := 11) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off61 t) S1x16.size (k1_off61_inb L t h1)) (f := f10) (Mk := Finset.univ) (S := Finset.univ) (Finset.subset_univ _)) $$ Ho; iintro Ho
  ihave Hd := (row_done d L (vn := broadcast S16 11#32) (j := grpk1_t5 t) (11 : Fin 16) hr10 n0 n1 n2 n3 (off61_eq t) rfl) $$ Ho; icases Hd with ⟨%f11, %hr11, Ho⟩
  rw [wp_assume_of _ _ _ _ (show k1_chk45 L va vb vc vd (broadcast S16 12#32) from ⟨fun _ => inRange (n := 12) (by decide) n0, fun _ => inRange (n := 12) (by decide) n1, fun _ => inRange (n := 12) (by decide) n2, fun _ => inRange (n := 12) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off62 t) S1x16.size (k1_off62_inb L t h1)) (f := f11) (Mk := Finset.univ) (S := Finset.univ) (Finset.subset_univ _)) $$ Ho; iintro Ho
  ihave Hd := (row_done d L (vn := broadcast S16 12#32) (j := grpk1_t5 t) (12 : Fin 16) hr11 n0 n1 n2 n3 (off62_eq t) rfl) $$ Ho; icases Hd with ⟨%f12, %hr12, Ho⟩
  rw [wp_assume_of _ _ _ _ (show k1_chk46 L va vb vc vd (broadcast S16 13#32) from ⟨fun _ => inRange (n := 13) (by decide) n0, fun _ => inRange (n := 13) (by decide) n1, fun _ => inRange (n := 13) (by decide) n2, fun _ => inRange (n := 13) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off63 t) S1x16.size (k1_off63_inb L t h1)) (f := f12) (Mk := Finset.univ) (S := Finset.univ) (Finset.subset_univ _)) $$ Ho; iintro Ho
  ihave Hd := (row_done d L (vn := broadcast S16 13#32) (j := grpk1_t5 t) (13 : Fin 16) hr12 n0 n1 n2 n3 (off63_eq t) rfl) $$ Ho; icases Hd with ⟨%f13, %hr13, Ho⟩
  rw [wp_assume_of _ _ _ _ (show k1_chk47 L va vb vc vd (broadcast S16 14#32) from ⟨fun _ => inRange (n := 14) (by decide) n0, fun _ => inRange (n := 14) (by decide) n1, fun _ => inRange (n := 14) (by decide) n2, fun _ => inRange (n := 14) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off64 t) S1x16.size (k1_off64_inb L t h1)) (f := f13) (Mk := Finset.univ) (S := Finset.univ) (Finset.subset_univ _)) $$ Ho; iintro Ho
  ihave Hd := (row_done d L (vn := broadcast S16 14#32) (j := grpk1_t5 t) (14 : Fin 16) hr13 n0 n1 n2 n3 (off64_eq t) rfl) $$ Ho; icases Hd with ⟨%f14, %hr14, Ho⟩
  rw [wp_assume_of _ _ _ _ (show k1_chk48 L va vb vc vd (broadcast S16 15#32) from ⟨fun _ => inRange (n := 15) (by decide) n0, fun _ => inRange (n := 15) (by decide) n1, fun _ => inRange (n := 15) (by decide) n2, fun _ => inRange (n := 15) (by decide) n3⟩)]
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (SparseCore.wp_vectorLoadIdx 𝒱₀ (thr d L) none Set.univ (base := sV) (S := Finset.univ) (q := fullShare) (Finset.subset_univ _)) $$ Hs; iintro Hs
  iapply (wp_load 𝒱₀ (thr d L) none Set.univ (m := oV) (S := Finset.univ) (Finset.subset_univ _)) $$ Ho; iintro Ho
  iapply (wp_store 𝒱₀ (thr d L) none Set.univ (m := oV) (r := Rect.unit (s := S16x2048) (k1_off65 t) S1x16.size (k1_off65_inb L t h1)) (f := f14) (Mk := Finset.univ) (S := Finset.univ) (Finset.subset_univ _)) $$ Ho; iintro Ho
  ihave Hd := (row_done d L (vn := broadcast S16 15#32) (j := grpk1_t5 t) (15 : Fin 16) hr14 n0 n1 n2 n3 (off65_eq t) rfl) $$ Ho; icases Hd with ⟨%f15, %hr15, Ho⟩
  sl_step
  iexists _; isplitr
  · ipureintro; exact hr15.next
  isplitl [Hs]; · iexact Hs
  isplitl [Hi]; · iexact Hi
  iexact Ho

end Cert.KernelIdeal.Pf

end
-- ==== Proof.KernelIdeal.Groups.lean ====
/- The loops over a chunk's groups. -/
module

public import proofs.«01_k».proof.Proof.KernelIdeal.Trip

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

/-! ## The group loops: a chunk of 2048 columns, and the last chunk of 1792 -/

theorem t2_trips : k1_t2_loop.trips = 128 := by decide +kernel
theorem t5_trips : k1_t5_loop.trips = 112 := by decide +kernel

/-- The three pieces of tile memory a group loop works on. -/
def Held (d : Dev nD) (L : grid1.Coords) (s : S16x2048.Idx → F .f32) (g : S4x2048.Idx → BitVec 32) (f : S16x2048.Idx → F .f32) : sProp 𝕄 :=
  iprop(((sV).view.loc (thr d L) ↦{fullShare} s) ∗ ((iV).view.loc (thr d L) ↦{fullShare} g) ∗ ((oV).view.loc (thr d L) ↦{fullShare} f))

/-- The group loop's invariant: every group before trip `j` is done. -/
def groups (d : Dev nD) (L : grid1.Coords) (s : S16x2048.Idx → F .f32) (g : S4x2048.Idx → BitVec 32) (j : ℕ) (_ : Unit) : sProp 𝕄 :=
  iprop(∃ f, ⌜Done s (wordsOf g) j 0 f⌝ ∗ Held d L s g f)

/-- The 128 groups of a chunk. -/
theorem loop2 (d : Dev nD) (L : grid1.Coords) {s f : S16x2048.Idx → F .f32} {g : S4x2048.Idx → BitVec 32}
    (hr : ∀ b c, (g (ix2 b c)).toNat < 512) :
    Held d L s g f ⊢ (wp frame (wpE (defs₀ (F := F)) 𝒱₀ (thr d L) none) Set.univ
        (Scf.Loop.for k1_t2_loop k1_t2_ok ⟨⟩ (k1_t2_body (F := F) L ttV (Memref.isWhole_whole _) ixV (Memref.isWhole_whole _) outV (Memref.isWhole_whole _) tailV (Memref.isWhole_whole _)
          sV (Memref.isWhole_whole _) iV (Memref.isWhole_whole _) oV (Memref.isWhole_whole _) cc1_scoped0 cc1_scoped1 cc1_scoped2 cc1_scoped3 cc1_scoped4 cc1_scoped5 cc1_scoped6))
        fun _ => iprop(∃ f', ⌜Done s (wordsOf g) 128 0 f'⌝ ∗ Held d L s g f') : sProp 𝕄) := by
  have step := fun (t : Fin k1_t2_loop.trips) (f : S16x2048.Idx → F .f32) (h : Done s (wordsOf g) t.val 0 f) =>
    trip2 (F := F) d L t (s := s) (f := f) (g := g) (fun b x => hr b _) h
  generalize k1_t2_body (F := F) L ttV (Memref.isWhole_whole _) ixV (Memref.isWhole_whole _) outV (Memref.isWhole_whole _) tailV (Memref.isWhole_whole _)
          sV (Memref.isWhole_whole _) iV (Memref.isWhole_whole _) oV (Memref.isWhole_whole _) cc1_scoped0 cc1_scoped1 cc1_scoped2 cc1_scoped3 cc1_scoped4 cc1_scoped5 cc1_scoped6 = B at step ⊢
  have tr : ∀ (t : Fin k1_t2_loop.trips) (u : Unit), groups d L s g t.val u ⊢ (wp frame (wpE (defs₀ (F := F)) 𝒱₀ (thr d L) none) Set.univ (B t u) (groups d L s g (t.val + 1)) : sProp 𝕄) := by
    intro t u
    unfold groups Held
    iintro ⟨%f, %h, H⟩
    iapply (step t f h)
    iexact H
  iintro H
  iapply (Scf.wp_for frame (wpE (defs₀ (F := F)) 𝒱₀ (thr d L) none) Set.univ _ _ _ k1_t2_ok () B (groups d L s g) tr)
  isplitl [H]
  · unfold groups
    iexists f
    isplitr
    · ipureintro; exact done_zero _ _ _
    · iexact H
  · iintro %_ H
    rw [show Scf.trips k1_t2_loop.lb k1_t2_loop.ub k1_t2_loop.st = 128 from t2_trips]
    unfold groups
    iexact H

end Cert.KernelIdeal.Pf

end
-- ==== Proof.KernelIdeal.GroupsLast.lean ====
/- The loop over the last chunk's groups. -/
module

public import proofs.«01_k».proof.Proof.KernelIdeal.TripLast
public import proofs.«01_k».proof.Proof.KernelIdeal.Groups

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

/-- The 112 groups of the last chunk. -/
theorem loop5 (d : Dev nD) (L : grid1.Coords) (h1 : k1_cond1 L = 1#1) {s f : S16x2048.Idx → F .f32} {g : S4x2048.Idx → BitVec 32}
    (hr : ∀ b (c : Fin 2048), c.val < 1792 → (g (ix2 b c)).toNat < 512) :
    Held d L s g f ⊢ (wp frame (wpE (defs₀ (F := F)) 𝒱₀ (thr d L) none) Set.univ
        (Scf.Loop.for k1_t5_loop (k1_t5_ok L h1) ⟨⟩ (k1_t5_body (F := F) L ttV (Memref.isWhole_whole _) ixV (Memref.isWhole_whole _) outV (Memref.isWhole_whole _) tailV (Memref.isWhole_whole _)
          sV (Memref.isWhole_whole _) iV (Memref.isWhole_whole _) oV (Memref.isWhole_whole _) cc1_scoped0 cc1_scoped1 cc1_scoped2 cc1_scoped3 cc1_scoped4 cc1_scoped5 cc1_scoped6 h1))
        fun _ => iprop(∃ f', ⌜Done s (wordsOf g) 112 0 f'⌝ ∗ Held d L s g f') : sProp 𝕄) := by
  have step := fun (t : Fin k1_t5_loop.trips) (f : S16x2048.Idx → F .f32) (h : Done s (wordsOf g) t.val 0 f) =>
    trip5 (F := F) d L h1 t (s := s) (f := f) (g := g) (fun b x => hr b _ (by
      have ht : t.val < 112 := t5_trips ▸ t.isLt
      have hx : (x 0).val < 16 := (x 0).isLt
      show 16 * t.val + (x 0).val < 1792
      omega)) h
  generalize k1_t5_body (F := F) L ttV (Memref.isWhole_whole _) ixV (Memref.isWhole_whole _) outV (Memref.isWhole_whole _) tailV (Memref.isWhole_whole _)
          sV (Memref.isWhole_whole _) iV (Memref.isWhole_whole _) oV (Memref.isWhole_whole _) cc1_scoped0 cc1_scoped1 cc1_scoped2 cc1_scoped3 cc1_scoped4 cc1_scoped5 cc1_scoped6 h1 = B at step ⊢
  have tr : ∀ (t : Fin k1_t5_loop.trips) (u : Unit), groups d L s g t.val u ⊢ (wp frame (wpE (defs₀ (F := F)) 𝒱₀ (thr d L) none) Set.univ (B t u) (groups d L s g (t.val + 1)) : sProp 𝕄) := by
    intro t u
    unfold groups Held
    iintro ⟨%f, %h, H⟩
    iapply (step t f h)
    iexact H
  iintro H
  iapply (Scf.wp_for frame (wpE (defs₀ (F := F)) 𝒱₀ (thr d L) none) Set.univ _ _ _ (k1_t5_ok L h1) () B (groups d L s g) tr)
  isplitl [H]
  · unfold groups
    iexists f
    isplitr
    · ipureintro; exact done_zero _ _ _
    · iexact H
  · iintro %_ H
    rw [show Scf.trips k1_t5_loop.lb k1_t5_loop.ub k1_t5_loop.st = 112 from t5_trips]
    unfold groups
    iexact H

end Cert.KernelIdeal.Pf

end
-- ==== Proof.KernelIdeal.Geo.lean ====
/- The offsets and trip counts of the tile program. -/
module

public import proofs.«01_k».proof.Proof.KernelIdeal.Row

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

/-! ## Where the copies go -/

theorem t1_trips : ∀ L : grid1.Coords, (k1_t1_loop L).trips = 24 := by decide +kernel
theorem t3_trips : ∀ L : grid1.Coords, (k1_t3_loop L).trips = 0 := by decide +kernel
theorem off1_eq : ∀ L : grid1.Coords, k1_off1 L = ![16 * (L 1).val, 0] := by decide +kernel
theorem off2_eq : ∀ (L : grid1.Coords) (t : Fin (k1_t1_loop L).trips), k1_off2 L t = ![0, 2048 * (2 * t.val + (L 0).val)] := by decide +kernel
theorem off23_eq : ∀ (L : grid1.Coords) (t : Fin (k1_t1_loop L).trips), k1_off23 L t = ![16 * (L 1).val, 2048 * (2 * t.val + (L 0).val)] := by decide +kernel
theorem off66_eq : ∀ L : grid1.Coords, k1_off66 L = ![16 * (L 1).val, 0] := by decide +kernel
theorem cond1_iff : ∀ L : grid1.Coords, k1_cond1 L = 1#1 ↔ (L 0).val = 1 := by decide +kernel

end Cert.KernelIdeal.Pf

end
-- ==== Proof.KernelIdeal.Parts.lean ====
/- What the SparseCores' call computes, and the pieces of it that the copies move. -/
module

public import proofs.«01_k».proof.Proof.KernelIdeal.Trip
public import proofs.«01_k».proof.Proof.KernelIdeal.Geo

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

/-! ## What the call computes, and how the pieces of it fit together -/

/-- The results over the first 100000 columns, from the table `tt` and the index words `ix`. -/
def resG (tt : S256x2048.Idx → F .f32) (ix : S4x100096.Idx → BitVec 32) : S256x100000.Idx → F .f32 := fun x =>
  dec (fun k => tt (ix2 (x 0) k)) (fun b => ix (ix2 b (⟨(x 1).val, by have h : (x 1).val < 100000 := (x 1).isLt; omega⟩ : Fin 100096)))

/-- The results over the last 1792 columns, from column 98304 on. -/
def resT (tt : S256x2048.Idx → F .f32) (ix : S4x100096.Idx → BitVec 32) : S256x1792.Idx → F .f32 := fun x =>
  dec (fun k => tt (ix2 (x 0) k)) (fun b => ix (ix2 b (⟨98304 + (x 1).val, by have h : (x 1).val < 1792 := (x 1).isLt; omega⟩ : Fin 100096)))

/-- The part of `out` that tile `i` of SparseCore `c` writes: its sixteen rows, at the chunks of `c`'s parity. -/
def outSet (c i : ℕ) : Finset S256x100000.Idx :=
  Finset.univ.filter fun x => (16 * i ≤ (x 0).val ∧ (x 0).val < 16 * i + 16) ∧ (x 1).val < 98304 ∧ (x 1).val / 2048 % 2 = c

theorem mem_outSet {c i : ℕ} {x : S256x100000.Idx} :
    x ∈ outSet c i ↔ (16 * i ≤ (x 0).val ∧ (x 0).val < 16 * i + 16) ∧ (x 1).val < 98304 ∧ (x 1).val / 2048 % 2 = c := by
  unfold outSet; rw [Finset.mem_filter]; exact and_iff_right (Finset.mem_univ x)

/-- The part of the tail's results that tile `i` of SparseCore `c` writes: its sixteen rows, SparseCore 1's tiles alone. -/
def tailSet (c i : ℕ) : Finset S256x1792.Idx :=
  Finset.univ.filter fun x => c = 1 ∧ 16 * i ≤ (x 0).val ∧ (x 0).val < 16 * i + 16

theorem mem_tailSet {c i : ℕ} {x : S256x1792.Idx} : x ∈ tailSet c i ↔ c = 1 ∧ 16 * i ≤ (x 0).val ∧ (x 0).val < 16 * i + 16 := by
  unfold tailSet; rw [Finset.mem_filter]; exact and_iff_right (Finset.mem_univ x)

/-- `out` after `t` chunks of SparseCore `c`: the results at the chunks done, what was there before elsewhere. -/
def filled (c t : ℕ) (h g : S256x100000.Idx → F .f32) : S256x100000.Idx → F .f32 := fun x => if (x 1).val < 2048 * (2 * t + c) then h x else g x

theorem filled_start {c i : ℕ} (h g : S256x100000.Idx → F .f32) : ∀ x ∈ outSet c i, filled c 0 h g x = g x := fun x hx => by
  have := mem_outSet.1 hx
  unfold filled; rw [if_neg (by omega)]

theorem filled_end {c i : ℕ} (h g : S256x100000.Idx → F .f32) : ∀ x ∈ outSet c i, filled c 24 h g x = h x := fun x hx => by
  have := mem_outSet.1 hx
  unfold filled; rw [if_pos (by omega)]

/-- Rows `16·i …` of the table. -/
def rowsOf (i : Fin 16) (tt : S256x2048.Idx → F .f32) : S16x2048.Idx → F .f32 := fun x =>
  tt (ix2 (⟨16 * i.val + (x 0).val, by have h : (x 0).val < 16 := (x 0).isLt; omega⟩ : Fin 256) (x 1))

abbrev iL (L : grid1.Coords) : Fin 16 := L 1
abbrev cL (L : grid1.Coords) : Fin 2 := L 0

/-- The chunk of `out` that trip `t` writes. -/
abbrev chunk (L : grid1.Coords) (t : Fin (k1_t1_loop L).trips) : Memref sig .scVector .hbm S16x2048 .f32 :=
  (outV).slice (Rect.unit (s := S256x100000) (k1_off23 L t) S16x2048.size (k1_off23_inb L t)) (fun _ => rfl)
/-- The tile's rows of the tail. -/
abbrev tailRows (L : grid1.Coords) (h1 : k1_cond1 L = 1#1) : Memref sig .scVector .hbm S16x1792 .f32 :=
  (tailV).slice (Rect.unit (s := S256x1792) (k1_off66 L) S16x1792.size (k1_off66_inb L h1)) (fun _ => rfl)

theorem mem_chunk {L : grid1.Coords} {t : Fin (k1_t1_loop L).trips} {x : S256x100000.Idx} :
    x ∈ (chunk L t).view.set ↔ (16 * (L 1).val ≤ (x 0).val ∧ (x 0).val < 16 * (L 1).val + 16)
      ∧ 2048 * (2 * t.val + (L 0).val) ≤ (x 1).val ∧ (x 1).val < 2048 * (2 * t.val + (L 0).val) + 2048 := by
  show x ∈ ((View.whole (main_v3_0_scv : Ref sig .scVector)).slice (Rect.unit (s := S256x100000) (k1_off23 L t) S16x2048.size (k1_off23_inb L t))).set ↔ _
  rw [View.set_slice_whole, Rect.mem_set_unit]
  constructor
  · intro h
    have h0 := h 0
    have h1 := h 1
    rw [off23_eq] at h0 h1
    exact ⟨h0, h1⟩
  · rintro ⟨h0, h1⟩ a
    rw [off23_eq]
    match a with
    | 0 => exact h0
    | 1 => exact h1

theorem mem_tailRows {L : grid1.Coords} {h1 : k1_cond1 L = 1#1} {x : S256x1792.Idx} :
    x ∈ (tailRows L h1).view.set ↔ 16 * (L 1).val ≤ (x 0).val ∧ (x 0).val < 16 * (L 1).val + 16 := by
  show x ∈ ((View.whole (main_v3_1_scv : Ref sig .scVector)).slice (Rect.unit (s := S256x1792) (k1_off66 L) S16x1792.size (k1_off66_inb L h1))).set ↔ _
  rw [View.set_slice_whole, Rect.mem_set_unit]
  constructor
  · intro h
    have h0 := h 0
    rw [off66_eq] at h0
    exact h0
  · intro h0 a
    rw [off66_eq]
    match a with
    | 0 => exact h0
    | 1 => have h : (x 1).val < 1792 := (x 1).isLt
           exact ⟨Nat.zero_le _, by show (x 1).val < 0 + 1792; omega⟩

theorem chunk_sub (L : grid1.Coords) (t : Fin (k1_t1_loop L).trips) : (chunk L t).view.set ⊆ outSet (L 0).val (L 1).val := by
  intro x hx
  have h := mem_chunk.1 hx
  have ht : t.val < 24 := t1_trips L ▸ t.isLt
  have hc : (L 0).val < 2 := (L 0).isLt
  exact mem_outSet.2 (by omega)

theorem tailRows_set (L : grid1.Coords) (h1 : k1_cond1 L = 1#1) : (tailRows L h1).view.set = tailSet (L 0).val (L 1).val :=
  Finset.ext fun _ => mem_tailRows.trans ((and_iff_right ((cond1_iff L).1 h1)).symm.trans mem_tailSet.symm)

/-- On SparseCore 0 no tile has a part of the tail. -/
theorem tailSet_zero (L : grid1.Coords) (h1 : ¬ k1_cond1 L = 1#1) : tailSet (L 0).val (L 1).val = ∅ :=
  Finset.eq_empty_of_forall_notMem fun _ hx => h1 ((cond1_iff L).2 (mem_tailSet.1 hx).1)

/-- One whole write through a view is its payload at the view's elements. -/
theorem writes_whole_at {κ : Kind} {sp : Space} {s : Shape} {e : EltTy} (v : View sig κ sp s e) (f : v.ty.Contents (Elt F)) (w : s.Idx → Elt F e) (y : s.Idx) :
    v.writes (Elt F) f [⟨Rect.whole s, w⟩] (v.emb y) = _root_.cast (congrArg (Elt F) v.elt_eq.symm) (w y) := by
  have e : v.emb y = (v.slice (Rect.whole s)).emb y := congrArg v.emb (funext fun a => Fin.ext (show (y a).val = 0 + 1 * (y a).val by omega))
  exact (congrArg (v.writes (Elt F) f [⟨Rect.whole s, w⟩]) e).trans (View.write_emb_of_mem (v := v.slice (Rect.whole s)) f w (Finset.mem_univ y))

/-- What a chunk's copy out leaves at the chunk's elements is the results there. -/
theorem chunk_value {L : grid1.Coords} {t : Fin (k1_t1_loop L).trips} {tt : S256x2048.Idx → F .f32} {ix : S4x100096.Idx → BitVec 32}
    {g : S4x2048.Idx → BitVec 32}
    (hg : ∀ b c, g (ix2 b c) = ix (ix2 b (⟨(2048 * (2 * t.val + (L 0).val) + c.val) % 100096, Nat.mod_lt _ (by decide)⟩ : Fin 100096)))
    {f : S16x2048.Idx → F .f32} (hf : Done (rowsOf (iL L) tt) (wordsOf g) 128 0 f)
    (prev : S256x100000.Idx → F .f32) : ∀ x ∈ (chunk L t).view.set, (chunk L t).view.writes (Elt F) prev [⟨Rect.whole S16x2048, f⟩] x = resG tt ix x := by
  intro x hx
  obtain ⟨y, -, rfl⟩ := Finset.mem_map.1 hx
  refine (writes_whole_at _ _ _ y).trans ((cast_eq _ _).trans ?_)
  have hm := mem_chunk.1 hx
  have ht : t.val < 24 := t1_trips L ▸ t.isLt
  have hc : (L 0).val < 2 := (L 0).isLt
  have e0 : (((chunk L t).view.emb y : S256x100000.Idx) 0).val = 16 * (L 1).val + (y 0).val := by
    show (k1_off23 L t) 0 + 1 * (y 0).val = _
    rw [off23_eq]; show 16 * (L 1).val + 1 * (y 0).val = _; omega
  have e1 : (((chunk L t).view.emb y : S256x100000.Idx) 1).val = 2048 * (2 * t.val + (L 0).val) + (y 1).val := by
    show (k1_off23 L t) 1 + 1 * (y 1).val = _
    rw [off23_eq]; show 2048 * (2 * t.val + (L 0).val) + 1 * (y 1).val = _; omega
  have hy : (y 1).val < 2048 := (y 1).isLt
  rw [eq_ix2 y]
  refine (hf (y 0) (y 1) (.inl hy)).trans ?_
  unfold resG rowsOf
  congr 1
  · funext k
    refine congrArg tt (congrArg (fun r : Fin 256 => ix2 r k) (Fin.ext ?_))
    exact e0.symm
  · funext b
    refine (hg b (y 1)).trans (congrArg ix (congrArg (fun r : Fin 100096 => ix2 b r) (Fin.ext ?_)))
    refine (Nat.mod_eq_of_lt ?_).trans e1.symm
    omega

/-- What the tail's copy out leaves at the tile's rows is the results there. -/
theorem tail_value {L : grid1.Coords} {h1 : k1_cond1 L = 1#1} {tt : S256x2048.Idx → F .f32} {ix : S4x100096.Idx → BitVec 32}
    {g : S4x2048.Idx → BitVec 32}
    (hg : ∀ b (c : Fin 2048), c.val < 1792 → g (ix2 b c) = ix (ix2 b (⟨(98304 + c.val) % 100096, Nat.mod_lt _ (by decide)⟩ : Fin 100096)))
    {f : S16x2048.Idx → F .f32} (hf : Done (rowsOf (iL L) tt) (wordsOf g) 112 0 f) (pay : S16x1792.Idx → F .f32)
    (hpay : ∀ (r : Fin 16) (c : Fin 1792), pay (ix2 r c) = f (ix2 r (c.castLE (by decide))))
    (prev : S256x1792.Idx → F .f32) : ∀ x ∈ (tailRows L h1).view.set, (tailRows L h1).view.writes (Elt F) prev [⟨Rect.whole S16x1792, pay⟩] x = resT tt ix x := by
  intro x hx
  obtain ⟨y, -, rfl⟩ := Finset.mem_map.1 hx
  refine (writes_whole_at _ _ _ y).trans ((cast_eq _ _).trans ?_)
  have e0 : (((tailRows L h1).view.emb y : S256x1792.Idx) 0).val = 16 * (L 1).val + (y 0).val := by
    show (k1_off66 L) 0 + 1 * (y 0).val = _
    rw [off66_eq]; show 16 * (L 1).val + 1 * (y 0).val = _; omega
  have e1 : (((tailRows L h1).view.emb y : S256x1792.Idx) 1).val = (y 1).val := by
    show (k1_off66 L) 1 + 1 * (y 1).val = _
    rw [off66_eq]; show 0 + 1 * (y 1).val = _; omega
  have hy : (y 1).val < 1792 := (y 1).isLt
  rw [eq_ix2 y]
  refine (hpay (y 0) (y 1)).trans ((hf (y 0) ((y 1).castLE (by decide)) (.inl hy)).trans ?_)
  unfold resT rowsOf
  congr 1
  · funext k
    refine congrArg tt (congrArg (fun r : Fin 256 => ix2 r k) (Fin.ext ?_))
    exact e0.symm
  · funext b
    refine (hg b _ hy).trans (congrArg ix (congrArg (fun r : Fin 100096 => ix2 b r) (Fin.ext ?_)))
    show (98304 + (y 1).val) % 100096 = 98304 + _
    rw [← eq_ix2 y, e1]; omega

end Cert.KernelIdeal.Pf

end
-- ==== Proof.KernelIdeal.Own.lean ====
/- What a tile owns: its semaphores and its memory. -/
module

public import proofs.«01_k».proof.Proof.KernelIdeal.Row

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

open Idealize.ShloMosaic.SparseCore.Cfg (Pay ownBufs ownSems0 ownCells ownRefs mem_ownCells mem_ownRefs)

abbrev cell (d : Dev nD) (L : grid1.Coords) (s : DmaSems sig S_) : GSem nD τ sig := (thr d L, SemLoc.dma s.sem)

theorem cell_mem (d : Dev nD) (L : grid1.Coords) (s : DmaSems sig S_) (h : (SemLoc.dma s.sem : SemLoc sig).isScoped .scVector = true) :
    cell d L s ∈ ownCells (thr d L) := (mem_ownCells (g := cell d L s)).mpr ⟨rfl, h⟩

theorem cell_ne (d : Dev nD) (L : grid1.Coords) {s s' : DmaSems sig S_} (h : (SemLoc.dma s.sem : SemLoc sig) ≠ SemLoc.dma s'.sem) : cell d L s ≠ cell d L s' :=
  fun e => h (congrArg Prod.snd e)

/-- A tile's own semaphores at zero: the five its copies use, and the rest. -/
theorem ownSems0_V (d : Dev nD) (L : grid1.Coords) :
    (ownSems0 (thr d L) : sProp 𝕄)
      = iprop(semVal (cell d L cc1_scoped0) 0 ∗ semVal (cell d L cc1_scoped1) 0 ∗ semVal (cell d L cc1_scoped2) 0 ∗ semVal (cell d L cc1_scoped5) 0 ∗ semVal (cell d L cc1_scoped6) 0
          ∗ bigSep ((((((ownCells (thr d L)).erase (cell d L cc1_scoped0)).erase (cell d L cc1_scoped1)).erase (cell d L cc1_scoped2)).erase (cell d L cc1_scoped5)).erase (cell d L cc1_scoped6)) fun g => semVal g 0) := by
  unfold SparseCore.Cfg.ownSems0
  have n01 := cell_ne d L (s := cc1_scoped1) (s' := cc1_scoped0) (by decide)
  have n02 := cell_ne d L (s := cc1_scoped2) (s' := cc1_scoped0) (by decide)
  have n12 := cell_ne d L (s := cc1_scoped2) (s' := cc1_scoped1) (by decide)
  have n05 := cell_ne d L (s := cc1_scoped5) (s' := cc1_scoped0) (by decide)
  have n15 := cell_ne d L (s := cc1_scoped5) (s' := cc1_scoped1) (by decide)
  have n25 := cell_ne d L (s := cc1_scoped5) (s' := cc1_scoped2) (by decide)
  have n06 := cell_ne d L (s := cc1_scoped6) (s' := cc1_scoped0) (by decide)
  have n16 := cell_ne d L (s := cc1_scoped6) (s' := cc1_scoped1) (by decide)
  have n26 := cell_ne d L (s := cc1_scoped6) (s' := cc1_scoped2) (by decide)
  have n56 := cell_ne d L (s := cc1_scoped6) (s' := cc1_scoped5) (by decide)
  rw [SparseCore.bigSep_erase' (cell_mem d L cc1_scoped0 (by decide)),
    SparseCore.bigSep_erase' (Finset.mem_erase.mpr ⟨n01, cell_mem d L cc1_scoped1 (by decide)⟩),
    SparseCore.bigSep_erase' (Finset.mem_erase.mpr ⟨n12, Finset.mem_erase.mpr ⟨n02, cell_mem d L cc1_scoped2 (by decide)⟩⟩),
    SparseCore.bigSep_erase' (Finset.mem_erase.mpr ⟨n25, Finset.mem_erase.mpr ⟨n15, Finset.mem_erase.mpr ⟨n05, cell_mem d L cc1_scoped5 (by decide)⟩⟩⟩),
    SparseCore.bigSep_erase' (Finset.mem_erase.mpr ⟨n56, Finset.mem_erase.mpr ⟨n26, Finset.mem_erase.mpr ⟨n16, Finset.mem_erase.mpr ⟨n06, cell_mem d L cc1_scoped6 (by decide)⟩⟩⟩⟩)]

/-- A tile's own buffers: its three pieces of tile memory, each at some contents, and the rest. -/
theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  have own := fun (b : Ref sig .scVector) => SparseCore.Cfg.mem_ownRefs_of_owner (p := Proc.scVector (cV L) (jV L)) (b := (Proc.scVector (cV L) (jV L)).devRef b)
  have ne := fun {b b' : Ref sig .scVector} (h : b ≠ b') (e : (Proc.scVector (cV L) (jV L)).devRef b = (Proc.scVector (cV L) (jV L)).devRef b') => h (Proc.devRef_injective _ e)
  refine (SparseCore.bigSep_erase' (own cc1_scratch0 rfl)).trans ?_
  rw [SparseCore.bigSep_erase' (Finset.mem_erase.mpr ⟨ne (show (cc1_scratch1 : Ref sig .scVector) ≠ cc1_scratch0 by decide), own cc1_scratch1 rfl⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide), own cc1_scratch2 rfl⟩⟩)]

end Cert.KernelIdeal.Pf

end
-- ==== Proof.KernelIdeal.Chunk.lean ====
/- One chunk of a tile's work. -/
module

public import proofs.«01_k».proof.Proof.KernelIdeal.Groups
public import proofs.«01_k».proof.Proof.KernelIdeal.Parts
public import proofs.«01_k».proof.Proof.KernelIdeal.Own

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

/-! ## One chunk: its words in, its groups, its results out -/

/-- The chunk loop's invariant: before trip `t`, `out` holds the results at the chunks done. -/
def chunks (d : Dev nD) (L : grid1.Coords) (qi : PosShare TreeShare) (tt : S256x2048.Idx → F .f32) (ix : S4x100096.Idx → BitVec 32)
    (out : S256x100000.Idx → F .f32) (O : CellTallies nD τ sig (HIx 1)) (W : Waits sig (HIx 1)) (t : ℕ) (_ : PUnit) : sProp 𝕄 :=
  iprop(Transfers.MayWaits (thr d L) (none : HIx 1) O
    ∗ ((ixV).view.loc (thr d L) ↦{qi} ix)
    ∗ ((outV).view.loc (thr d L) ↦[outSet (L 0).val (L 1).val]{fullShare} filled (L 0).val t (resG tt ix) out)
    ∗ (∃ g f, Held d L (rowsOf (iL L) tt) g f)
    ∗ semVal (cell d L cc1_scoped1) 0 ∗ semVal (cell d L cc1_scoped2) 0
    ∗ ∃ W', ⌜∀ p ∈ W', p ∈ W ∨ p.2 = none⌝ ∗ owes (thr d L) O W')

/-- What a chunk's copy in leaves in the tile's index words. -/
theorem words_landed {L : grid1.Coords} (t : Fin (k1_t1_loop L).trips) {ix : S4x100096.Idx → BitVec 32} (g : S4x2048.Idx → BitVec 32) (b : Fin 4) (c : Fin 2048) :
    (View.write (Elt F) (iV).view g (View.read (Elt F) ((ixV).slice (Rect.unit (s := S4x100096) (k1_off2 L t) S4x2048.size (k1_off2_inb L t)) (fun _ => rfl)).view ix) Finset.univ : S4x2048.Idx → BitVec 32) (ix2 b c)
      = ix (ix2 b (⟨(2048 * (2 * t.val + (L 0).val) + c.val) % 100096, Nat.mod_lt _ (by decide)⟩ : Fin 100096)) := by
  rw [View.write_whole_univ]
  refine (View.read_apply _ _).trans ((cast_eq _ _).trans (congrArg ix (funext fun a => Fin.ext ?_)))
  have ht : t.val < 24 := t1_trips L ▸ t.isLt
  have hc : (L 0).val < 2 := (L 0).isLt
  have hb : c.val < 2048 := c.isLt
  match a with
  | 0 => show (k1_off2 L t) 0 + 1 * b.val = b.val
         rw [off2_eq]; show 0 + 1 * b.val = b.val; omega
  | 1 => show (k1_off2 L t) 1 + 1 * c.val = (2048 * (2 * t.val + (L 0).val) + c.val) % 100096
         rw [off2_eq]; show 2048 * (2 * t.val + (L 0).val) + 1 * c.val = _
         rw [Nat.mod_eq_of_lt (by omega)]; omega

/-- At the chunk just written, `out` after it holds the results; -/
theorem filled_new {L : grid1.Coords} {t : Fin (k1_t1_loop L).trips} {h g : S256x100000.Idx → F .f32} {x : S256x100000.Idx} (hx : x ∈ (chunk L t).view.set) :
    filled (L 0).val (t.val + 1) h g x = h x := by
  have := mem_chunk.1 hx
  unfold filled; rw [if_pos (by omega)]

/-- elsewhere in the tile's part it is as before. -/
theorem filled_old {L : grid1.Coords} {t : Fin (k1_t1_loop L).trips} {h g : S256x100000.Idx → F .f32} {x : S256x100000.Idx}
    (hx : x ∈ outSet (L 0).val (L 1).val) (hx' : x ∉ (chunk L t).view.set) :
    filled (L 0).val t.val h g x = filled (L 0).val (t.val + 1) h g x := by
  have h1 := mem_outSet.1 hx
  have h2 := fun h => hx' (mem_chunk.2 h)
  unfold filled
  by_cases hc : (x 1).val < 2048 * (2 * t.val + (L 0).val)
  · rw [if_pos hc, if_pos (by omega)]
  · rw [if_neg hc, if_neg (by
      intro h3
      have hL : (L 0).val < 2 := (L 0).isLt
      by_cases h4 : (x 1).val < 2048 * (2 * t.val + (L 0).val) + 2048
      · exact h2 ⟨h1.1, by omega, h4⟩
      · omega)]

set_option maxHeartbeats 4000000 in
/-- A trip of the chunk loop. -/
theorem chunk_step (d : Dev nD) (L : grid1.Coords) (qi : PosShare TreeShare) (tt : S256x2048.Idx → F .f32) (ix : S4x100096.Idx → BitVec 32)
    (hix : ∀ x, (ix x).toNat < 512)
    (out : S256x100000.Idx → F .f32) (O : CellTallies nD τ sig (HIx 1)) (W : Waits sig (HIx 1)) (t : Fin (k1_t1_loop L).trips) (u : PUnit) :
    chunks d L qi tt ix out O W t.val u ⊢ (wp frame (wpE (defs₀ (F := F)) 𝒱₀ (thr d L) none) Set.univ
      (k1_t1_body (F := F) L ttV (Memref.isWhole_whole _) ixV (Memref.isWhole_whole _) outV (Memref.isWhole_whole _) tailV (Memref.isWhole_whole _)
          sV (Memref.isWhole_whole _) iV (Memref.isWhole_whole _) oV (Memref.isWhole_whole _) cc1_scoped0 cc1_scoped1 cc1_scoped2 cc1_scoped3 cc1_scoped4 cc1_scoped5 cc1_scoped6 t u)
      (chunks d L qi tt ix out O W (t.val + 1)) : sProp 𝕄) := by
  unfold k1_t1_body chunks
  iintro ⟨Hmw, Hix, Hout, ⟨%g, %f, Hh⟩, H1, H2, %W', %hW', HO⟩
  unfold Held
  icases Hh with ⟨Hs, Hi, Ho⟩
  sl_exec
  have hg : ∀ b c, (View.write (Elt F) (iV).view g (chunk_step.sl.dma0 (F := F) L ix t) Finset.univ : S4x2048.Idx → BitVec 32) (ix2 b c)
      = ix (ix2 b (⟨(2048 * (2 * t.val + (L 0).val) + c.val) % 100096, Nat.mod_lt _ (by decide)⟩ : Fin 100096)) := by
    intro b c
    unfold chunk_step.sl.dma0
    exact words_landed t g b c
  generalize (View.write (Elt F) (iV).view g (chunk_step.sl.dma0 (F := F) L ix t) Finset.univ : S4x2048.Idx → BitVec 32) = g' at hg ⊢
  rw [wp_bind]
  iapply (wp_wand_r frame (wpE (defs₀ (F := F)) 𝒱₀ (thr d L) none) Set.univ)
  isplitl [Hs Hi Ho]
  · iapply (loop2 (F := F) d L (s := rowsOf (iL L) tt) (f := f) (g := g') (fun b c => by rw [hg]; exact hix _))
    unfold Held
    isplitl [Hs]; · iexact Hs
    isplitl [Hi]; · iexact Hi
    iexact Ho
  iintro %_ ⟨%f', %hf', Hh⟩
  unfold Held
  icases Hh with ⟨Hs, Hi, Ho⟩
  ihave Hc := (pointsTo_split_subset (q := fullShare) (f := filled (L 0).val t.val (resG tt ix) out) (chunk_sub L t)).1 $$ Hout
  icases Hc with ⟨Hc, Hrest⟩
  ihave Hc' := (Entails.of_eq (show ((outV).view.loc (thr d L) ↦[(chunk L t).view.set]{fullShare} filled (L 0).val t.val (resG tt ix) out : sProp 𝕄)
    = ((chunk L t).view.loc (thr d L) ↦[(chunk L t).view.set]{fullShare} filled (L 0).val t.val (resG tt ix) out) from rfl)) $$ Hc
  sl_exec
  have hpay : chunk_step.sl.dma0_1 (F := F) f' = f' := by
    unfold chunk_step.sl.dma0_1
    exact View.read_whole _ _
  rw [hpay]
  ihave Hc2 := (Entails.of_eq (show ((chunk L t).view.loc (thr d L) ↦[(chunk L t).view.set]{fullShare}
        (chunk L t).view.writes (Elt F) (filled (L 0).val t.val (resG tt ix) out) [⟨Rect.whole S16x2048, f'⟩] : sProp 𝕄)
      = ((outV).view.loc (thr d L) ↦[(chunk L t).view.set]{fullShare} filled (L 0).val (t.val + 1) (resG tt ix) out) from
    pointsTo_congr fun x hx => (chunk_value hg hf' _ x hx).trans (filled_new hx).symm)) $$ Hc'
  ihave Hr2 := (Entails.of_eq (show ((outV).view.loc (thr d L) ↦[outSet (L 0).val (L 1).val \ (chunk L t).view.set]{fullShare} filled (L 0).val t.val (resG tt ix) out : sProp 𝕄)
      = ((outV).view.loc (thr d L) ↦[outSet (L 0).val (L 1).val \ (chunk L t).view.set]{fullShare} filled (L 0).val (t.val + 1) (resG tt ix) out) from
    pointsTo_congr fun x hx => filled_old (Finset.mem_sdiff.1 hx).1 (Finset.mem_sdiff.1 hx).2)) $$ Hrest
  ihave Hout := (pointsTo_split_subset (ℓ := (outV).view.loc (thr d L)) (q := fullShare) (f := filled (L 0).val (t.val + 1) (resG tt ix) out) (chunk_sub L t)).2 $$ [Hc2 Hr2]
  · isplitl [Hc2] <;> iassumption
  sl_step
  isplitl [Hmw]; · iexact Hmw
  isplitl [Hix]; · iexact Hix
  isplitl [Hout]; · iexact Hout
  isplitl [Hs Hi Ho]
  · iexists g', f'
    isplitl [Hs]; · iexact Hs
    isplitl [Hi]; · iexact Hi
    iexact Ho
  isplitl [H1]; · iexact H1
  isplitl [H2]; · iexact H2
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.KernelIdeal.Pf

end
-- ==== Proof.KernelIdeal.Tile.lean ====
/- The tile's whole program. -/
module

public import proofs.«01_k».proof.Proof.KernelIdeal.GroupsLast
public import proofs.«01_k».proof.Proof.KernelIdeal.Chunk

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

open Idealize.ShloMosaic.SparseCore.Cfg (Pay ownBufs ownSems0 ownCells ownRefs mem_ownCells mem_ownRefs)

/-! ## The tile's program -/

/-- The tile's rows of the table, as the first copy slices them. -/
abbrev ttRows (L : grid1.Coords) : Memref sig .scVector .hbm S16x2048 .f32 :=
  (ttV).slice (Rect.unit (s := S256x2048) (k1_off1 L) S16x2048.size (k1_off1_inb L)) (fun _ => rfl)

/-- What the first copy leaves in tile memory: the tile's rows of the table. -/
theorem rows_landed (L : grid1.Coords) (tt : S256x2048.Idx → F .f32) (s : S16x2048.Idx → F .f32) :
    (View.write (Elt F) (sV).view s (View.read (Elt F) (ttRows L).view tt) Finset.univ : S16x2048.Idx → F .f32) = rowsOf (iL L) tt := by
  rw [View.write_whole_univ]
  funext x
  refine (View.read_apply _ _).trans ((cast_eq _ _).trans (congrArg tt (funext fun a => Fin.ext ?_)))
  match a with
  | 0 => show (k1_off1 L) 0 + 1 * (x 0).val = 16 * (L 1).val + (x 0).val
         rw [off1_eq]; show 16 * (L 1).val + 1 * (x 0).val = _; omega
  | 1 => show (k1_off1 L) 1 + 1 * (x 1).val = (x 1).val
         rw [off1_eq]; show 0 + 1 * (x 1).val = _; omega

/-- What the tail's copy leaves in tile memory: the index words of the last columns, at the first 1792 columns. -/
theorem tail_words {ix : S4x100096.Idx → BitVec 32} (g : S4x2048.Idx → BitVec 32) (b : Fin 4) (c : Fin 2048) (hc : c.val < 1792) :
    ((iV).view.writes (Elt F) g [⟨Rect.unit (s := S4x2048) ![0, 0] S4x1792.size inb_S4x2048_S4x1792_0_0,
        View.read (Elt F) ((ixV).slice (Rect.unit (s := S4x100096) ![0, 98304] S4x1792.size inb_S4x100096_S4x1792_0_98304) (fun _ => rfl)).view ix⟩]
          : S4x2048.Idx → BitVec 32) (ix2 b c)
      = ix (ix2 b (⟨(98304 + c.val) % 100096, Nat.mod_lt _ (by decide)⟩ : Fin 100096)) := by
  let v := (iV).view.slice (Rect.unit (s := S4x2048) ![0, 0] S4x1792.size inb_S4x2048_S4x1792_0_0)
  let y : S4x1792.Idx := ix2 b (⟨c.val, hc⟩ : Fin 1792)
  have he : v.emb y = ix2 b c := by
    funext a
    refine Fin.ext ?_
    match a with
    | 0 => show 0 + 1 * b.val = b.val; omega
    | 1 => show 0 + 1 * c.val = c.val; omega
  refine (congrArg _ he.symm).trans ((View.write_emb_of_mem (v := v) (Val := Elt F) g _ (Finset.mem_univ y)).trans ?_)
  refine (cast_eq _ _).trans ?_
  show View.read (Elt F) ((ixV).slice (Rect.unit (s := S4x100096) ![0, 98304] S4x1792.size inb_S4x100096_S4x1792_0_98304) (fun _ => rfl)).view ix y = _
  refine (View.read_apply _ _).trans ((cast_eq _ _).trans (congrArg ix (funext fun a => Fin.ext ?_)))
  match a with
  | 0 => show 0 + 1 * b.val = b.val; omega
  | 1 => show 98304 + 1 * c.val = (98304 + c.val) % 100096
         rw [Nat.mod_eq_of_lt (by omega)]; omega

/-- What a tile is handed of the arrays: shares of the table and of the index words, its parts of the two results. -/
def tileArr (d : Dev nD) (c i : ℕ) (q : PosShare TreeShare) (tt : S256x2048.Idx → F .f32) (ix : S4x100096.Idx → BitVec 32)
    (o : S256x100000.Idx → F .f32) (tl : S256x1792.Idx → F .f32) : sProp 𝕄 :=
  iprop((ttLoc d ↦{q} tt) ∗ (ixLoc d ↦{q} ix) ∗ (outLoc d ↦[outSet c i]{fullShare} o) ∗ (tailLoc d ↦[tailSet c i]{fullShare} tl))

set_option maxHeartbeats 8000000 in
/-- The tile at coordinates `L`: its rows of the table fetched, its chunks, and on SparseCore 1 its rows of the tail;
    the arrays come back with its parts of the two results computed. -/
theorem tile_body (d : Dev nD) (L : grid1.Coords) (hF : (K (F := F)).Facts) (q : PosShare TreeShare)
    (tt : S256x2048.Idx → F .f32) (ix : S4x100096.Idx → BitVec 32) (hix : ∀ x, (ix x).toNat < 512)
    (o : S256x100000.Idx → F .f32) (tl : S256x1792.Idx → F .f32)
    (O : CellTallies nD τ sig (HIx 1)) (W : Waits sig (HIx 1)) (hO : ∀ g, O g none = 0) :
    iprop(levAts (K (F := F)).L (K (F := F)).lev ∗ emp ∗ tileArr d (L 0).val (L 1).val q tt ix o tl
        ∗ scopedBufs (thr d L) ∗ scopedSems0 (thr d L) ∗ owes (thr d L) O W)
      ⊢ wp frame (wpE (defs₀ (F := F)) 𝒱₀ (thr d L) none) Set.univ
          (cc1__decode (F := F) L ttV (Memref.isWhole_whole _) ixV (Memref.isWhole_whole _) outV (Memref.isWhole_whole _) tailV (Memref.isWhole_whole _)
            sV (Memref.isWhole_whole _) iV (Memref.isWhole_whole _) oV (Memref.isWhole_whole _) cc1_scoped0 cc1_scoped1 cc1_scoped2 cc1_scoped3 cc1_scoped4 cc1_scoped5 cc1_scoped6)
          fun _ => iprop(tileArr d (L 0).val (L 1).val q tt ix (resG tt ix) (resT tt ix)
            ∗ scopedBufs (thr d L) ∗ scopedSems0 (thr d L)
            ∗ ∃ W', ⌜∀ p ∈ W', p ∈ W ∨ p.2 = none⌝ ∗ owes (thr d L) O W') := by
  simp only [cc1__decode_eq_skeleton]; unfold cc1__decode_skel
  rw [(K (F := F)).scopedBufs_V hF d (cV L) (jV L), SparseCore.Cfg.scopedSems0_V (Val := Elt F) d (cV L) (jV L), ownSems0_V, ownBufs_V]
  unfold tileArr
  iintro ⟨#Hlv, -, ⟨Htt, Hix, Hout, Htl⟩, ⟨⟨%fs, Hs⟩, ⟨%g, Hi⟩, ⟨%f, Ho⟩, Hbufs⟩, ⟨H0, H1, H2, H5, H6, Hsems⟩, HO⟩
  ihave Hmw := (show levAts (K (F := F)).L (K (F := F)).lev ⊢ Transfers.MayWaits (thr d L) (default : HIx 1) O from
    (K (F := F)).mayWaits_none (thr := thr d L) hO) $$ Hlv
  ihave Htt := (Entails.of_eq (show (ttLoc d ↦{q} tt : sProp 𝕄) = ((ttV).view.loc (thr d L) ↦{q} tt) from rfl)) $$ Htt
  ihave Hix := (Entails.of_eq (show (ixLoc d ↦{q} ix : sProp 𝕄) = ((ixV).view.loc (thr d L) ↦{q} ix) from rfl)) $$ Hix
  ihave Hout := (Entails.of_eq (show (outLoc d ↦[outSet (L 0).val (L 1).val]{fullShare} o : sProp 𝕄)
    = ((outV).view.loc (thr d L) ↦[outSet (L 0).val (L 1).val]{fullShare} filled (L 0).val 0 (resG tt ix) o) from
      pointsTo_congr fun x hx => (filled_start _ _ x hx).symm)) $$ Hout
  ihave Hs := (Entails.of_eq (show ((thr d L).loc cc1_scratch0 ↦{fullShare} fs : sProp 𝕄) = ((sV).view.loc (thr d L) ↦{fullShare} fs) from rfl)) $$ Hs
  ihave Hi := (Entails.of_eq (show ((thr d L).loc cc1_scratch1 ↦{fullShare} g : sProp 𝕄) = ((iV).view.loc (thr d L) ↦{fullShare} g) from rfl)) $$ Hi
  ihave Ho := (Entails.of_eq (show ((thr d L).loc cc1_scratch2 ↦{fullShare} f : sProp 𝕄) = ((oV).view.loc (thr d L) ↦{fullShare} f) from rfl)) $$ Ho
  sl_exec
  have hrow : (View.write (Elt F) (sV).view fs (tile_body.sl.dma0 (F := F) L tt) Finset.univ : S16x2048.Idx → F .f32) = rowsOf (iL L) tt := by
    unfold tile_body.sl.dma0
    exact rows_landed L tt fs
  rw [hrow]
  rw [wp_bind]
  iapply (Scf.wp_for frame (wpE (defs₀ (F := F)) 𝒱₀ (thr d L) none) Set.univ _ _ _ (k1_t1_ok L) (⟨⟩ : PUnit) _
    (chunks d L q tt ix o O W) (fun t u => chunk_step d L q tt ix hix o O W t u))
  isplitl [Hix Hout Hs Hi Ho H1 H2 HO]
  · unfold chunks Held
    isplitl []; · iexact Hmw
    isplitl [Hix]; · iexact Hix
    isplitl [Hout]; · iexact Hout
    isplitl [Hs Hi Ho]
    · iexists g, f
      isplitl [Hs]; · iexact Hs
      isplitl [Hi]; · iexact Hi
      iexact Ho
    isplitl [H1]; · iexact H1
    isplitl [H2]; · iexact H2
    iexists _; isplitr
    swap; · iexact HO
    ipureintro; intro p hp
    rcases Finset.mem_insert.mp hp with hp | hp; · exact .inr (hp ▸ rfl)
    exact .inl hp
  rw [show Scf.trips (k1_t1_loop L).lb (k1_t1_loop L).ub (k1_t1_loop L).st = 24 from t1_trips L]
  iintro %_ HI
  unfold chunks Held
  icases HI with ⟨-, Hix, Hout, ⟨%g1, %f1, Hs, Hi, Ho⟩, H1, H2, %W', %hW', HO⟩
  ihave Hout := (Entails.of_eq (show ((outV).view.loc (thr d L) ↦[outSet (L 0).val (L 1).val]{fullShare} filled (L 0).val 24 (resG tt ix) o : sProp 𝕄)
    = (outLoc d ↦[outSet (L 0).val (L 1).val]{fullShare} resG tt ix) from pointsTo_congr fun x hx => filled_end _ _ x hx)) $$ Hout
  rw [wp_bind]
  iapply (Scf.wp_for frame (wpE (defs₀ (F := F)) 𝒱₀ (thr d L) none) Set.univ _ _ _ (k1_t3_ok L) (⟨⟩ : PUnit) _
    (fun _ _ => iprop(emp)) (fun t _ => absurd (lt_of_lt_of_eq t.isLt (t3_trips L)) (Nat.not_lt_zero _)))
  isplitl []; · ipureintro; trivial
  iintro %_ -
  by_cases h1 : k1_cond1 L = 1#1
  · rw [dif_pos h1]
    ihave Htl := (Entails.of_eq (show (tailLoc d ↦[tailSet (L 0).val (L 1).val]{fullShare} tl : sProp 𝕄)
      = ((tailRows L h1).view.loc (thr d L) ↦[(tailRows L h1).view.set]{fullShare} tl) by rw [tailRows_set])) $$ Htl
    sl_exec
    have hg : ∀ b (c : Fin 2048), c.val < 1792 →
        ((iV).view.writes (Elt F) g1 [⟨Rect.unit (s := S4x2048) ![0, 0] S4x1792.size inb_S4x2048_S4x1792_0_0, tile_body.sl.dma0_1 ix⟩]
          : S4x2048.Idx → BitVec 32) (ix2 b c) = ix (ix2 b (⟨(98304 + c.val) % 100096, Nat.mod_lt _ (by decide)⟩ : Fin 100096)) := by
      intro b c hc
      unfold tile_body.sl.dma0_1
      exact tail_words (F := F) g1 b c hc
    generalize ((iV).view.writes (Elt F) g1 [⟨Rect.unit (s := S4x2048) ![0, 0] S4x1792.size inb_S4x2048_S4x1792_0_0, tile_body.sl.dma0_1 ix⟩]
          : S4x2048.Idx → BitVec 32) = g' at hg ⊢
    rw [wp_bind]
    iapply (wp_wand_r frame (wpE (defs₀ (F := F)) 𝒱₀ (thr d L) none) Set.univ)
    isplitl [Hs Hi Ho]
    · iapply (loop5 (F := F) d L h1 (s := rowsOf (iL L) tt) (f := f1) (g := g') (fun b c hc => by rw [hg b c hc]; exact hix _))
      unfold Held
      isplitl [Hs]; · iexact Hs
      isplitl [Hi]; · iexact Hi
      iexact Ho
    iintro %_ ⟨%f', %hf', Hh⟩
    unfold Held
    icases Hh with ⟨Hs, Hi, Ho⟩
    sl_exec
    ihave Htl := (Entails.of_eq (show ((tailRows L h1).view.loc (thr d L) ↦[(tailRows L h1).view.set]{fullShare}
          (tailRows L h1).view.writes (Elt F) tl [⟨Rect.whole S16x1792, tile_body.sl.dma0_2 f'⟩] : sProp 𝕄)
        = (tailLoc d ↦[tailSet (L 0).val (L 1).val]{fullShare} resT tt ix) by
      rw [← tailRows_set L h1]
      refine pointsTo_congr fun x hx => tail_value (f := f') hg hf' _ (fun r c => ?_) _ x hx
      unfold tile_body.sl.dma0_2
      refine (View.read_apply _ _).trans ((cast_eq _ _).trans (congrArg f' (funext fun a => Fin.ext ?_)))
      match a with
      | 0 => show 0 + 1 * r.val = r.val; omega
      | 1 => show 0 + 1 * c.val = c.val; omega)) $$ Htl
    sl_step
    isplitl [Htt Hix Hout Htl]
    · isplitl [Htt]; · iexact Htt
      isplitl [Hix]; · iexact Hix
      isplitl [Hout]; · iexact Hout
      iexact Htl
    isplitl [Hs Hi Ho Hbufs]
    · isplitl [Hs]; · iexists _; iexact Hs
      isplitl [Hi]; · iexists _; iexact Hi
      isplitl [Ho]; · iexists _; iexact Ho
      iexact Hbufs
    isplitl [H0 H1 H2 H5 H6 Hsems]
    · isplitl [H0]; · iexact H0
      isplitl [H1]; · iexact H1
      isplitl [H2]; · iexact H2
      isplitl [H5]; · iexact H5
      isplitl [H6]; · iexact H6
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · rw [dif_neg h1]
    ihave Htl := (Entails.of_eq (show (tailLoc d ↦[tailSet (L 0).val (L 1).val]{fullShare} tl : sProp 𝕄)
      = (tailLoc d ↦[tailSet (L 0).val (L 1).val]{fullShare} resT tt ix) from
        pointsTo_congr fun x hx => absurd hx (by rw [tailSet_zero L h1]; simp))) $$ Htl
    sl_step
    isplitl [Htt Hix Hout Htl]
    · isplitl [Htt]; · iexact Htt
      isplitl [Hix]; · iexact Hix
      isplitl [Hout]; · iexact Hout
      iexact Htl
    isplitl [Hs Hi Ho Hbufs]
    · isplitl [Hs]; · iexists _; iexact Hs
      isplitl [Hi]; · iexists _; iexact Hi
      isplitl [Ho]; · iexists _; iexact Ho
      iexact Hbufs
    isplitl [H0 H1 H2 H5 H6 Hsems]
    · isplitl [H0]; · iexact H0
      isplitl [H1]; · iexact H1
      isplitl [H2]; · iexact H2
      isplitl [H5]; · iexact H5
      isplitl [H6]; · iexact H6
      iexact Hsems
    iexists _; isplitr
    swap; · iexact HO
    ipureintro; exact hW'

end Cert.KernelIdeal.Pf

end
-- ==== Proof.KernelIdeal.Launch.lean ====
/- What the SparseCore call carries, and the tile's obligation. -/
module

public import proofs.«01_k».proof.Proof.KernelIdeal.Tile
public import Idealize.ShloMosaic.Lib.SparseCore.Stream
public import Idealize.ShloMosaic.Lib.SparseCore.Quiescent

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

/-! ## What the one call carries -/

/-- The share of the table and of the index words that tile `i` of SparseCore `c` reads through: the whole cut in two
    by the SparseCore, each part in sixteen by the tile. -/
def shr (c : Fin 2) (i : Fin 16) : PosShare TreeShare := piece (piece fullShare 1 c) 15 i

/-- Tile `i`'s arrays on SparseCore `c`. -/
abbrev tileOf (tt : Dev nD → S256x2048.Idx → F .f32) (ix : Dev nD → S4x100096.Idx → BitVec 32) (o : Dev nD → S256x100000.Idx → F .f32)
    (tl : Dev nD → S256x1792.Idx → F .f32) (d : Dev nD) (c : Fin 2) (i : Fin 16) : sProp 𝕄 :=
  tileArr d c.val i.val (shr c i) (tt d) (ix d) (o d) (tl d)

abbrev resGd (tt : Dev nD → S256x2048.Idx → F .f32) (ix : Dev nD → S4x100096.Idx → BitVec 32) (d : Dev nD) : S256x100000.Idx → F .f32 := resG (tt d) (ix d)
abbrev resTd (tt : Dev nD → S256x2048.Idx → F .f32) (ix : Dev nD → S4x100096.Idx → BitVec 32) (d : Dev nD) : S256x1792.Idx → F .f32 := resT (tt d) (ix d)

instance tileOf_storable (tt : Dev nD → S256x2048.Idx → F .f32) (ix : Dev nD → S4x100096.Idx → BitVec 32) (o : Dev nD → S256x100000.Idx → F .f32)
    (tl : Dev nD → S256x1792.Idx → F .f32) (d : Dev nD) (c : Fin 2) (i : Fin 16) : BI.Storable (upEmb : UEmb _ 𝕄) (tileOf tt ix o tl d c i) := by
  unfold tileOf tileArr; infer_instance

variable (tt : Dev nD → S256x2048.Idx → F .f32) (ix : Dev nD → S4x100096.Idx → BitVec 32)
  (o : Dev nD → S256x100000.Idx → F .f32) (tl : Dev nD → S256x1792.Idx → F .f32)

/-- A SparseCore is handed its sixteen tiles' arrays, and each tile its own; they come back with the results in them. -/
def P : (K (F := F)).Pay (nD := nD) (Val := Elt F) (Name := ℕ) (U := UU) where
  st := fun q d c => match q with
    | 0 => bigSep Finset.univ fun i : Fin ((K (F := F)).nSub 0) => tileOf tt ix o tl d (Fin.cast nCore_zero c) (Fin.cast nSub_zero i)
  dn := fun q d c => match q with
    | 0 => bigSep Finset.univ fun i : Fin ((K (F := F)).nSub 0) => tileOf tt ix (resGd tt ix) (resTd tt ix) d (Fin.cast nCore_zero c) (Fin.cast nSub_zero i)
  go := fun q d c i => match q with
    | 0 => tileOf tt ix o tl d (Fin.cast nCore_zero c) (Fin.cast nSub_zero i)
  td := fun q d c i => match q with
    | 0 => tileOf tt ix (resGd tt ix) (resTd tt ix) d (Fin.cast nCore_zero c) (Fin.cast nSub_zero i)
  x := fun _ _ => iprop(emp)

instance P_storable : (P (F := F) tt ix o tl).IsStorable where
  st q d c := match q with
    | 0 => (inferInstance : BI.Storable (upEmb : UEmb _ 𝕄) (bigSep Finset.univ fun i : Fin ((K (F := F)).nSub 0) => tileOf tt ix o tl d (Fin.cast nCore_zero c) (Fin.cast nSub_zero i)))
  dn q d c := match q with
    | 0 => (inferInstance : BI.Storable (upEmb : UEmb _ 𝕄) (bigSep Finset.univ fun i : Fin ((K (F := F)).nSub 0) => tileOf tt ix (resGd tt ix) (resTd tt ix) d (Fin.cast nCore_zero c) (Fin.cast nSub_zero i)))
  go q d c i := match q with
    | 0 => tileOf_storable tt ix o tl d (Fin.cast nCore_zero c) (Fin.cast nSub_zero i)
  td q d c i := match q with
    | 0 => tileOf_storable tt ix (resGd tt ix) (resTd tt ix) d (Fin.cast nCore_zero c) (Fin.cast nSub_zero i)

/-- What a SparseCore is handed is its tiles' arrays already. -/
theorem vecSplit : (K (F := F)).VecSplit' (P tt ix o tl) 0 := by
  intro d c
  show (bigSep Finset.univ fun i : Fin ((K (F := F)).nSub 0) => tileOf tt ix o tl d (Fin.cast nCore_zero c) (Fin.cast nSub_zero i))
    ⊢ |={Set.univ}=> iprop((bigSep Finset.univ fun i : Fin ((K (F := F)).nSub 0) => tileOf tt ix o tl d (Fin.cast nCore_zero c) (Fin.cast nSub_zero i))
      ∗ ((bigSep Finset.univ fun i : Fin ((K (F := F)).nSub 0) => tileOf tt ix (resGd tt ix) (resTd tt ix) d (Fin.cast nCore_zero c) (Fin.cast nSub_zero i))
        -∗ (bigSep Finset.univ fun i : Fin ((K (F := F)).nSub 0) => tileOf tt ix (resGd tt ix) (resTd tt ix) d (Fin.cast nCore_zero c) (Fin.cast nSub_zero i))))
  iintro H; imodintro
  isplitl [H]; · iexact H
  iintro H; iexact H

/-! ## The tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__decode (coordsV c s)
          ttV (Memref.isWhole_whole _) ixV (Memref.isWhole_whole _) outV (Memref.isWhole_whole _) tailV (Memref.isWhole_whole _)
          sV (Memref.isWhole_whole _) iV (Memref.isWhole_whole _) oV (Memref.isWhole_whole _)
          cc1_scoped0 cc1_scoped1 cc1_scoped2 cc1_scoped3 cc1_scoped4 cc1_scoped5 cc1_scoped6) ⟨⟩ c s := rfl

/-- What the tile ends with says nothing of a wait it did not make. -/
theorem obl_end {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d x, (ix d x).toNat < 512) :
    (K (F := F)).TileObl (D (F := F)) 𝒱 (P tt ix o tl) v₀ 0 := by
  intro d c i O W hO _ _
  simp only [show (P tt ix o tl).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coordsV ⟨_, hci.1⟩ ⟨_, hci.2⟩) hF (shr (Fin.cast nCore_zero c) (Fin.cast nSub_zero i)) (tt d) (ix d) (hix d) (o d) (tl d) O W hO).trans
    (wp_mono frame _ _ fun _ => obl_end)

end Cert.KernelIdeal.Pf

end
-- ==== Proof.KernelIdeal.Shares.lean ====
/- What the call of the SparseCores is handed, cut into the tiles' parts and put together again. -/
module

public import proofs.«01_k».proof.Proof.KernelIdeal.Launch
public import Idealize.ShloMosaic.Lib.SparseCore.Stream
public import Idealize.SL.ProofMode.BigOp

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

variable [FloatOps F]

/-- The columns of `out` that the tiles write. -/
def outAll : Finset S256x100000.Idx := Finset.univ.filter fun x => (x 1).val < 98304

theorem mem_outAll {x : S256x100000.Idx} : x ∈ outAll ↔ (x 1).val < 98304 := by
  unfold outAll; rw [Finset.mem_filter]; exact and_iff_right (Finset.mem_univ x)

abbrev Tl : Type := Fin 2 × Fin 16

theorem out_cover : (Finset.univ : Finset Tl).biUnion (fun t => outSet t.1.val t.2.val) = outAll := by
  ext x
  have h0 : (x 0).val < 256 := (x 0).isLt
  rw [Finset.mem_biUnion, mem_outAll]
  constructor
  · rintro ⟨t, -, ht⟩; exact (mem_outSet.1 ht).2.1
  · intro h
    refine ⟨(⟨(x 1).val / 2048 % 2, Nat.mod_lt _ (by decide)⟩, ⟨(x 0).val / 16, by omega⟩), Finset.mem_univ _, mem_outSet.2 ⟨?_, h, rfl⟩⟩
    dsimp only; omega

theorem out_disjoint : ∀ t ∈ (Finset.univ : Finset Tl), ∀ t' ∈ (Finset.univ : Finset Tl), t ≠ t' → Disjoint (outSet t.1.val t.2.val) (outSet t'.1.val t'.2.val) := by
  intro t _ t' _ hne
  refine Finset.disjoint_left.2 fun x hx hx' => hne ?_
  have h := mem_outSet.1 hx
  have h' := mem_outSet.1 hx'
  exact Prod.ext (Fin.ext (by omega)) (Fin.ext (by omega))

theorem tail_cover : (Finset.univ : Finset Tl).biUnion (fun t => tailSet t.1.val t.2.val) = Finset.univ := by
  ext x
  have h0 : (x 0).val < 256 := (x 0).isLt
  rw [Finset.mem_biUnion]
  refine ⟨fun _ => Finset.mem_univ _, fun _ => ⟨(1, ⟨(x 0).val / 16, by omega⟩), Finset.mem_univ _, mem_tailSet.2 ⟨rfl, ?_⟩⟩⟩
  dsimp only; omega

theorem tail_disjoint : ∀ t ∈ (Finset.univ : Finset Tl), ∀ t' ∈ (Finset.univ : Finset Tl), t ≠ t' → Disjoint (tailSet t.1.val t.2.val) (tailSet t'.1.val t'.2.val) := by
  intro t _ t' _ hne
  refine Finset.disjoint_left.2 fun x hx hx' => hne ?_
  have h := mem_tailSet.1 hx
  have h' := mem_tailSet.1 hx'
  exact Prod.ext (Fin.ext (by omega)) (Fin.ext (by omega))

variable (tt : Dev nD → S256x2048.Idx → F .f32) (ix : Dev nD → S4x100096.Idx → BitVec 32)
  (o : Dev nD → S256x100000.Idx → F .f32) (tl : Dev nD → S256x1792.Idx → F .f32)

/-- The whole of an array, read by every tile: a share for each. -/
theorem shares {ℓ : Loc nD τ sig} (f : Buf (Elt F) ℓ) :
    (ℓ ↦{fullShare} f : sProp 𝕄) = bigSep Finset.univ fun c : Fin 2 => bigSep Finset.univ fun i : Fin 16 => (ℓ ↦{shr c i} f : sProp 𝕄) :=
  (pointsTo_pieces Finset.univ f 1 fullShare).trans (bigSep_congr fun c _ => pointsTo_pieces Finset.univ f 15 (piece fullShare 1 c))

theorem out_tiles (d : Dev nD) (f : S256x100000.Idx → F .f32) :
    (outLoc d ↦[outAll]{fullShare} f : sProp 𝕄)
      = bigSep Finset.univ fun c : Fin 2 => bigSep Finset.univ fun i : Fin 16 => (outLoc d ↦[outSet c.val i.val]{fullShare} f : sProp 𝕄) := by
  rw [← out_cover]
  exact (pointsTo_biUnion (ℓ := outLoc d) Finset.univ (fun t : Tl => outSet t.1.val t.2.val) out_disjoint).trans
    (bigSep_univ_prod fun t : Tl => (outLoc d ↦[outSet t.1.val t.2.val]{fullShare} f : sProp 𝕄))

theorem tail_tiles (d : Dev nD) (f : S256x1792.Idx → F .f32) :
    (tailLoc d ↦{fullShare} f : sProp 𝕄)
      = bigSep Finset.univ fun c : Fin 2 => bigSep Finset.univ fun i : Fin 16 => (tailLoc d ↦[tailSet c.val i.val]{fullShare} f : sProp 𝕄) := by
  refine (congrArg (fun s => (tailLoc d ↦[s]{fullShare} f : sProp 𝕄)) tail_cover.symm).trans ?_
  exact (pointsTo_biUnion (ℓ := tailLoc d) Finset.univ (fun t : Tl => tailSet t.1.val t.2.val) tail_disjoint).trans
    (bigSep_univ_prod fun t : Tl => (tailLoc d ↦[tailSet t.1.val t.2.val]{fullShare} f : sProp 𝕄))

/-- Every tile's arrays together: the table and the index words whole, the tiles' columns of `out`, the tail whole. -/
theorem tiles_eq (d : Dev nD) :
    (bigSep Finset.univ fun c : Fin 2 => bigSep Finset.univ fun i : Fin 16 => tileOf tt ix o tl d c i)
      = iprop((ttLoc d ↦{fullShare} tt d) ∗ (ixLoc d ↦{fullShare} ix d) ∗ (outLoc d ↦[outAll]{fullShare} o d) ∗ (tailLoc d ↦{fullShare} tl d) : sProp 𝕄) := by
  rw [shares (F := F) (ℓ := ttLoc d) (tt d), shares (F := F) (ℓ := ixLoc d) (ix d), out_tiles, tail_tiles]
  unfold tileOf tileArr
  simp only [bigSep_sep']

theorem st_eq (d : Dev nD) : (bigSep Finset.univ fun c : Fin ((K (F := F)).nCore 0) => (P tt ix o tl).st 0 d c)
    = iprop((ttLoc d ↦{fullShare} tt d) ∗ (ixLoc d ↦{fullShare} ix d) ∗ (outLoc d ↦[outAll]{fullShare} o d) ∗ (tailLoc d ↦{fullShare} tl d) : sProp 𝕄) :=
  tiles_eq tt ix o tl d

theorem dn_eq (d : Dev nD) : (bigSep Finset.univ fun c : Fin ((K (F := F)).nCore 0) => (P tt ix o tl).dn 0 d c)
    = iprop((ttLoc d ↦{fullShare} tt d) ∗ (ixLoc d ↦{fullShare} ix d) ∗ (outLoc d ↦[outAll]{fullShare} resGd tt ix d) ∗ (tailLoc d ↦{fullShare} resTd tt ix d) : sProp 𝕄) :=
  tiles_eq tt ix (resGd tt ix) (resTd tt ix) d

/-- `out` after the call: the results at the tiles' columns, what was there before at the others. -/
def outAfter (d : Dev nD) : S256x100000.Idx → F .f32 := fun x => if (x 1).val < 98304 then resGd tt ix d x else o d x

/-- `out` taken apart into the tiles' columns and the others. -/
theorem out_split (d : Dev nD) (f : S256x100000.Idx → F .f32) :
    (outLoc d ↦{fullShare} f : sProp 𝕄) ⊢ iprop((outLoc d ↦[outAll]{fullShare} f) ∗ (outLoc d ↦[Finset.univ \ outAll]{fullShare} f)) :=
  (pointsTo_split_subset (ℓ := outLoc d) (Finset.subset_univ outAll)).1

/-- `out` put together again after the call. -/
theorem out_join (d : Dev nD) :
    iprop((outLoc d ↦[outAll]{fullShare} resGd tt ix d) ∗ (outLoc d ↦[Finset.univ \ outAll]{fullShare} o d))
      ⊢ (outLoc d ↦{fullShare} outAfter tt ix o d : sProp 𝕄) := by
  have e1 : (outLoc d ↦[outAll]{fullShare} resGd tt ix d : sProp 𝕄) = (outLoc d ↦[outAll]{fullShare} outAfter tt ix o d) :=
    pointsTo_congr fun x hx => by show resGd tt ix d x = _; unfold outAfter; rw [if_pos (mem_outAll.1 hx)]
  have e2 : (outLoc d ↦[Finset.univ \ outAll]{fullShare} o d : sProp 𝕄) = (outLoc d ↦[Finset.univ \ outAll]{fullShare} outAfter tt ix o d) :=
    pointsTo_congr fun x hx => by
      show o d x = _; unfold outAfter; rw [if_neg fun h => (Finset.mem_sdiff.1 hx).2 (mem_outAll.2 h)]
  iintro ⟨H1, H2⟩
  ihave H1 := (Entails.of_eq e1) $$ H1
  ihave H2 := (Entails.of_eq e2) $$ H2
  iapply (pointsTo_split_subset (ℓ := outLoc d) (Finset.subset_univ outAll)).2
  isplitl [H1]; · iexact H1
  iexact H2

end Cert.KernelIdeal.Pf

end
-- ==== Proof.KernelIdeal.Body.lean ====
/- The dense stage's body, run from its staging buffers to the table's four blocks. -/
module

public import proofs.«01_k».proof.Proof.KernelIdeal.Setup

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

open Idealize.ShloMosaic.TcCoe Idealize.ShloMosaic.Tactic

variable [FloatOps F]

/-- What buffer `M` of the TensorCore may hold, and the buffer held whole at `f`. -/
abbrev Bf (c : Dev nD) {sp : Space} {s : Shape} {e : EltTy} (M : Memref sig .tc sp s e) : Type :=
  Buf (Elt F) (M.view.loc (c : Thread nD τ))
abbrev whole (c : Dev nD) {sp : Space} {s : Shape} {e : EltTy} (M : Memref sig .tc sp s e) (f : Bf (F := F) c M) : sProp 𝕄 :=
  M.view.loc (c : Thread nD τ) ↦{fullShare} f

set_option maxRecDepth 65536 in
/-- The dense stage's body, from its four staging buffers held whole: the three inputs are handed back as they were,
    and the table's buffer with the four blocks stored. -/
def logitsRun (c : Dev nD)
    (M0 : Memref sig .tc .vmem S256x512 .f32) (h0 : M0.IsWhole) (M1 : Memref sig .tc .vmem S4x512x128 .f32) (h1 : M1.IsWhole)
    (M2 : Memref sig .tc .vmem S4x512 .f32) (h2 : M2.IsWhole) (M3 : Memref sig .tc .vmem S256x2048 .f32) (h3 : M3.IsWhole)
    (f0 : Bf (F := F) c M0) (f1 : Bf (F := F) c M1) (f2 : Bf (F := F) c M2) :
    { R : Bf (F := F) c M3 // ∀ (f3 : Bf (F := F) c M3) (E : Set ℕ) (Q : PUnit → sProp 𝕄),
        iprop(whole c M0 f0 ∗ whole c M1 f1 ∗ whole c M2 f2 ∗ whole c M3 f3
            ∗ (iprop(whole c M0 f0 ∗ whole c M1 f1 ∗ whole c M2 f2 ∗ whole c M3 R) -∗ Q ⟨⟩))
          ⊢ wp frame (wpE (defs₀ (F := F)) 𝒱₀ c none) E (cc0__logits_body M0 h0 M1 h1 M2 h2 M3 h3) Q } := by
  refine ⟨?_, fun f3 E Q => ?run⟩
  case run =>
    rw [cc0__logits_body_eq_skeleton]
    unfold cc0__logits_body_skel
    rw [k0_part1_eq_skeleton]
    unfold k0_part1_skel
    iintro ⟨H0, H1, H2, H3, Hk⟩
    sl_exec!
    sl_step
    iapply Hk
    isplitl [H0]; · iexact H0
    isplitl [H1]; · iexact H1
    isplitl [H2]; · iexact H2
    iexact H3

end Cert.KernelIdeal.Pf

end
-- ==== Proof.KernelIdeal.Region.lean ====
/- The dense stage as a region of the TensorCore's program: its windows staged, the body run, the table copied out, while the call of the SparseCores is still owed. -/
module

public import proofs.«01_k».proof.Proof.KernelIdeal.Body
public import Idealize.ShloMosaic.Lib.Pipeline.RegionArrays
public import Idealize.ShloMosaic.Lib.Pipeline.RegionsLoop

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

open Idealize.ShloMosaic.TcCoe Idealize.ShloMosaic.Tactic
open Idealize.ShloMosaic.Pipeline (Dat BodyObligation)

variable [FloatOps F]

abbrev EP : Emb UP (MT nD τ sig (HIx 1) (Elt F) ℕ UU ℕ) := Emb.inl.trans embR

abbrev adm : (p : Fin 1) → (pcfgs (F := F) p).Adm := fun p => (cfgs p).toPCfg_adm

/-! ## The proof data, at an entry valuation -/

variable (V : (c : Dev nD) → (b : Ref sig .tc) → Buf (Elt F) ((c : Thread nD τ).loc b))

/-- The inputs' arrays as the region's copies stage them. -/
abbrev stg0 (c : Dev nD) : (cfg0.win 0).block.Idx → Elt F (cfg0.win 0).elt :=
  ((cfg0.win 0).blk t0_0).view.read (Elt F) (V c main_arg0)
abbrev stg1 (c : Dev nD) : (cfg0.win 1).block.Idx → Elt F (cfg0.win 1).elt :=
  ((cfg0.win 1).blk t0_0).view.read (Elt F) (V c main_arg1)
abbrev stg2 (c : Dev nD) : (cfg0.win 2).block.Idx → Elt F (cfg0.win 2).elt :=
  ((cfg0.win 2).blk t0_0).view.read (Elt F) (V c main_arg2)

/-- The body's run at the staged inputs. -/
abbrev bodyRun (c : Dev nD) :=
  logitsRun (F := F) c (stage0_0 0) (hstage0_0 0) (stage0_1 0) (hstage0_1 0) (stage0_2 0) (hstage0_2 0) (stage0_3 0) (hstage0_3 0)
    (stg0 V c) (stg1 V c) (stg2 V c)

/-- The waits the TensorCore has recorded when the region starts are all of its own transfers. -/
abbrev own : Set (SemLoc sig × HIx 1) := {p | p.2 = none}

/-- The region's proof data: the arrays at `V`; after the body the inputs as staged and the table's buffer at what the
    run leaves; the call of the SparseCores still owed throughout. -/
def dat (c : Dev nD) : Dat τ (Elt F) (HIx 1) ℕ UU ℕ (cfg0) c where
  A w := V c (Pipeline.arrRef spec0 w)
  after w _ := match w with
    | ⟨0, _⟩ => stg0 V c
    | ⟨1, _⟩ => stg1 V c
    | ⟨2, _⟩ => stg2 V c
    | ⟨3, _⟩ => (bodyRun V c).1
  Φ _ := Pipeline.scopedRest (Ix := HIx 1) (Name := ℕ) (U := UU) (Lvl := ℕ) (Val := Elt F) spec0 c
  q _ := fullShare
  owed _ := (K (F := F)).Otc c 0
  recorded _ := own

def pdats : (p : Fin 1) → (c : Dev nD) → Dat τ (Elt F) (HIx 1) ℕ UU ℕ (Pipeline.pin (pcfgs (F := F)) adm p) c
  | ⟨0, _⟩ => fun c => dat V c

theorem before_0 (c : Dev nD) (d : (cfg0.win 0).block.Idx → Elt F (cfg0.win 0).elt) : (dat V c).before 0 t0_0 d = stg0 V c := by
  unfold Dat.before; rw [if_pos (by decide)]; rfl
theorem before_1 (c : Dev nD) (d : (cfg0.win 1).block.Idx → Elt F (cfg0.win 1).elt) : (dat V c).before 1 t0_0 d = stg1 V c := by
  unfold Dat.before; rw [if_pos (by decide)]; rfl
theorem before_2 (c : Dev nD) (d : (cfg0.win 2).block.Idx → Elt F (cfg0.win 2).elt) : (dat V c).before 2 t0_0 d = stg2 V c := by
  unfold Dat.before; rw [if_pos (by decide)]; rfl

theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.succ = (dat V c).Φ t0_0.castSucc from rfl,
    show (dat V c).owesAt none t0_0.succ = (dat V c).owesAt none t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0 hf1 hf2
  iapply ((bodyRun V c).2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-! ## The region between the TensorCore's statements -/

/-- The table after the region: what the run left, copied out. -/
def table (c : Dev nD) : Buf (Elt F) ((c : Thread nD τ).loc main_v0) := (dat V c).arrAt 3 (cfg0).N

/-- The thread's waits as the region finds and leaves them: what it owes, and only its own transfers recorded. -/
def owing (c : Dev nD) : sProp 𝕄 :=
  iprop(∃ W : Waits sig (HIx 1), ⌜∀ p ∈ W, p.2 = none⌝ ∗ owes (c : Thread nD τ) ((K (F := F)).Otc c 0) W)

variable (V' : (c : Dev nD) → (b : Ref sig .tc) → Buf (Elt F) ((c : Thread nD τ).loc b))

set_option backward.isDefEq.respectTransparency.types false in
/-- The region, entered with every array of the program at `V` and left with the table's at `table V` and the others
    as they were. -/
def reg (hout : ∀ c, V' c main_v0 = table V c) (hne : ∀ c (b : Ref sig .tc), b ≠ main_v0 → V' c b = V c b) :
    Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_of_cut (Pipeline.pin (pcfgs (F := F)) adm) (pdats V) none 0 c 0 ((K (F := F)).Otc c 0) (fun _ => rfl)
    (fun _ _ => Finset.mem_univ _) (fun _ _ => le_refl 0)
    (fun g i h => ⟨Finset.mem_univ _, by have := (K (F := F)).lev_of_Otc_pos h; omega⟩)
  pre c := iprop(unscopedBufs c (V c) ∗ owing c)
  post c := iprop(unscopedBufs c (V' c) ∗ owing c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owing
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest spec0 c from rfl]
    iintro ⟨-, -, Hr⟩; iexact Hr
  hout c := by
    rw [Pipeline.ownSems0_none, show (pdats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (V' c) ((pdats V 0 c).arrAt · cfg0.N)
      (fun w => by
        fin_cases w
        · exact ((pdats V 0 c).arrAt_in 0 rfl _).trans (hne c main_arg0 (by decide)).symm
        · exact ((pdats V 0 c).arrAt_in 1 rfl _).trans (hne c main_arg1 (by decide)).symm
        · exact ((pdats V 0 c).arrAt_in 2 rfl _).trans (hne c main_arg2 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin owing
    icases HO with ⟨%W, %hW, HO⟩; iexists W; isplitr
    · ipureintro
      intro p hp
      rcases hW hp with h | ⟨_, _, h⟩
      · exact h
      · rw [h]
    iexact HO

end Cert.KernelIdeal.Pf

end
-- ==== Proof.KernelIdeal.Vals.lean ====
/- What every array of the program holds, from the launch to the return. -/
module

public import proofs.«01_k».proof.Proof.KernelIdeal.Shares
public import proofs.«01_k».proof.Proof.KernelIdeal.Region

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

open Idealize.ShloMosaic.TcCoe Idealize.ShloMosaic.Tactic
open Idealize.ShloMosaic.Pipeline (ucRefs)

variable [FloatOps F]

/-! ## The arrays from the launch to the return -/

abbrev rf (b : Ref sig .tc) : DevRef τ sig := Proc.devRef .tc b

/-- The program's lines before the call of the SparseCores, -/
def opsA : List (HloOp τ sig (Elt F)) := [
  (StableHlo.nullary main_c (constantI S_ 32 0#32)),
  (StableHlo.unary main_c main_v1 (broadcastInDim S4x96 ![] bcast_S_S4x96 : (⟨S_, .i32⟩ : BufTy).Contents (Elt F) → (⟨S4x96, .i32⟩ : BufTy).Contents (Elt F))),
  (StableHlo.binary main_arg3 main_v1 main_v2 ((fun a b => concatenate S4x100096 1 [⟨S4x100000, a⟩, ⟨S4x96, b⟩] concatenates_S4x100000_S4x96_S4x100096_d1) : (⟨S4x100000, .i32⟩ : BufTy).Contents (Elt F) → (⟨S4x96, .i32⟩ : BufTy).Contents (Elt F) → (⟨S4x100096, .i32⟩ : BufTy).Contents (Elt F)))]
/-- and after it. -/
def opsB : List (HloOp τ sig (Elt F)) := [
  (StableHlo.unary main_v3_1 main_v4 ((extractStridedSlice S256x1696 ![0, 0] · slices_S256x1792_S256x1696_0_0) : (⟨S256x1792, .f32⟩ : BufTy).Contents (Elt F) → (⟨S256x1696, .f32⟩ : BufTy).Contents (Elt F))),
  (StableHlo.nullary main_c_0 (constantI S_ 32 0#32)),
  (StableHlo.nullary main_c_1 (constantI S_ 32 98304#32)),
  (StableHlo.binaryIndexed main_v3_0 main_v4 ![main_c_0, main_c_1] ⟨S_, .i32⟩ main_v5 ((fun x u i => Host.dynamicUpdateSlice x u (fun k => (i k (Shape.Idx.first h_S_)).toInt) updateFits_S256x100000_S256x1696) : (⟨S256x100000, .f32⟩ : BufTy).Contents (Elt F) → (⟨S256x1696, .f32⟩ : BufTy).Contents (Elt F) → (Fin 2 → (⟨S_, .i32⟩ : BufTy).Contents (Elt F)) → (⟨S256x100000, .f32⟩ : BufTy).Contents (Elt F)))]

variable (m : (ℓ : Loc nD τ sig) → Buf (Elt F) ℓ)

/-- The table, -/
def ttOf (d : Dev nD) : S256x2048.Idx → F .f32 := table (fun c b => m ((c : Thread nD τ).loc b)) d
/-- the index words, padded to a whole number of chunks, -/
def ixOf (d : Dev nD) : S4x100096.Idx → BitVec 32 :=
  concatenate S4x100096 1 [⟨S4x100000, (m (cLoc d) : S4x100000.Idx → BitVec 32)⟩, ⟨S4x96, broadcastInDim S4x96 ![] bcast_S_S4x96 (constantI S_ 32 0#32)⟩]
    concatenates_S4x100000_S4x96_S4x100096_d1
/-- the results' arrays as the launch has them. -/
def o0 (d : Dev nD) : S256x100000.Idx → F .f32 := m (outLoc d)
def tl0 (d : Dev nD) : S256x1792.Idx → F .f32 := m (tailLoc d)

def V0 (d : Dev nD) : Valuation τ sig (Elt F) := fun b => m (d, b)
def V1 (d : Dev nD) : Valuation τ sig (Elt F) := Function.update (V0 m d) (rf main_v0) (ttOf m d)
def V2 (d : Dev nD) : Valuation τ sig (Elt F) := StableHlo.after opsA (V1 m d)
def V3 (d : Dev nD) : Valuation τ sig (Elt F) :=
  Function.update (Function.update (V2 m d) (rf main_v3_0) (outAfter (ttOf m) (ixOf m) (o0 m) d)) (rf main_v3_1) (resTd (ttOf m) (ixOf m) d)
def V4 (d : Dev nD) : Valuation τ sig (Elt F) := StableHlo.after opsB (V3 m d)

/-- The program's result. -/
def resOf (d : Dev nD) : S256x100000.Idx → F .f32 :=
  Host.dynamicUpdateSlice (outAfter (ttOf m) (ixOf m) (o0 m) d) (extractStridedSlice S256x1696 ![0, 0] (resTd (ttOf m) (ixOf m) d) slices_S256x1792_S256x1696_0_0)
    (fun k => (![0#32, 98304#32] k).toInt) updateFits_S256x100000_S256x1696

theorem V1_tt (d : Dev nD) : V1 m d (rf main_v0) = ttOf m d := Function.update_self ..
theorem V1_ne (d : Dev nD) (b : Ref sig .tc) (h : b ≠ main_v0) : V1 m d (rf b) = V0 m d (rf b) :=
  Function.update_of_ne (fun e => h (Proc.devRef_injective _ e)) ..

theorem V2_ix (d : Dev nD) : V2 m d (rf main_v2) = ixOf m d := by
  unfold V2 opsA
  simp only [StableHlo.after_cons, StableHlo.after_nil]
  rw [StableHlo.binary_result, StableHlo.unary_result, StableHlo.nullary_result,
    StableHlo.unary_result_ne _ _ _ _ _ _ (by decide), StableHlo.nullary_result_ne _ _ _ _ (by decide), V1_ne m d main_arg3 (by decide)]
  rfl

theorem V2_ne (d : Dev nD) (b : Ref sig .tc) (h1 : b ≠ main_c) (h2 : b ≠ main_v1) (h3 : b ≠ main_v2) : V2 m d (rf b) = V1 m d (rf b) := by
  unfold V2 opsA
  simp only [StableHlo.after_cons, StableHlo.after_nil]
  rw [StableHlo.binary_result_ne _ _ _ _ _ _ _ _ h3, StableHlo.unary_result_ne _ _ _ _ _ _ h2, StableHlo.nullary_result_ne _ _ _ _ h1]

theorem V3_ne (d : Dev nD) (b : Ref sig .tc) (h1 : b ≠ main_v3_0) (h2 : b ≠ main_v3_1) : V3 m d (rf b) = V2 m d (rf b) :=
  (Function.update_of_ne (fun e => h2 (Proc.devRef_injective _ e)) ..).trans (Function.update_of_ne (fun e => h1 (Proc.devRef_injective _ e)) ..)
theorem V3_out (d : Dev nD) : V3 m d (rf main_v3_0) = outAfter (ttOf m) (ixOf m) (o0 m) d :=
  (Function.update_of_ne (fun e => absurd (Proc.devRef_injective _ e) (by decide)) ..).trans (Function.update_self ..)
theorem V3_tail (d : Dev nD) : V3 m d (rf main_v3_1) = resTd (ttOf m) (ixOf m) d := Function.update_self ..

theorem V4_ne (d : Dev nD) (b : Ref sig .tc) (h1 : b ≠ main_v4) (h2 : b ≠ main_c_0) (h3 : b ≠ main_c_1) (h4 : b ≠ main_v5) : V4 m d (rf b) = V3 m d (rf b) := by
  unfold V4 opsB
  simp only [StableHlo.after_cons, StableHlo.after_nil]
  rw [StableHlo.binaryIndexed_result_ne _ _ _ _ _ _ _ _ _ _ _ _ h4, StableHlo.nullary_result_ne _ _ _ _ h3, StableHlo.nullary_result_ne _ _ _ _ h2,
    StableHlo.unary_result_ne _ _ _ _ _ _ h1]

theorem V4_res (d : Dev nD) : V4 m d (rf main_v5) = resOf m d := by
  unfold V4 opsB
  simp only [StableHlo.after_cons, StableHlo.after_nil]
  rw [StableHlo.binaryIndexed_result]
  unfold resOf
  congr 1
  funext k
  fin_cases k
  · dsimp only [Fin.zero_eta, Matrix.cons_val_zero]
    rw [StableHlo.nullary_result_ne _ _ _ _ (by decide), StableHlo.nullary_result]
    rfl
  · exact congrArg (fun v : main_c_1.ty.Contents (Elt F) => ((v : IVec S_ 32) (Shape.Idx.first h_S_)).toInt) (StableHlo.nullary_result main_c_1 (constantI S_ 32 98304#32) _ _)

/-- The program's arguments keep what the launch has in them. -/
theorem V4_arg (d : Dev nD) (b : Ref sig .tc) (h : b = main_arg0 ∨ b = main_arg1 ∨ b = main_arg2 ∨ b = main_arg3) : V4 m d (rf b) = m ((d : Thread nD τ).loc b) := by
  rw [V4_ne m d b, V3_ne m d b, V2_ne m d b, V1_ne m d b]
  · rfl
  all_goals rcases h with rfl | rfl | rfl | rfl <;> decide

end Cert.KernelIdeal.Pf

end
-- ==== Proof.KernelIdeal.Main.lean ====
/- The TensorCore's program, run from the launch's arrays to the return. -/
module

public import proofs.«01_k».proof.Proof.KernelIdeal.Vals

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

open Idealize.ShloMosaic.TcCoe Idealize.ShloMosaic.Tactic
open Idealize.ShloMosaic.Pipeline (ucRefs)

variable [FloatOps F] (m : (ℓ : Loc nD τ sig) → Buf (Elt F) ℓ) (ρ : Dev nD → PrngReg)

abbrev PP : (K (F := F)).Pay (nD := nD) (Val := Elt F) (Name := ℕ) (U := UU) := P (ttOf m) (ixOf m) (o0 m) (tl0 m)

/-! ## The arrays of the call, out of all the arrays and back -/

abbrev four : Finset (DevRef τ sig) := {rf main_v0, rf main_v2, rf main_v3_0, rf main_v3_1}

theorem four_sub : four ⊆ ucRefs τ sig := by decide

abbrev restA (d : Dev nD) (W : Valuation τ sig (Elt F)) : sProp 𝕄 := StableHlo.held (d : Thread nD τ) (ucRefs τ sig \ four) W

theorem held_four (d : Dev nD) (W : Valuation τ sig (Elt F)) :
    (StableHlo.held (d : Thread nD τ) (ucRefs τ sig) W : sProp 𝕄)
      = iprop(((ttLoc d ↦{fullShare} W (rf main_v0)) ∗ (ixLoc d ↦{fullShare} W (rf main_v2))
          ∗ (outLoc d ↦{fullShare} W (rf main_v3_0)) ∗ (tailLoc d ↦{fullShare} W (rf main_v3_1))) ∗ restA d W) := by
  rw [StableHlo.held_sub_split _ four_sub]
  congr 1
  unfold StableHlo.held four
  rw [SparseCore.bigSep_insert' (by decide), SparseCore.bigSep_insert' (by decide), SparseCore.bigSep_insert' (by decide), bigSep_singleton]

theorem rest_eq (d : Dev nD) : (restA d (V2 m d) : sProp 𝕄) = restA d (V3 m d) :=
  StableHlo.held_congr (d : Thread nD τ) fun b hb => by
    have hb := (Finset.mem_sdiff.1 hb).2
    unfold V3
    rw [Function.update_of_ne (fun e => hb (by rw [e]; decide)), Function.update_of_ne (fun e => hb (by rw [e]; decide))]

/-! ## The waits recorded before the call -/

theorem below_iff (d : Dev nD) (W : Waits sig (HIx 1)) :
    (K (F := F)).WBelow (SparseCore.T d) W (8 * SparseCore.Cfg.Blocks.fst (Q := 1) (N := 1) 0) ↔ ∀ p ∈ W, p.2 = none := by
  refine ⟨fun h p hp => ?_, fun h p hp => ?_⟩
  · have h1 := h p hp
    rcases p with ⟨s, _ | q⟩
    · rfl
    · have := (K (F := F)).lev_some_ge (SparseCore.T d, s) q
      have h0 : SparseCore.Cfg.Blocks.fst (Q := 1) (N := 1) 0 = 0 := rfl
      rw [h0] at h1; dsimp only at h1; omega
  · rw [h p hp]; exact Nat.zero_le _

/-! ## The run of the TensorCore -/

abbrev VW : (c : Dev nD) → (b : Ref sig .tc) → Buf (Elt F) ((c : Thread nD τ).loc b) := fun c b => m ((c : Thread nD τ).loc b)
abbrev VW' : (c : Dev nD) → (b : Ref sig .tc) → Buf (Elt F) ((c : Thread nD τ).loc b) := fun c b => V1 m c (rf b)

/-- The region between the launch's arrays and the table. -/
def region : Pipeline.RegionSeg (pcfgs (F := F)) adm (pdats (VW m)) none defs₀ 𝒱₀ (K (F := F)).L (K (F := F)).lev 0 :=
  reg (VW m) (VW' m) (fun c => V1_tt m c) (fun c b h => V1_ne m c b h)

theorem pin_inj : Function.Injective (Pipeline.cellOf (nD := nD) (τ := τ) (Pipeline.pin (pcfgs (F := F)) adm)) := cellOf_inj

/-- What the region's rounds start from. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

instance EP_lands : (EP (F := F)).LandsIn (upEmb : UEmb _ 𝕄) := by unfold EP; infer_instance

set_option backward.isDefEq.respectTransparency.types false in
theorem wp_region₀ (d : Dev nD) (Q : PUnit → sProp 𝕄) :
    iprop((iprop(boundary (d : Thread nD τ) ∗ (region m).post d) -∗ wp frame (wpE (D (F := F)) 𝒱 (d : Thread nD τ) none) Set.univ (Prog.ret ⟨⟩) Q)
        ∗ boundary (d : Thread nD τ) ∗ (region m).pre d ∗ levAts (K (F := F)).L (K (F := F)).lev ∗ ghost d)
      ⊢ wp frame (wpE (D (F := F)) 𝒱 (d : Thread nD τ) none) Set.univ
          (.op (.customCall (Pipeline.entry 0) ()) fun u => Prog.ret u) Q :=
  Pipeline.RegionSeg.wp (pcfgs (F := F)) adm (pdats (VW m)) none pin_inj EP defs₀ 𝒱₀ (K (F := F)).L (K (F := F)).lev (region m) d none
    (fun u hu => absurd hu (by simp)) (fun u => Prog.ret u) Q

theorem wp_region₁ (d : Dev nD) (Q : PUnit → sProp 𝕄) :
    iprop((iprop(boundary (d : Thread nD τ) ∗ (region m).post d) -∗ Q ⟨⟩)
        ∗ boundary (d : Thread nD τ) ∗ (region m).pre d ∗ levAts (K (F := F)).L (K (F := F)).lev ∗ ghost d)
      ⊢ wp frame (wpE (D (F := F)) 𝒱 (d : Thread nD τ) none) Set.univ
          (.op (.customCall (Pipeline.entry 0) ()) fun u => Prog.ret u) Q := by
  have key : iprop((iprop(boundary (d : Thread nD τ) ∗ (region m).post d) -∗ Q ⟨⟩)
        ∗ boundary (d : Thread nD τ) ∗ (region m).pre d ∗ levAts (K (F := F)).L (K (F := F)).lev ∗ ghost d)
      ⊢ iprop((iprop(boundary (d : Thread nD τ) ∗ (region m).post d) -∗ wp frame (wpE (D (F := F)) 𝒱 (d : Thread nD τ) none) Set.univ (Prog.ret ⟨⟩) Q)
        ∗ boundary (d : Thread nD τ) ∗ (region m).pre d ∗ levAts (K (F := F)).L (K (F := F)).lev ∗ ghost d) := by
   iintro ⟨Hk, Hr⟩
   isplitl [Hk]
   · iintro H
     rw [wp_ret]; imodintro
     iapply Hk; iexact H
   iexact Hr
  exact key.trans (wp_region₀ m d Q)

theorem lift_entry : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun u => Prog.ret u) := rfl

/-- The first line: the dense stage's region. -/
theorem wp_region (d : Dev nD) (Q : PUnit → sProp 𝕄) :
    iprop((iprop(boundary (d : Thread nD τ) ∗ (region m).post d) -∗ Q ⟨⟩)
        ∗ boundary (d : Thread nD τ) ∗ (region m).pre d ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ())) Q := by
  rw [lift_entry]
  exact (wp_region₁ m d Q).trans ((K (F := F)).wp_liftProg (D (F := F)) 𝒱 (SparseCore.T d) Set.univ none _ Q)

end Cert.KernelIdeal.Pf

end
-- ==== Proof.KernelIdeal.RunTC.lean ====
/- The TensorCore's program: the dense stage, the padding of the index words, the call of the SparseCores, the tail copied in. -/
module

public import proofs.«01_k».proof.Proof.KernelIdeal.Main

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

open Idealize.ShloMosaic.TcCoe Idealize.ShloMosaic.Tactic
open Idealize.ShloMosaic.Pipeline (ucRefs)

variable [FloatOps F] (m : (ℓ : Loc nD τ sig) → Buf (Elt F) ℓ) (ρ : Dev nD → PrngReg)

theorem opsA_sub : ∀ op ∈ (opsA (F := F)), op.bufs ⊆ ucRefs τ sig := by
  intro op hop
  refine Pipeline.sub_ucRefs op ?_
  simp only [opsA, List.mem_cons, List.not_mem_nil, or_false] at hop
  rcases hop with rfl | rfl | rfl
  · exact fun b hb => by rw [StableHlo.nullary_bufs] at hb; rw [Finset.mem_singleton.1 hb]; exact StableHlo.devRef_mem_tcRefs _
  · rw [StableHlo.unary_bufs]; intro b hb; simp only [Finset.mem_insert, Finset.mem_singleton] at hb; rcases hb with rfl | rfl <;> exact StableHlo.devRef_mem_tcRefs _
  · rw [StableHlo.binary_bufs]; intro b hb; simp only [Finset.mem_insert, Finset.mem_singleton] at hb; rcases hb with rfl | rfl | rfl <;> exact StableHlo.devRef_mem_tcRefs _

theorem opsA_fresh : ∀ op ∈ (opsA (F := F)), op.fresh = ∅ := by
  intro op hop
  simp only [opsA, List.mem_cons, List.not_mem_nil, or_false] at hop
  rcases hop with rfl | rfl | rfl <;> rfl

theorem opsB_sub : ∀ op ∈ (opsB (F := F)), op.bufs ⊆ ucRefs τ sig := by
  intro op hop
  refine Pipeline.sub_ucRefs op ?_
  simp only [opsB, List.mem_cons, List.not_mem_nil, or_false] at hop
  rcases hop with rfl | rfl | rfl | rfl
  · rw [StableHlo.unary_bufs]; intro b hb; simp only [Finset.mem_insert, Finset.mem_singleton] at hb; rcases hb with rfl | rfl <;> exact StableHlo.devRef_mem_tcRefs _
  · exact fun b hb => by rw [StableHlo.nullary_bufs] at hb; rw [Finset.mem_singleton.1 hb]; exact StableHlo.devRef_mem_tcRefs _
  · exact fun b hb => by rw [StableHlo.nullary_bufs] at hb; rw [Finset.mem_singleton.1 hb]; exact StableHlo.devRef_mem_tcRefs _
  · exact (by decide : insert (rf main_v3_0) (insert (rf main_v4) (insert (rf main_v5) (Finset.univ.image fun k : Fin 2 => rf (![main_c_0, main_c_1] k)))) ⊆ StableHlo.tcRefs τ sig)

theorem opsB_fresh : ∀ op ∈ (opsB (F := F)), op.fresh = ∅ := by
  intro op hop
  simp only [opsB, List.mem_cons, List.not_mem_nil, or_false] at hop
  rcases hop with rfl | rfl | rfl | rfl <;> rfl

theorem main_eq (d : Dev nD) : main (F := F) d
    = (do Prog.lift (.customCall (SparseCore.inner (Pipeline.entry 0)) ())
          StableHlo.seq opsA >>= fun _ => do
            sc.run d 0
            StableHlo.seq opsB >>= fun _ => pure ⟨⟩) := by
  simp only [main, opsA, opsB, StableHlo.seq, bind_assoc, pure_bind]

/-- What the program ends with: every array at its last contents. -/
abbrev FIN (d : Dev nD) : sProp 𝕄 := StableHlo.held (d : Thread nD τ) (ucRefs τ sig) (V4 m d)

theorem hmain (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind]
  have hopen : (K (F := F)).tcSt (EH (F := F)) d 0 ⊢ iprop(owing (F := F) d ∗ (owing (F := F) d -∗ (K (F := F)).tcSt (EH (F := F)) d 0)) := by
    unfold SparseCore.Cfg.tcSt owing
    iintro ⟨⟨%W, %hW, HO⟩, Hr⟩
    isplitl [HO]
    · iexists W; isplitr; · ipureintro; exact (below_iff d W).1 hW
      iexact HO
    iintro ⟨%W', %hW', HO⟩
    isplitl [HO]
    · iexists W'; isplitr; · ipureintro; exact (below_iff d W').2 hW'
      iexact HO
    iexact Hr
  have hctx : (K (F := F)).ctx EH (PP m) κ ⊢ levAts (K (F := F)).L (K (F := F)).lev := by
    unfold SparseCore.Cfg.ctx; exact sep_elim_left
  iintro ⟨#Hctx, Hst, ⟨Hb, Hub, Hts, -⟩, Hg⟩
  ihave Hst := hopen $$ Hst
  icases Hst with ⟨HO, Hst⟩
  ihave Hl := hctx $$ Hctx
  iapply (wp_region m d _)
  isplitr [Hb Hub HO Hl Hg]
  swap
  · isplitl [Hb]; · iexact Hb
    isplitl [Hub HO]
    · iapply (Entails.of_eq (show iprop(unscopedBufs d (VW m d) ∗ owing d) = (region m).pre d from rfl))
      isplitl [Hub]; · iexact Hub
      iexact HO
    isplitl [Hl]; · iexact Hl
    iexact Hg
  iintro ⟨Hb, Hpost⟩
  ihave Hpost := (Entails.of_eq (show (region m).post d = iprop(unscopedBufs d (VW' m d) ∗ owing d) from rfl)) $$ Hpost
  icases Hpost with ⟨Hub, HO⟩
  ihave Hst := Hst $$ HO
  ihave Hub := (Entails.of_eq (Pipeline.unscopedBufs_held d (V1 m d))) $$ Hub
  iapply (StableHlo.wp_seq 𝒱 none Set.univ d (ucRefs τ sig) _ opsA opsA_sub opsA_fresh (V1 m d)) $$ [Hb Hub]
  · isplitl [Hb]; · iexact Hb
    iexact Hub
  iintro ⟨Hb, Hub⟩
  ihave Hub := (Entails.of_eq (show StableHlo.held (d : Thread nD τ) (ucRefs τ sig) (StableHlo.after opsA (V1 m d)) = _ from held_four d (V2 m d))) $$ Hub
  rw [V2_ix, V2_ne m d main_v0 (by decide) (by decide) (by decide), V1_tt,
    V2_ne m d main_v3_0 (by decide) (by decide) (by decide), V1_ne m d main_v3_0 (by decide),
    V2_ne m d main_v3_1 (by decide) (by decide) (by decide), V1_ne m d main_v3_1 (by decide)]
  icases Hub with ⟨⟨Htt, Hix, Hout, Htl⟩, Hrest⟩
  ihave Hout := (Entails.of_eq (show (outLoc d ↦{fullShare} V0 m d (rf main_v3_0) : sProp 𝕄) = (outLoc d ↦{fullShare} o0 m d) from rfl)) $$ Hout
  ihave Htl := (Entails.of_eq (show (tailLoc d ↦{fullShare} V0 m d (rf main_v3_1) : sProp 𝕄) = (tailLoc d ↦{fullShare} tl0 m d) from rfl)) $$ Htl
  ihave Hout := (out_split d (o0 m d)) $$ Hout
  icases Hout with ⟨Hout, Hcols⟩
  rw [wp_bind]
  iapply ((K (F := F)).wp_run (D (F := F)) 𝒱 (EH := EH) (P := PP m) κ d 0) $$ [Hst Htt Hix Hout Htl Hcols Hrest Hb Hts]
  isplitr; · iexact Hctx
  isplitl [Hst]; · iexact Hst
  isplitl [Htt Hix Hout Htl]
  · rw [st_eq]
    isplitl [Htt]; · iexact Htt
    isplitl [Hix]; · iexact Hix
    isplitl [Hout]; · iexact Hout
    iexact Htl
  iintro ⟨Hst, Hdn⟩
  ihave Hdn := (Entails.of_eq (dn_eq (ttOf m) (ixOf m) (o0 m) (tl0 m) d)) $$ Hdn
  icases Hdn with ⟨Htt, Hix, Hout, Htl⟩
  ihave Hout := (out_join (ttOf m) (ixOf m) (o0 m) d) $$ [Hout Hcols]
  · isplitl [Hout]; · iexact Hout
    iexact Hcols
  ihave Hrest := (Entails.of_eq (rest_eq m d)) $$ Hrest
  ihave Hub := (Entails.of_eq (held_four d (V3 m d)).symm) $$ [Htt Hix Hout Htl Hrest]
  · rw [V3_out, V3_tail, V3_ne m d main_v0 (by decide) (by decide), V3_ne m d main_v2 (by decide) (by decide),
      V2_ix, V2_ne m d main_v0 (by decide) (by decide) (by decide), V1_tt]
    isplitr [Hrest]
    · isplitl [Htt]; · iexact Htt
      isplitl [Hix]; · iexact Hix
      isplitl [Hout]; · iexact Hout
      iexact Htl
    iexact Hrest
  iapply (StableHlo.wp_seq 𝒱 none Set.univ d (ucRefs τ sig) _ opsB opsB_sub opsB_fresh (V3 m d)) $$ [Hb Hub]
  · isplitl [Hb]; · iexact Hb
    iexact Hub
  iintro ⟨Hb, Hub⟩
  rw [wp_pure]; imodintro
  isplitl [Hst]; · iexact Hst
  isplitl [Hub]; · iexact Hub
  isplitl [Hb] <;> iassumption

end Cert.KernelIdeal.Pf

end
-- ==== Proof.KernelIdeal.Run.lean ====
/- The launch: every execution of the program ends, and what its final memory holds. -/
module

public import proofs.«01_k».proof.Proof.KernelIdeal.RunTC

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

open Idealize.ShloMosaic.TcCoe
open Idealize.ShloMosaic.Pipeline (ucRefs)

variable [FloatOps F]
variable (m : (ℓ : Loc nD τ sig) → Buf (Elt F) ℓ) (ρ : Dev nD → PrngReg)

/-- What the launch starts the certificate's own state from: the rounds of the launch, and those of the dense stage. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem one_pipe (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

set_option backward.isDefEq.respectTransparency.types false in
theorem hghost :
    (BI.own ((EP (F := F)) (initOf (Pipeline.cells (Pipeline.pin (pcfgs (F := F)) adm) pin_inj) (Pipeline.launchToks (Pipeline.pin (pcfgs (F := F)) adm) pin_inj))) : sProp 𝕄)
      ⊢ iprop(|==> bigSep Finset.univ fun d : Dev nD => ghost (F := F) d) := by
  refine (Pipeline.fund_ghost (Pipeline.pin (pcfgs (F := F)) adm) EP pin_inj).trans ?_
  rw [one_pipe, one_pipe, ← bigSep_sep']

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks)
    (initOf (Pipeline.cells (Pipeline.pin (pcfgs (F := F)) adm) pin_inj) (Pipeline.launchToks (Pipeline.pin (pcfgs (F := F)) adm) pin_inj), (1 : Counters))) $$ Hu
  icases H with ⟨HH, HR⟩
  ihave HR := (own_pair_emb embR (initOf (Pipeline.cells (Pipeline.pin (pcfgs (F := F)) adm) pin_inj) (Pipeline.launchToks (Pipeline.pin (pcfgs (F := F)) adm) pin_inj)) (1 : Counters)) $$ HR
  icases HR with ⟨HP, -⟩
  ihave HP := (show (BI.own _ : sProp 𝕄) ⊢ _ from hghost (F := F)) $$ HP
  imod HP
  imodintro
  isplitl [HH]; · iexact HH
  isplitl [HP]; · iexact HP
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), emps]
  iempintro

/-! ## The final state, read off -/

theorem both {R : sProp 𝕄} {φ ψ : Prop} (h : R ⊢ ⌜φ⌝) (h' : R ⊢ ⌜ψ⌝) : R ⊢ ⌜φ ∧ ψ⌝ :=
  fun x hx => ⟨h x hx, h' x hx⟩

theorem held_reads (d : Dev nD) (s' : Phys nD τ sig (Elt F)) (b : DevRef τ sig) (hb : b ∈ ucRefs τ sig) :
    iprop(FIN m d ∗ SI s') ⊢ (⌜s'.mem.mem ((d : Dev nD), b) = V4 m d b⌝ : sProp 𝕄) := by
  have e : (FIN m d : sProp 𝕄) = iprop(StableHlo.held (d : Thread nD τ) {b} (V4 m d) ∗ StableHlo.held (d : Thread nD τ) (ucRefs τ sig \ {b}) (V4 m d)) :=
    StableHlo.held_sub_split _ (Finset.singleton_subset_iff.2 hb) (V4 m d)
  have e1 : (StableHlo.held (d : Thread nD τ) {b} (V4 m d) : sProp 𝕄) = (((d : Dev nD), b) ↦{fullShare} V4 m d b) := bigSep_singleton
  rw [e, e1]
  iintro ⟨⟨Hi, -⟩, HSI⟩
  ihave H := (SI_pointsTo_agree (st := s') (ℓ := ((d : Dev nD), b)) (I := Finset.univ) (q := fullShare) (f := V4 m d b)) $$ [HSI Hi]
  · isplitl [HSI] <;> iassumption
  icases H with %h1
  ipureintro; exact funext fun i => h1 i (Finset.mem_univ i)

/-- What a final memory holds on device `d`: the arguments as at the launch, the result as computed. -/
def fq (d : Dev nD) (s' : Phys nD τ sig (Elt F)) : Prop :=
  (s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3))
  ∧ s'.mem.mem ((d : Thread nD τ).loc main_v5) = resOf m d

theorem hfin (d : Dev nD) (s' : Phys nD τ sig (Elt F)) : iprop(FIN m d ∗ SI s') ⊢ (⌜fq m d s'⌝ : sProp 𝕄) := by
  have h : ∀ b : DevRef τ sig, b ∈ ucRefs τ sig → (iprop(FIN m d ∗ SI s') ⊢ (⌜s'.mem.mem ((d : Dev nD), b) = V4 m d b⌝ : sProp 𝕄)) := held_reads m d s'
  have e0 := (h (rf main_arg0) (by decide)).trans (Idealize.SL.BI.pure_mono fun e => e.trans (V4_arg m d main_arg0 (by simp)))
  have e1 := (h (rf main_arg1) (by decide)).trans (Idealize.SL.BI.pure_mono fun e => e.trans (V4_arg m d main_arg1 (by simp)))
  have e2 := (h (rf main_arg2) (by decide)).trans (Idealize.SL.BI.pure_mono fun e => e.trans (V4_arg m d main_arg2 (by simp)))
  have e3 := (h (rf main_arg3) (by decide)).trans (Idealize.SL.BI.pure_mono fun e => e.trans (V4_arg m d main_arg3 (by simp)))
  have e5 := (h (rf main_v5) (by decide)).trans (Idealize.SL.BI.pure_mono fun e => e.trans (V4_res m d))
  exact both (both e0 (both e1 (both e2 e3))) e5

/-! ## The program's run -/

def QC : PUnit × MemSt nD τ sig (Elt F) → Prop := fun r =>
  (∀ c : Dev nD, (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.mem ((c.tc : Thread nD τ).loc main_v5) = resOf m c) ∧ r.2.sem = fun _ => 0

theorem run_main [∀ e, Nonempty (Elt F e)] (hix : ∀ d x, (ixOf m d x).toNat < 512) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (ttOf m) (ixOf m) (o0 m) (tl0 m) facts hix)
    (fun q _ => match q with | 0 => SparseCore.Cfg.VecSplit.of_plain (vecSplit (ttOf m) (ixOf m) (o0 m) (tl0 m)))
    m ρ main (fun d => ghost (F := F) d) (FIN m) (u₀ (F := F)) (sep_elim_left.trans (hu₀ m)) (hmain m ρ) (fq m) (hfin m) (QC m) (fun _ h hz => ⟨h, hz⟩)

end Cert.KernelIdeal.Pf

end
-- ==== Proof.KernelIdeal.Frame.lean ====
/- The frame of the kernel. -/
module

public import proofs.«01_k».proof.Defs
public import proofs.«01_k».proof.Proof.Range
public import proofs.«01_k».proof.Proof.KernelIdeal.Run
public import Idealize.ShloMosaic.Lib.Pointwise.SelectCore

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

/-- The index words of the padded array are in range when the coordinates are. -/
theorem ix_of_range {F : FTy → Type} (m : (ℓ : Loc nD τ sig) → Buf (Elt F) ℓ) (h : ∀ (d : Dev nD) (i : S4x100000.Idx), ((m (cLoc d) : S4x100000.Idx → BitVec 32) i).toNat < 512)
    (d : Dev nD) (x : S4x100096.Idx) : (ixOf m d x).toNat < 512 := by
  unfold ixOf
  refine concatenate_forall (P := fun v : BitVec 32 => v.toNat < 512) _ _ _ _ ?_ x
  intro p hp i
  rcases List.mem_cons.1 hp with rfl | hp
  · exact h d i
  · rcases List.mem_cons.1 hp with rfl | hp
    · show (0#32).toNat < 512; decide
    · exact absurd hp (by simp)

theorem ix_of_pre (m : (ℓ : Loc nD τ sig) → Buf (Elt Ideal) ℓ) (h : Cert.Pre_KernelIdeal m) : ∀ d x, (ixOf m d x).toNat < 512 :=
  ix_of_range m fun d i => Cert.RangePf.coords _ _ _ _ (h d) i

/-- The frame: the program's arguments end unchanged and its semaphores end at zero. -/
theorem frame : Cert.quiescent_KernelIdeal := fun m ρ hpre =>
  (θ_run Cert.KernelIdeal.defs _ _).mono (fun _ h => ⟨fun c => (h.1 c).1, h.2⟩) (run_main (F := Ideal) m ρ (ix_of_pre m hpre))

end Cert.KernelIdeal.Pf

end
-- ==== Proof.KernelIdeal.TableValue.lean ====
/- The table, entry by entry. -/
module

public import proofs.«01_k».proof.Proof.KernelIdeal.Region
public import proofs.«01_k».proof.Proof.Spec
public import Idealize.ShloMosaic.Lib.MatmulPlain
public import Idealize.ShloMosaic.Lib.ValueLayout
public import Idealize.ShloMosaic.Lib.Writes

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

open Idealize.ShloMosaic.TcCoe

section Floats

variable [FloatOps F]
variable (V : (c : Dev nD) → (b : Ref sig .tc) → Buf (Elt F) ((c : Thread nD τ).loc b))

theorem table_flushed (c : Dev nD) :
    ((cfg0.win (3 : Fin 4)).blk t0_0).view.read (Elt F) ((dat V c).arrAt (3 : Fin 4) cfg0.N) = (dat V c).flushed (3 : Fin 4) t0_0 := by
  rw [show cfg0.N = (t0_0 : Fin cfg0.N).val + 1 from rfl, (dat V c).arrAt_succ (3 : Fin 4) t0_0]
  rw [show (cfg0.win (3 : Fin 4)).flush t0_0 = true from by decide, if_pos rfl]
  exact View.read_write_univ _ _

theorem stg0_eq (c : Dev nD) : stg0 V c = V c main_arg0 :=
  Memref.read_access_unit_zero (Elt F) main_arg0 (funext fun a => by fin_cases a <;> decide) (fun a => by fin_cases a <;> decide) _
theorem stg1_eq (c : Dev nD) : stg1 V c = V c main_arg1 :=
  Memref.read_access_unit_zero (Elt F) main_arg1 (funext fun a => by fin_cases a <;> decide) (fun a => by fin_cases a <;> decide) _
theorem stg2_eq (c : Dev nD) : stg2 V c = V c main_arg2 :=
  Memref.read_access_unit_zero (Elt F) main_arg2 (funext fun a => by fin_cases a <;> decide) (fun a => by fin_cases a <;> decide) _

/-- What the body leaves in the table's buffer. -/
def left (c : Dev nD) : S256x2048.Idx → F .f32 := (bodyRun V c).1

theorem cut_left (c : Dev nD) : (dat V c).flushed (3 : Fin 4) t0_0 = left V c := by
  have e : (dat V c).after (3 : Fin 4) t0_0 = left V c := by
    dsimp only [dat]
    unfold left
    generalize bodyRun V c = X; rfl
  have k : ∀ X : (cfg0.win (3 : Fin 4)).block.Idx → Elt F (cfg0.win (3 : Fin 4)).elt, (cfg0.win (3 : Fin 4)).cut (cfg0.grid.coords t0_0) X = X := fun X => rfl
  exact (congrArg _ e).trans (k _)

theorem table_eq (c : Dev nD) : (table V c : S256x2048.Idx → F .f32) = left V c := by
  have ho := table_flushed V c
  have hr := fun f => Memref.read_access_unit_zero (Elt F) main_v0
    (show (fun a => (win0_3.index t0_0) a * main_v0.ty.shape.size a) = fun _ => 0 from funext fun a => by fin_cases a <;> decide) (fun a => by fin_cases a <;> decide) f
  rw [hr] at ho
  exact ho.trans (cut_left V c)

/-- The column of the table that coordinate `k` of block `b` is. -/
def tcol (b : Fin 4) (k : Fin 512) : Fin 2048 := ⟨512 * b.val + k.val, by omega⟩

theorem left_read (c : Dev nD) (y : S256x2048.Idx) : left V c y = (View.whole cc0_stg3_0).read (Elt F) ((View.whole cc0_stg3_0).writes (Elt F) (View.whole cc0_stg3_0).junk
    (logitsRun.sl.H3_4 c (stage0_0 0) (stage0_1 0) (stage0_2 0) (stg0 V c) (stg1 V c) (stg2 V c))) y := by
  unfold left bodyRun logitsRun
  dsimp only
  generalize (View.whole cc0_stg3_0).writes (Elt F) (View.whole cc0_stg3_0).junk
    (logitsRun.sl.H3_4 c (stage0_0 0) (stage0_1 0) (stage0_2 0) (stg0 V c) (stg1 V c) (stg2 V c)) = X
  rfl

theorem load0 (X : S256x512.Idx → F .f32) (o : ℕ) (inb : ∀ a, (![0, o] : Fin 2 → ℕ) a + S256x128.size a ≤ S256x512.size a) (n : Fin 256) (f : Fin 128) :
    View.readAt (Elt F) (stage0_0 0).view (Rect.unit (s := S256x512) ![0, o] S256x128.size inb).toLoadRect X (ix2 n f)
      = X (ix2 n ⟨o + f.val, by have := inb 1; have h : o + 128 ≤ 512 := this; omega⟩) := by
  refine congrArg X (funext fun a => ?_)
  match a with
  | ⟨0, _⟩ => exact Fin.ext (by show 0 + 1 * n.val = n.val; omega)
  | ⟨1, _⟩ => exact Fin.ext (by show o + 1 * f.val = o + f.val; omega)

theorem load1 (X : S4x512x128.Idx → F .f32) (b : ℕ) (inb : ∀ a, (![b, 0, 0] : Fin 3 → ℕ) a + S1x512x128.size a ≤ S4x512x128.size a) (k : Fin 512) (f : Fin 128) :
    View.readAt (Elt F) (stage0_1 0).view (Rect.unit (s := S4x512x128) ![b, 0, 0] S1x512x128.size inb).toLoadRect X (ix3 0 k f)
      = X (ix3 ⟨b, by have := inb 0; have h : b + 1 ≤ 4 := this; omega⟩ k f) := by
  refine congrArg X (funext fun a => ?_)
  match a with
  | ⟨0, _⟩ => exact Fin.ext (by show b + 1 * 0 = b; omega)
  | ⟨1, _⟩ => exact Fin.ext (by show 0 + 1 * k.val = k.val; omega)
  | ⟨2, _⟩ => exact Fin.ext (by show 0 + 1 * f.val = f.val; omega)

theorem load2 (X : S4x512.Idx → F .f32) (b : ℕ) (inb : ∀ a, (![b, 0] : Fin 2 → ℕ) a + S1x512.size a ≤ S4x512.size a) (k : Fin 512) :
    View.readAt (Elt F) (stage0_2 0).view (Rect.unit (s := S4x512) ![b, 0] S1x512.size inb).toLoadRect X (ix2 0 k)
      = X (ix2 ⟨b, by have := inb 0; have h : b + 1 ≤ 4 := this; omega⟩ k) := by
  refine congrArg X (funext fun a => ?_)
  match a with
  | ⟨0, _⟩ => exact Fin.ext (by show b + 1 * 0 = b; omega)
  | ⟨1, _⟩ => exact Fin.ext (by show 0 + 1 * k.val = k.val; omega)

end Floats

/-! ## Over the ideal values -/

/-- One block of the table's columns, from the block's features, weights and bias. -/
theorem pay_at (x : Vec Ideal S256x128 .f32) (w : Vec Ideal S1x512x128 .f32) (v : Vec Ideal S1x512 .f32) (n : Fin 256) (k : Fin 512) :
    k0_pay1 x w v (ix2 n k) = (∑ f : Fin 128, x (ix2 n f) * w (ix3 0 k f)) + v (ix2 0 k) := by
  unfold k0_pay1
  rw [show ∀ (p q : FVec Ideal S256x512 .f32) i, addf p q i = (p i + q i : EReal) from fun _ _ _ => rfl]
  congr 1
  · refine (Ideal.matmul_transposedRhs_apply none x _ _ n k).trans ?_
    rw [show (constant (F := Ideal) S256x512 .f32 0x00000000#32 (ix2 n k)) = (0 : EReal) from by simp [constant], zero_add]
    refine Finset.sum_congr rfl fun f _ => ?_
    rw [shapeCast_1ab_ab_apply]
  · rw [shapeCast_shapeCast]
    unfold broadcastTo
    congr 1
    funext a
    match a with
    | ⟨0, _⟩ => rfl
    | ⟨1, _⟩ => rfl

theorem pay_tab (X : S256x512.Idx → EReal) (W : S4x512x128.Idx → EReal) (B : S4x512.Idx → EReal)
    (x : Vec Ideal S256x128 .f32) (w : Vec Ideal S1x512x128 .f32) (v : Vec Ideal S1x512 .f32) (b : Fin 4)
    (hx : ∀ n f, x (ix2 n f) = X (ix2 n (Spec.feat b f))) (hw : ∀ k f, w (ix3 0 k f) = W (ix3 b k f)) (hv : ∀ k, v (ix2 0 k) = B (ix2 b k))
    (n : Fin 256) (k : Fin 512) : k0_pay1 x w v (ix2 n k) = Spec.tab X W B n b k := by
  rw [pay_at, hv]
  unfold Spec.tab
  congr 1
  exact Finset.sum_congr rfl fun f _ => by rw [hx, hw]

variable (V : (c : Dev nD) → (b : Ref sig .tc) → Buf (Elt Ideal) ((c : Thread nD τ).loc b))

/-- The table's entries. -/
theorem table_at (c : Dev nD) (n : Fin 256) (b : Fin 4) (k : Fin 512) :
    (table V c : S256x2048.Idx → EReal) (ix2 n (tcol b k))
      = Spec.tab (V c main_arg0 : S256x512.Idx → EReal) (V c main_arg1 : S4x512x128.Idx → EReal) (V c main_arg2 : S4x512.Idx → EReal) n b k := by
  rw [congrFun (table_eq V c) _, left_read]
  unfold logitsRun.sl.H3_4
  rw [stg0_eq, stg1_eq, stg2_eq]
  have hk := k.isLt
  match b with
  | ⟨3, _⟩ =>
    rw [View.read_writes_cons_hit_of_coords _ _ _ _ _ (ix2 n k) _ (fun a => match a with | ⟨0, _⟩ => (by show n.val = 0 + 1 * n.val; omega) | ⟨1, _⟩ => (by show 512 * 3 + k.val = 1536 + 1 * k.val; omega))]
    exact pay_tab _ _ _ _ _ _ 3 (fun n f => load0 _ 384 _ n f) (fun k f => load1 _ 3 _ k f) (fun k => load2 _ 3 _ k) n k
  | ⟨2, _⟩ =>
    rw [View.read_writes_cons_miss_of_axis _ _ _ _ _ 1 1536 512 rfl rfl rfl (by left; show 512 * 2 + k.val < 1536; omega),
      View.read_writes_cons_hit_of_coords _ _ _ _ _ (ix2 n k) _ (fun a => match a with | ⟨0, _⟩ => (by show n.val = 0 + 1 * n.val; omega) | ⟨1, _⟩ => (by show 512 * 2 + k.val = 1024 + 1 * k.val; omega))]
    exact pay_tab _ _ _ _ _ _ 2 (fun n f => load0 _ 256 _ n f) (fun k f => load1 _ 2 _ k f) (fun k => load2 _ 2 _ k) n k
  | ⟨1, _⟩ =>
    rw [View.read_writes_cons_miss_of_axis _ _ _ _ _ 1 1536 512 rfl rfl rfl (by left; show 512 * 1 + k.val < 1536; omega),
      View.read_writes_cons_miss_of_axis _ _ _ _ _ 1 1024 512 rfl rfl rfl (by left; show 512 * 1 + k.val < 1024; omega),
      View.read_writes_cons_hit_of_coords _ _ _ _ _ (ix2 n k) _ (fun a => match a with | ⟨0, _⟩ => (by show n.val = 0 + 1 * n.val; omega) | ⟨1, _⟩ => (by show 512 * 1 + k.val = 512 + 1 * k.val; omega))]
    exact pay_tab _ _ _ _ _ _ 1 (fun n f => load0 _ 128 _ n f) (fun k f => load1 _ 1 _ k f) (fun k => load2 _ 1 _ k) n k
  | ⟨0, _⟩ =>
    rw [View.read_writes_cons_miss_of_axis _ _ _ _ _ 1 1536 512 rfl rfl rfl (by left; show 512 * 0 + k.val < 1536; omega),
      View.read_writes_cons_miss_of_axis _ _ _ _ _ 1 1024 512 rfl rfl rfl (by left; show 512 * 0 + k.val < 1024; omega),
      View.read_writes_cons_miss_of_axis _ _ _ _ _ 1 512 512 rfl rfl rfl (by left; show 512 * 0 + k.val < 512; omega),
      View.read_writes_cons_hit_of_coords _ _ _ _ _ (ix2 n k) _ (fun a => match a with | ⟨0, _⟩ => (by show n.val = 0 + 1 * n.val; omega) | ⟨1, _⟩ => (by show 512 * 0 + k.val = 0 + 1 * k.val; omega))]
    exact pay_tab _ _ _ _ _ _ 0 (fun n f => load0 _ 0 _ n f) (fun k f => load1 _ 0 _ k f) (fun k => load2 _ 0 _ k) n k

end Cert.KernelIdeal.Pf

end
-- ==== Proof.KernelIdeal.Tail.lean ====
/- Columns laid over an array, entry by entry. -/
module

public import proofs.«01_k».proof.Proof.KernelIdeal.Setup
public import Idealize.ShloMosaic.Lib.Pointwise.ShapeOpsCore

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

/-- An array whose last 1696 columns are laid over it, entry by entry. -/
theorem upd_at {α : Type} (x : S256x100000.Idx → α) (u : S256x1696.Idx → α) (st : Fin 2 → ℤ) (h : S256x100000.Slices (fun _ => 0) S256x1696)
    (h0 : st 0 = 0) (h1 : st 1 = 98304) (n : Fin 256) (j : Fin 100000) :
    Host.dynamicUpdateSlice x u st h (ValueIdx.ix2 n j)
      = if hj : 98304 ≤ j.val then u (ValueIdx.ix2 n (⟨j.val - 98304, by omega⟩ : Fin 1696)) else x (ValueIdx.ix2 n j) := by
  have hlt := j.isLt
  have hn := n.isLt
  have c0 : Host.clampedStart S256x100000 S256x1696 h.1 st 0 = 0 := by
    unfold Host.clampedStart
    rw [h0]
    rfl
  have c1 : Host.clampedStart S256x100000 S256x1696 h.1 st 1 = 98304 := by
    unfold Host.clampedStart
    rw [h1]
    rfl
  rw [Host.dynamicUpdateSlice_apply]
  by_cases hj : 98304 ≤ j.val
  · have hin : ∀ a : Fin S256x100000.rank, Host.clampedStart S256x100000 S256x1696 h.1 st a ≤ ((ValueIdx.ix2 n j : S256x100000.Idx) a).val
        ∧ ((ValueIdx.ix2 n j : S256x100000.Idx) a).val < Host.clampedStart S256x100000 S256x1696 h.1 st a + S256x1696.size (a.cast h.1.symm) := fun a => match a with
      | ⟨0, _⟩ => ⟨c0.le.trans (Nat.zero_le _), lt_of_lt_of_le hn (by show 256 ≤ Host.clampedStart S256x100000 S256x1696 h.1 st 0 + 256; rw [c0])⟩
      | ⟨1, _⟩ => ⟨c1.le.trans hj, lt_of_lt_of_le hlt (by show 100000 ≤ Host.clampedStart S256x100000 S256x1696 h.1 st 1 + 1696; rw [c1])⟩
    rw [dif_pos hj, dif_pos hin]
    refine congrArg u (funext fun a => ?_)
    match a with
    | ⟨0, _⟩ => exact Fin.ext (by show n.val - Host.clampedStart S256x100000 S256x1696 h.1 st 0 = n.val; rw [c0, Nat.sub_zero])
    | ⟨1, _⟩ => exact Fin.ext (by show j.val - Host.clampedStart S256x100000 S256x1696 h.1 st 1 = j.val - 98304; rw [c1])
  · rw [dif_neg hj, dif_neg]
    intro hin
    exact hj (c1.symm.le.trans (hin 1).1)

end Cert.KernelIdeal.Pf

end
-- ==== Proof.KernelIdeal.Value.lean ====
/- The kernel's result, entry by entry. -/
module

public import proofs.«01_k».proof.Proof.KernelIdeal.TableValue
public import proofs.«01_k».proof.Proof.KernelIdeal.Vals
public import proofs.«01_k».proof.Proof.KernelIdeal.Tail
public import Idealize.ShloMosaic.Lib.Pipeline.Value

@[expose] public section

noncomputable section

namespace Cert.KernelIdeal.Pf

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig (HIx 1) (Elt F) ℕ UU ℕ

/-- The sum a tile forms is the specification's. -/
theorem dec_val (T : Fin 2048 → Ideal .f32) (G : Fin 4 → Fin 512 → EReal) (hT : ∀ b k, (T (tcol b k) : EReal) = G b k) (w : Fin 4 → BitVec 32)
    (hw : ∀ b, (w b).toNat < 512) : (dec T w : EReal) = ∑ b, G b ⟨(w b).toNat, hw b⟩ := by
  have e : ∀ b : Fin 4, col (w b) b.val = tcol b ⟨(w b).toNat, hw b⟩ := fun b => Fin.ext (by
    rw [col_val (hw b) b.isLt]; show _ = 512 * b.val + (w b).toNat; omega)
  have e0 := e 0
  have e1 := e 1
  have e2 := e 2
  have e3 := e 3
  rw [Fin.sum_univ_four, ← hT, ← hT, ← hT, ← hT, ← e0, ← e1, ← e2, ← e3]
  rfl

variable (m : (ℓ : Loc nD τ sig) → Buf (Elt Ideal) ℓ)

/-- The index word of a coordinate that the caller gave. -/
theorem ix_at (d : Dev nD) (b : Fin 4) (j : Fin 100000) (h : j.val < 100096) :
    ixOf m d (ValueIdx.ix2 b (⟨j.val, h⟩ : Fin 100096)) = (m (cLoc d) : S4x100000.Idx → BitVec 32) (ValueIdx.ix2 b j) := by
  unfold ixOf
  refine concatenate_pair_apply_left (t := S4x100096) (s₁ := S4x100000) (s₂ := S4x96) 1 (m (cLoc d) : S4x100000.Idx → BitVec 32) _ _ _ rfl (ValueIdx.ix2 b j) fun a => ?_
  match a with
  | ⟨0, _⟩ => rfl
  | ⟨1, _⟩ => rfl

variable (hix : ∀ (d : Dev nD) (i : S4x100000.Idx), ((m (cLoc d) : S4x100000.Idx → BitVec 32) i).toNat < 512)

/-- What the specification gives at row `n` and column `j`. -/
def want (d : Dev nD) (n : Fin 256) (j : Fin 100000) : EReal :=
  Spec.val (m (xLoc d) : S256x512.Idx → EReal) (m (wLoc d) : S4x512x128.Idx → EReal) (m (bLoc d) : S4x512.Idx → EReal) n
    fun b => ⟨((m (cLoc d) : S4x100000.Idx → BitVec 32) (ValueIdx.ix2 b j)).toNat, hix d _⟩

theorem tt_at (d : Dev nD) (n : Fin 256) (b : Fin 4) (k : Fin 512) :
    (ttOf m d : S256x2048.Idx → EReal) (ValueIdx.ix2 n (tcol b k))
      = Spec.tab (m (xLoc d) : S256x512.Idx → EReal) (m (wLoc d) : S4x512x128.Idx → EReal) (m (bLoc d) : S4x512.Idx → EReal) n b k :=
  table_at _ d n b k

/-- The sum at a row and at the index words of a column. -/
theorem dec_at (d : Dev nD) (n : Fin 256) (j : Fin 100000) (w : Fin 4 → BitVec 32) (h : ∀ b, w b = (m (cLoc d) : S4x100000.Idx → BitVec 32) (ValueIdx.ix2 b j)) :
    (dec (fun k => ttOf m d (ValueIdx.ix2 n k)) w : EReal) = want m hix d n j := by
  obtain rfl : w = fun b => (m (cLoc d) : S4x100000.Idx → BitVec 32) (ValueIdx.ix2 b j) := funext h
  exact dec_val _ _ (fun b k => tt_at m d n b k) _ fun b => hix d _

/-- The first 1696 of the last 1792 columns. -/
theorem slice_at {α : Type} (x : S256x1792.Idx → α) (n : Fin 256) (i : Fin 1696) :
    extractStridedSlice S256x1696 ![0, 0] x slices_S256x1792_S256x1696_0_0 (ValueIdx.ix2 n i) = x (ValueIdx.ix2 n (⟨i.val, by omega⟩ : Fin 1792)) := by
  refine congrArg x (funext fun a => ?_)
  match a with
  | ⟨0, _⟩ => exact Fin.ext (by show 0 + n.val = n.val; omega)
  | ⟨1, _⟩ => exact Fin.ext (by show 0 + i.val = i.val; omega)

theorem resT_at (tt : S256x2048.Idx → Ideal .f32) (ix : S4x100096.Idx → BitVec 32) (n : Fin 256) (i : Fin 1792) :
    resT tt ix (ValueIdx.ix2 n i) = dec (fun k => tt (ValueIdx.ix2 n k)) (fun b => ix (ValueIdx.ix2 b (⟨98304 + i.val, by omega⟩ : Fin 100096))) := rfl

theorem st0 : (![0#32, 98304#32] (0 : Fin 2)).toInt = 0 := rfl
theorem st1 : (![0#32, 98304#32] (1 : Fin 2)).toInt = 98304 := by rw [Matrix.cons_val_one, Matrix.cons_val_zero]; decide

/-- The kernel's result, entry by entry. -/
theorem res_at (d : Dev nD) (n : Fin 256) (j : Fin 100000) : (resOf m d (ValueIdx.ix2 n j) : EReal) = want m hix d n j := by
  have hj := j.isLt
  unfold resOf
  rw [upd_at _ _ _ _ st0 st1 n j]
  by_cases h : 98304 ≤ j.val
  · rw [dif_pos h, slice_at]
    unfold resTd
    rw [resT_at]
    refine dec_at m hix d n j _ fun b => ?_
    refine Eq.trans (congrArg (ixOf m d) (funext fun a => ?_)) (ix_at m d b j (by omega))
    match a with
    | ⟨0, _⟩ => rfl
    | ⟨1, _⟩ => exact Fin.ext (by show 98304 + (j.val - 98304) = j.val; omega)
  · rw [dif_neg h]
    unfold outAfter
    rw [if_pos (show ((ValueIdx.ix2 n j : S256x100000.Idx) 1).val < 98304 by show j.val < 98304; omega)]
    exact dec_at m hix d n j _ fun b => ix_at m d b j _

end Cert.KernelIdeal.Pf

end
-- ==== Proof.lean ====
/-
  The certificate of a kernel that decodes, for each of 100000 candidates, four coordinates into four columns of a table
  of logits and adds them up.

  The program has two parts. A TensorCore kernel forms the table: 256 rows of four blocks of 512 logits, each block the
  product of 128 features with that block's weights, plus its bias. A SparseCore kernel on two cores of sixteen vector
  subcores each then reads, for every candidate, the four logits its coordinates name, adds them, and writes the sums.
  Each subcore holds sixteen rows of the table and writes the columns of its core's chunks; the last columns go to a
  separate array, which the host lays over the result at the end.

  What is proved.
  * The kernel runs to its end without a fault, its arguments unchanged and its semaphores at zero, as the machine
    computes (`Cert.Kernel.Pf.frame`) and over the ideal values (`Cert.KernelIdeal.Pf.frame`), whenever every coordinate
    lies in [0, 512).
  * The reference does (`Cert.RefPf.frame`).
  * The ideal program is the kernel's sanctioned idealization (no site is rewritten).
  * Over the ideal values the kernel's result is the reference's (`algebraic` below): both are, at row `n` and column
    `j`, the sum over the four blocks of the table's entry that coordinate `j` of the block names (`Cert.Spec.val`).

  Where the parts are. `Proof/Kernel/` follows the program at any float values: the vector subcore's group of sixteen
  columns (`Trip`, `TripLast`, `Groups`, `GroupsLast`), the chunk and its copies (`Chunk`, `Tile`), the launch and what it
  gives to each subcore (`Parts`, `Own`, `Shares`, `Launch`), the TensorCore's region (`Body`, `Region`), the whole
  program (`Main`, `RunTC`, `Run`). `Proof/KernelIdeal/` is the same for the ideal program, and reads its values off:
  `TableValue` the table's entries, `Value` the result's. `Proof/RefValue.lean` reads the reference's.
-/
module

public import proofs.«01_k».proof.Defs
public import proofs.«01_k».proof.Proof.Spec
public import proofs.«01_k».proof.Proof.RefRun
public import proofs.«01_k».proof.Proof.Kernel.Frame
public import proofs.«01_k».proof.Proof.KernelIdeal.Frame
public import proofs.«01_k».proof.Proof.KernelIdeal.Value
public import proofs.«01_k».proof.Proof.Gen.Kernel
public import proofs.«01_k».proof.Proof.Gen.KernelIdeal
public import proofs.«01_k».proof.Proof.Gen.ReferenceIdeal
public import proofs.«01_k».proof.Proof.Gen.Pre_in_range

@[expose] public section

noncomputable section

namespace Cert.Proof

open Idealize.ShloMosaic Idealize.SL.Sem

/-- The kernel's result is the reference's, over the ideal values. -/
theorem same (m : (ℓ : Loc Cert.KernelIdeal.nD Cert.KernelIdeal.τ Cert.KernelIdeal.sig) → Buf (Elt Ideal) ℓ)
    (hix : ∀ (d : Dev Cert.KernelIdeal.nD) (i : Cert.KernelIdeal.S4x100000.Idx),
      ((m (Cert.KernelIdeal.Pf.cLoc d) : Cert.KernelIdeal.S4x100000.Idx → BitVec 32) i).toNat < 512) (d : Dev Cert.KernelIdeal.nD) :
    Cert.RefPf.out (m (Cert.KernelIdeal.Pf.xLoc d)) (m (Cert.KernelIdeal.Pf.wLoc d)) (m (Cert.KernelIdeal.Pf.bLoc d)) (m (Cert.KernelIdeal.Pf.cLoc d))
      = Cert.KernelIdeal.Pf.resOf m d := by
  funext x
  have ex : x = ValueIdx.ix2 (x 0) (x 1) := funext fun a => match a with
    | ⟨0, _⟩ => rfl
    | ⟨1, _⟩ => rfl
  rw [ex]
  exact (Cert.RefPf.out_at _ _ _ _ (hix d) (x 0) (x 1)).trans (Cert.KernelIdeal.Pf.res_at m hix d (x 0) (x 1)).symm

theorem algebraic : Cert.algebraic_KernelIdeal_ReferenceIdeal := by
  intro m g m' g' hpre harg
  have hix : ∀ (d : Dev Cert.KernelIdeal.nD) (i : Cert.KernelIdeal.S4x100000.Idx),
      ((m (Cert.KernelIdeal.Pf.cLoc d) : Cert.KernelIdeal.S4x100000.Idx → BitVec 32) i).toNat < 512 :=
    fun d i => Cert.RangePf.coords _ _ _ _ (hpre d) i
  refine ⟨fun c => Cert.KernelIdeal.Pf.resOf m c, ?_, ?_⟩
  · exact (θ_run (Cert.KernelIdeal.defs (F := Ideal)) _ _).mono (fun _ h c => ⟨(h.1 c).2, (h.1 c).1⟩)
      (Cert.KernelIdeal.Pf.run_main (F := Ideal) m g (Cert.KernelIdeal.Pf.ix_of_range m hix))
  · refine (θ_run (Cert.ReferenceIdeal.defs (F := Ideal)) _ _).mono (fun _ h c => ⟨(h c).1.trans ?_, (h c).2⟩) (Cert.RefPf.run_main m' g')
    obtain ⟨h0, h1, h2, h3⟩ := harg c
    rw [h0, h1, h2, h3]
    exact same m hix c

theorem claim : Cert.Claim := ⟨Cert.Kernel.Gen.facts, Cert.KernelIdeal.Gen.facts, Cert.ReferenceIdeal.Gen.facts, Cert.Pre_in_range.Gen.facts,
  Cert.Kernel.Pf.frame, Cert.KernelIdeal.Pf.frame, Cert.RefPf.frame, Cert.RefPf.frame_in_range, trivial, algebraic⟩

end Cert.Proof

end
